-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S320x2048 : Shape := ⟨2, ![320, 2048]⟩
abbrev S384x2048 : Shape := ⟨2, ![384, 2048]⟩
abbrev S160x2048 : Shape := ⟨2, ![160, 2048]⟩
abbrev S192x2048 : Shape := ⟨2, ![192, 2048]⟩
abbrev S80x2048 : Shape := ⟨2, ![80, 2048]⟩
abbrev S96x2048 : Shape := ⟨2, ![96, 2048]⟩
abbrev S3x6x2 : Shape := ⟨3, ![3, 6, 2]⟩
abbrev S_ : Shape := ⟨0, ![]⟩
abbrev S640x1024 : Shape := ⟨2, ![640, 1024]⟩
abbrev S640x2048 : Shape := ⟨2, ![640, 2048]⟩
abbrev S1x1x1 : Shape := ⟨3, ![1, 1, 1]⟩
abbrev S320x1024 : Shape := ⟨2, ![320, 1024]⟩
abbrev S768x1024 : Shape := ⟨2, ![768, 1024]⟩
abbrev S768x2048 : Shape := ⟨2, ![768, 2048]⟩
abbrev S384x1024 : Shape := ⟨2, ![384, 1024]⟩
abbrev S160x1024 : Shape := ⟨2, ![160, 1024]⟩
abbrev S192x1024 : Shape := ⟨2, ![192, 1024]⟩
abbrev S80x1024 : Shape := ⟨2, ![80, 1024]⟩
abbrev S96x1024 : Shape := ⟨2, ![96, 1024]⟩

abbrev nBuf : Space → Nat
  | .hbm => 3
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x1024, .bf16⟩
  | .local _ .vmem, ⟨5, _⟩ => ⟨S1024x2048, .bf16⟩
  | .local _ .vmem, ⟨6, _⟩ => ⟨S320x2048, .bf16⟩
  | .local _ .vmem, ⟨7, _⟩ => ⟨S320x2048, .bf16⟩
  | .local _ .vmem, ⟨8, _⟩ => ⟨S384x2048, .bf16⟩
  | .local _ .vmem, ⟨9, _⟩ => ⟨S160x2048, .bf16⟩
  | .local _ .vmem, ⟨10, _⟩ => ⟨S160x2048, .bf16⟩
  | .local _ .vmem, ⟨11, _⟩ => ⟨S192x2048, .bf16⟩
  | .local _ .vmem, ⟨12, _⟩ => ⟨S80x2048, .bf16⟩
  | .local _ .vmem, ⟨13, _⟩ => ⟨S80x2048, .bf16⟩
  | .local _ .vmem, ⟨14, _⟩ => ⟨S96x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v7 : BitVec 32 := Scalar.xori v5 c1_i32_2
  let c1_i32_3 : BitVec 32 := 1#32
  let v8 : BitVec 32 := Scalar.shrsi v7 c1_i32_3
  let c1_i32_4 : BitVec 32 := 1#32
  let v9 : BitVec 32 := Scalar.andi v8 c1_i32_4
  let v10 : BitVec 32 := Scalar.xori v7 v9
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v13 : BitVec 32 := Scalar.xori v5 c2_i32
  let c1_i32_7 : BitVec 32 := 1#32
  let v14 : BitVec 32 := Scalar.shrsi v13 c1_i32_7
  let c1_i32_8 : BitVec 32 := 1#32
  let v15 : BitVec 32 := Scalar.andi v14 c1_i32_8
  let v16 : BitVec 32 := Scalar.xori v13 v15
  let c1_i32_10 : BitVec 32 := 1#32
  let v17 : BitVec 32 := Scalar.muli v16 c1_i32_10
  let v18 : BitVec 32 := Scalar.addi c0_i32_11 v17
  v18.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_15 : BitVec 32 := 1#32
  let v23 : BitVec 32 := Scalar.muli v22 c1_i32_15
  let v24 : BitVec 32 := Scalar.addi c0_i32_16 v23
  v24.toNat
def k0_off1 (d0 : Dev nD) (c0_i32_33 : BitVec 32) (c1_i32_30 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c320_i32 : BitVec 32 := 320#32
  let c0_i32_32 : BitVec 32 := 0#32
  let v44 : BitVec 32 := Scalar.select v43 c320_i32 c0_i32_32
  let v45 : BitVec 32 := Scalar.addi c0_i32_33 v44
  let c0_i32_50 : BitVec 32 := 0#32
  ![v45.toNat, 0]
def k0_off1_at (r : Fin 2) : BitVec 32 × BitVec 32 :=
  if r.val < 1 then
    (0#32, 1#32)
  else
    (640#32, 2#32)
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_37 : BitVec 32 := 1#32
  let v48 : BitVec 32 := Scalar.xori v5 c1_i32_37
  let c1_i32_38 : BitVec 32 := 1#32
  let v49 : BitVec 32 := Scalar.shrsi v48 c1_i32_38
  let c1_i32_39 : BitVec 32 := 1#32
  let v50 : BitVec 32 := Scalar.andi v49 c1_i32_39
  let v51 : BitVec 32 := Scalar.xori v48 v50
  let c1_i32_46 : BitVec 32 := 1#32
  let v52 : BitVec 32 := Scalar.muli v51 c1_i32_46
  let v53 : BitVec 32 := Scalar.addi c0_i32_47 v52
  v53.toNat
def k0_off2 (d0 : Dev nD) (c0_i32_33 : BitVec 32) (c1_i32_30 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c320_i32 : BitVec 32 := 320#32
  let c0_i32_32 : BitVec 32 := 0#32
  let v44 : BitVec 32 := Scalar.select v43 c320_i32 c0_i32_32
  let v45 : BitVec 32 := Scalar.addi c0_i32_33 v44
  let c1024_i32_63 : BitVec 32 := 1024#32
  ![v45.toNat, 1024]
def k0_off2_at (r : Fin 2) : BitVec 32 × BitVec 32 :=
  if r.val < 1 then
    (0#32, 1#32)
  else
    (640#32, 2#32)
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_51 : BitVec 32 := 1#32
  let v60 : BitVec 32 := Scalar.xori v5 c1_i32_51
  let c1_i32_52 : BitVec 32 := 1#32
  let v61 : BitVec 32 := Scalar.shrsi v60 c1_i32_52
  let c1_i32_53 : BitVec 32 := 1#32
  let v62 : BitVec 32 := Scalar.andi v61 c1_i32_53
  let v63 : BitVec 32 := Scalar.xori v60 v62
  let c1_i32_60 : BitVec 32 := 1#32
  let v64 : BitVec 32 := Scalar.muli v63 c1_i32_60
  let v65 : BitVec 32 := Scalar.addi c0_i32_61 v64
  v65.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_81 : BitVec 32 := 2#32
  let v90 : BitVec 32 := Scalar.xori v5 c2_i32_81
  let c1_i32_82 : BitVec 32 := 1#32
  let v91 : BitVec 32 := Scalar.shrsi v90 c1_i32_82
  let c1_i32_83 : BitVec 32 := 1#32
  let v92 : BitVec 32 := Scalar.andi v91 c1_i32_83
  let v93 : BitVec 32 := Scalar.xori v90 v92
  let c1_i32_90 : BitVec 32 := 1#32
  let v94 : BitVec 32 := Scalar.muli v93 c1_i32_90
  let v95 : BitVec 32 := Scalar.addi c0_i32_91 v94
  v95.toNat
def k0_dev7 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_95 : BitVec 32 := 2#32
  let v102 : BitVec 32 := Scalar.xori v5 c2_i32_95
  let c1_i32_96 : BitVec 32 := 1#32
  let v103 : BitVec 32 := Scalar.shrsi v102 c1_i32_96
  let c1_i32_97 : BitVec 32 := 1#32
  let v104 : BitVec 32 := Scalar.andi v103 c1_i32_97
  let v105 : BitVec 32 := Scalar.xori v102 v104
  let c1_i32_104 : BitVec 32 := 1#32
  let v106 : BitVec 32 := Scalar.muli v105 c1_i32_104
  let v107 : BitVec 32 := Scalar.addi c0_i32_105 v106
  v107.toNat
def k0_off3 (d0 : Dev nD) : Fin 2 → Nat :=
  let c1280_i32 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c384_i32 : BitVec 32 := 384#32
  let c0_i32_121 : BitVec 32 := 0#32
  let v128 : BitVec 32 := Scalar.select v127 c384_i32 c0_i32_121
  let v129 : BitVec 32 := Scalar.addi c1280_i32 v128
  let c0_i32_138 : BitVec 32 := 0#32
  ![v129.toNat, 0]
def k0_dev8 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_125 : BitVec 32 := 4#32
  let v132 : BitVec 32 := Scalar.xori v5 c4_i32_125
  let c1_i32_126 : BitVec 32 := 1#32
  let v133 : BitVec 32 := Scalar.shrsi v132 c1_i32_126
  let c1_i32_127 : BitVec 32 := 1#32
  let v134 : BitVec 32 := Scalar.andi v133 c1_i32_127
  let v135 : BitVec 32 := Scalar.xori v132 v134
  let c1_i32_134 : BitVec 32 := 1#32
  let v136 : BitVec 32 := Scalar.muli v135 c1_i32_134
  let v137 : BitVec 32 := Scalar.addi c0_i32_135 v136
  v137.toNat
def k0_off4 (d0 : Dev nD) : Fin 2 → Nat :=
  let c1280_i32 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c384_i32 : BitVec 32 := 384#32
  let c0_i32_121 : BitVec 32 := 0#32
  let v128 : BitVec 32 := Scalar.select v127 c384_i32 c0_i32_121
  let v129 : BitVec 32 := Scalar.addi c1280_i32 v128
  let c1024_i32_152 : BitVec 32 := 1024#32
  ![v129.toNat, 1024]
def k0_dev9 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_139 : BitVec 32 := 4#32
  let v144 : BitVec 32 := Scalar.xori v5 c4_i32_139
  let c1_i32_140 : BitVec 32 := 1#32
  let v145 : BitVec 32 := Scalar.shrsi v144 c1_i32_140
  let c1_i32_141 : BitVec 32 := 1#32
  let v146 : BitVec 32 := Scalar.andi v145 c1_i32_141
  let v147 : BitVec 32 := Scalar.xori v144 v146
  let c1_i32_148 : BitVec 32 := 1#32
  let v148 : BitVec 32 := Scalar.muli v147 c1_i32_148
  let v149 : BitVec 32 := Scalar.addi c0_i32_149 v148
  v149.toNat
def k0_off5 (d0 : Dev nD) (c0_i32_36 : BitVec 32) (c1_i32_30 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v166 : Index := Scalar.indexCast v47
  let c0_174 : Index := 0#32
  ![v166.toNat, 0]
def k0_off5_at (r : Fin 2) : BitVec 32 × BitVec 32 :=
  if r.val < 1 then
    (0#32, 1#32)
  else
    (640#32, 2#32)
def k0_off6 (d0 : Dev nD) (c0_i32_36 : BitVec 32) (c1_i32_30 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v184 : Index := Scalar.indexCast v47
  let c1024 : Index := 1024#32
  ![v184.toNat, 1024]
def k0_off6_at (r : Fin 2) : BitVec 32 × BitVec 32 :=
  if r.val < 1 then
    (0#32, 1#32)
  else
    (640#32, 2#32)
def k0_off7 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let v238 : Index := Scalar.indexCast v131
  let c0_273 : Index := 0#32
  ![v238.toNat, 0]
def k0_off8 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let v256 : Index := Scalar.indexCast v131
  let c1024_298 : Index := 1024#32
  ![v256.toNat, 1024]
def k0_off9 (d0 : Dev nD) (c0_i32_36 : BitVec 32) (c1_i32_30 : BitVec 32) (c2_i32_302 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c160_i32 : BitVec 32 := 160#32
  let c0_i32_304 : BitVec 32 := 0#32
  let v266 : BitVec 32 := Scalar.select v265 c160_i32 c0_i32_304
  let v267 : BitVec 32 := Scalar.addi v47 v266
  let c0_i32_331 : BitVec 32 := 0#32
  ![v267.toNat, 0]
def k0_off9_at (r : Fin 2) : BitVec 32 × BitVec 32 × BitVec 32 :=
  if r.val < 1 then
    (0#32, 1#32, 2#32)
  else
    (640#32, 2#32, 4#32)
def k0_dev10 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_318 : BitVec 32 := 2#32
  let v282 : BitVec 32 := Scalar.xori v5 c2_i32_318
  let c1_i32_319 : BitVec 32 := 1#32
  let v283 : BitVec 32 := Scalar.shrsi v282 c1_i32_319
  let c1_i32_320 : BitVec 32 := 1#32
  let v284 : BitVec 32 := Scalar.andi v283 c1_i32_320
  let v285 : BitVec 32 := Scalar.xori v282 v284
  let c1_i32_327 : BitVec 32 := 1#32
  let v286 : BitVec 32 := Scalar.muli v285 c1_i32_327
  let v287 : BitVec 32 := Scalar.addi c0_i32_328 v286
  v287.toNat
def k0_dev11 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_332 : BitVec 32 := 4#32
  let v294 : BitVec 32 := Scalar.xori v5 c4_i32_332
  let c1_i32_333 : BitVec 32 := 1#32
  let v295 : BitVec 32 := Scalar.shrsi v294 c1_i32_333
  let c1_i32_334 : BitVec 32 := 1#32
  let v296 : BitVec 32 := Scalar.andi v295 c1_i32_334
  let v297 : BitVec 32 := Scalar.xori v294 v296
  let c1_i32_341 : BitVec 32 := 1#32
  let v298 : BitVec 32 := Scalar.muli v297 c1_i32_341
  let v299 : BitVec 32 := Scalar.addi c0_i32_342 v298
  v299.toNat
def k0_off10 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c192_i32 : BitVec 32 := 192#32
  let c0_i32_315 : BitVec 32 := 0#32
  let v278 : BitVec 32 := Scalar.select v277 c192_i32 c0_i32_315
  let v279 : BitVec 32 := Scalar.addi v131 v278
  let c0_i32_359 : BitVec 32 := 0#32
  ![v279.toNat, 0]
def k0_dev12 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_346 : BitVec 32 := 1#32
  let v306 : BitVec 32 := Scalar.xori v5 c1_i32_346
  let c1_i32_347 : BitVec 32 := 1#32
  let v307 : BitVec 32 := Scalar.shrsi v306 c1_i32_347
  let c1_i32_348 : BitVec 32 := 1#32
  let v308 : BitVec 32 := Scalar.andi v307 c1_i32_348
  let v309 : BitVec 32 := Scalar.xori v306 v308
  let c1_i32_355 : BitVec 32 := 1#32
  let v310 : BitVec 32 := Scalar.muli v309 c1_i32_355
  let v311 : BitVec 32 := Scalar.addi c0_i32_356 v310
  v311.toNat
def k0_off11 (d0 : Dev nD) (c0_i32_36 : BitVec 32) (c1_i32_30 : BitVec 32) (c2_i32_302 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c160_i32 : BitVec 32 := 160#32
  let c0_i32_304 : BitVec 32 := 0#32
  let v266 : BitVec 32 := Scalar.select v265 c160_i32 c0_i32_304
  let v267 : BitVec 32 := Scalar.addi v47 v266
  let c1024_i32_373 : BitVec 32 := 1024#32
  ![v267.toNat, 1024]
def k0_off11_at (r : Fin 2) : BitVec 32 × BitVec 32 × BitVec 32 :=
  if r.val < 1 then
    (0#32, 1#32, 2#32)
  else
    (640#32, 2#32, 4#32)
def k0_dev13 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_360 : BitVec 32 := 2#32
  let v318 : BitVec 32 := Scalar.xori v5 c2_i32_360
  let c1_i32_361 : BitVec 32 := 1#32
  let v319 : BitVec 32 := Scalar.shrsi v318 c1_i32_361
  let c1_i32_362 : BitVec 32 := 1#32
  let v320 : BitVec 32 := Scalar.andi v319 c1_i32_362
  let v321 : BitVec 32 := Scalar.xori v318 v320
  let c1_i32_369 : BitVec 32 := 1#32
  let v322 : BitVec 32 := Scalar.muli v321 c1_i32_369
  let v323 : BitVec 32 := Scalar.addi c0_i32_370 v322
  v323.toNat
def k0_dev14 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_374 : BitVec 32 := 4#32
  let v330 : BitVec 32 := Scalar.xori v5 c4_i32_374
  let c1_i32_375 : BitVec 32 := 1#32
  let v331 : BitVec 32 := Scalar.shrsi v330 c1_i32_375
  let c1_i32_376 : BitVec 32 := 1#32
  let v332 : BitVec 32 := Scalar.andi v331 c1_i32_376
  let v333 : BitVec 32 := Scalar.xori v330 v332
  let c1_i32_383 : BitVec 32 := 1#32
  let v334 : BitVec 32 := Scalar.muli v333 c1_i32_383
  let v335 : BitVec 32 := Scalar.addi c0_i32_384 v334
  v335.toNat
def k0_off12 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c192_i32 : BitVec 32 := 192#32
  let c0_i32_315 : BitVec 32 := 0#32
  let v278 : BitVec 32 := Scalar.select v277 c192_i32 c0_i32_315
  let v279 : BitVec 32 := Scalar.addi v131 v278
  let c1024_i32_401 : BitVec 32 := 1024#32
  ![v279.toNat, 1024]
def k0_dev15 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_388 : BitVec 32 := 1#32
  let v342 : BitVec 32 := Scalar.xori v5 c1_i32_388
  let c1_i32_389 : BitVec 32 := 1#32
  let v343 : BitVec 32 := Scalar.shrsi v342 c1_i32_389
  let c1_i32_390 : BitVec 32 := 1#32
  let v344 : BitVec 32 := Scalar.andi v343 c1_i32_390
  let v345 : BitVec 32 := Scalar.xori v342 v344
  let c1_i32_397 : BitVec 32 := 1#32
  let v346 : BitVec 32 := Scalar.muli v345 c1_i32_397
  let v347 : BitVec 32 := Scalar.addi c0_i32_398 v346
  v347.toNat
def k0_off13 (d0 : Dev nD) (c0_i32_36 : BitVec 32) (c1_i32_30 : BitVec 32) (c2_i32_302 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c0_i32_305 : BitVec 32 := 0#32
  let c160_i32_306 : BitVec 32 := 160#32
  let v268 : BitVec 32 := Scalar.select v265 c0_i32_305 c160_i32_306
  let v269 : BitVec 32 := Scalar.addi v47 v268
  let v364 : Index := Scalar.indexCast v269
  let c0_423 : Index := 0#32
  ![v364.toNat, 0]
def k0_off13_at (r : Fin 2) : BitVec 32 × BitVec 32 × BitVec 32 :=
  if r.val < 1 then
    (0#32, 1#32, 2#32)
  else
    (640#32, 2#32, 4#32)
def k0_off14 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c0_i32_316 : BitVec 32 := 0#32
  let c192_i32_317 : BitVec 32 := 192#32
  let v280 : BitVec 32 := Scalar.select v277 c0_i32_316 c192_i32_317
  let v281 : BitVec 32 := Scalar.addi v131 v280
  let v400 : Index := Scalar.indexCast v281
  let c0_473 : Index := 0#32
  ![v400.toNat, 0]
def k0_off15 (d0 : Dev nD) (c0_i32_36 : BitVec 32) (c1_i32_30 : BitVec 32) (c2_i32_302 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c0_i32_305 : BitVec 32 := 0#32
  let c160_i32_306 : BitVec 32 := 160#32
  let v268 : BitVec 32 := Scalar.select v265 c0_i32_305 c160_i32_306
  let v269 : BitVec 32 := Scalar.addi v47 v268
  let v418 : Index := Scalar.indexCast v269
  let c1024_498 : Index := 1024#32
  ![v418.toNat, 1024]
def k0_off15_at (r : Fin 2) : BitVec 32 × BitVec 32 × BitVec 32 :=
  if r.val < 1 then
    (0#32, 1#32, 2#32)
  else
    (640#32, 2#32, 4#32)
def k0_off16 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c0_i32_316 : BitVec 32 := 0#32
  let c192_i32_317 : BitVec 32 := 192#32
  let v280 : BitVec 32 := Scalar.select v277 c0_i32_316 c192_i32_317
  let v281 : BitVec 32 := Scalar.addi v131 v280
  let v454 : Index := Scalar.indexCast v281
  let c1024_548 : Index := 1024#32
  ![v454.toNat, 1024]
def k0_off17 (d0 : Dev nD) (c0_i32_36 : BitVec 32) (c1_i32_30 : BitVec 32) (c2_i32_302 : BitVec 32) (c4_i32_552 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c0_i32_305 : BitVec 32 := 0#32
  let c160_i32_306 : BitVec 32 := 160#32
  let v268 : BitVec 32 := Scalar.select v265 c0_i32_305 c160_i32_306
  let v269 : BitVec 32 := Scalar.addi v47 v268
  let v462 : BitVec 32 := Scalar.andi v5 c4_i32_552
  let c0_i32_553 : BitVec 32 := 0#32
  let v463 : BitVec 1 := Scalar.cmpi .eq v462 c0_i32_553
  let c80_i32 : BitVec 32 := 80#32
  let c0_i32_554 : BitVec 32 := 0#32
  let v464 : BitVec 32 := Scalar.select v463 c80_i32 c0_i32_554
  let v465 : BitVec 32 := Scalar.addi v269 v464
  let c0_i32_581 : BitVec 32 := 0#32
  ![v465.toNat, 0]
def k0_off17_at (r : Fin 2) : BitVec 32 × BitVec 32 × BitVec 32 × BitVec 32 :=
  if r.val < 1 then
    (0#32, 1#32, 2#32, 4#32)
  else
    (640#32, 2#32, 4#32, 1#32)
def k0_dev16 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_568 : BitVec 32 := 4#32
  let v480 : BitVec 32 := Scalar.xori v5 c4_i32_568
  let c1_i32_569 : BitVec 32 := 1#32
  let v481 : BitVec 32 := Scalar.shrsi v480 c1_i32_569
  let c1_i32_570 : BitVec 32 := 1#32
  let v482 : BitVec 32 := Scalar.andi v481 c1_i32_570
  let v483 : BitVec 32 := Scalar.xori v480 v482
  let c1_i32_577 : BitVec 32 := 1#32
  let v484 : BitVec 32 := Scalar.muli v483 c1_i32_577
  let v485 : BitVec 32 := Scalar.addi c0_i32_578 v484
  v485.toNat
def k0_dev17 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_582 : BitVec 32 := 1#32
  let v492 : BitVec 32 := Scalar.xori v5 c1_i32_582
  let c1_i32_583 : BitVec 32 := 1#32
  let v493 : BitVec 32 := Scalar.shrsi v492 c1_i32_583
  let c1_i32_584 : BitVec 32 := 1#32
  let v494 : BitVec 32 := Scalar.andi v493 c1_i32_584
  let v495 : BitVec 32 := Scalar.xori v492 v494
  let c1_i32_591 : BitVec 32 := 1#32
  let v496 : BitVec 32 := Scalar.muli v495 c1_i32_591
  let v497 : BitVec 32 := Scalar.addi c0_i32_592 v496
  v497.toNat
def k0_off18 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c0_i32_316 : BitVec 32 := 0#32
  let c192_i32_317 : BitVec 32 := 192#32
  let v280 : BitVec 32 := Scalar.select v277 c0_i32_316 c192_i32_317
  let v281 : BitVec 32 := Scalar.addi v131 v280
  let c2_i32_563 : BitVec 32 := 2#32
  let v474 : BitVec 32 := Scalar.andi v5 c2_i32_563
  let c0_i32_564 : BitVec 32 := 0#32
  let v475 : BitVec 1 := Scalar.cmpi .eq v474 c0_i32_564
  let c96_i32 : BitVec 32 := 96#32
  let c0_i32_565 : BitVec 32 := 0#32
  let v476 : BitVec 32 := Scalar.select v475 c96_i32 c0_i32_565
  let v477 : BitVec 32 := Scalar.addi v281 v476
  let c0_i32_609 : BitVec 32 := 0#32
  ![v477.toNat, 0]
def k0_dev18 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_596 : BitVec 32 := 2#32
  let v504 : BitVec 32 := Scalar.xori v5 c2_i32_596
  let c1_i32_597 : BitVec 32 := 1#32
  let v505 : BitVec 32 := Scalar.shrsi v504 c1_i32_597
  let c1_i32_598 : BitVec 32 := 1#32
  let v506 : BitVec 32 := Scalar.andi v505 c1_i32_598
  let v507 : BitVec 32 := Scalar.xori v504 v506
  let c1_i32_605 : BitVec 32 := 1#32
  let v508 : BitVec 32 := Scalar.muli v507 c1_i32_605
  let v509 : BitVec 32 := Scalar.addi c0_i32_606 v508
  v509.toNat
def k0_off19 (d0 : Dev nD) (c0_i32_36 : BitVec 32) (c1_i32_30 : BitVec 32) (c2_i32_302 : BitVec 32) (c4_i32_552 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c0_i32_305 : BitVec 32 := 0#32
  let c160_i32_306 : BitVec 32 := 160#32
  let v268 : BitVec 32 := Scalar.select v265 c0_i32_305 c160_i32_306
  let v269 : BitVec 32 := Scalar.addi v47 v268
  let v462 : BitVec 32 := Scalar.andi v5 c4_i32_552
  let c0_i32_553 : BitVec 32 := 0#32
  let v463 : BitVec 1 := Scalar.cmpi .eq v462 c0_i32_553
  let c80_i32 : BitVec 32 := 80#32
  let c0_i32_554 : BitVec 32 := 0#32
  let v464 : BitVec 32 := Scalar.select v463 c80_i32 c0_i32_554
  let v465 : BitVec 32 := Scalar.addi v269 v464
  let c1024_i32_623 : BitVec 32 := 1024#32
  ![v465.toNat, 1024]
def k0_off19_at (r : Fin 2) : BitVec 32 × BitVec 32 × BitVec 32 × BitVec 32 :=
  if r.val < 1 then
    (0#32, 1#32, 2#32, 4#32)
  else
    (640#32, 2#32, 4#32, 1#32)
def k0_dev19 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_610 : BitVec 32 := 4#32
  let v516 : BitVec 32 := Scalar.xori v5 c4_i32_610
  let c1_i32_611 : BitVec 32 := 1#32
  let v517 : BitVec 32 := Scalar.shrsi v516 c1_i32_611
  let c1_i32_612 : BitVec 32 := 1#32
  let v518 : BitVec 32 := Scalar.andi v517 c1_i32_612
  let v519 : BitVec 32 := Scalar.xori v516 v518
  let c1_i32_619 : BitVec 32 := 1#32
  let v520 : BitVec 32 := Scalar.muli v519 c1_i32_619
  let v521 : BitVec 32 := Scalar.addi c0_i32_620 v520
  v521.toNat
def k0_dev20 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_624 : BitVec 32 := 1#32
  let v528 : BitVec 32 := Scalar.xori v5 c1_i32_624
  let c1_i32_625 : BitVec 32 := 1#32
  let v529 : BitVec 32 := Scalar.shrsi v528 c1_i32_625
  let c1_i32_626 : BitVec 32 := 1#32
  let v530 : BitVec 32 := Scalar.andi v529 c1_i32_626
  let v531 : BitVec 32 := Scalar.xori v528 v530
  let c1_i32_633 : BitVec 32 := 1#32
  let v532 : BitVec 32 := Scalar.muli v531 c1_i32_633
  let v533 : BitVec 32 := Scalar.addi c0_i32_634 v532
  v533.toNat
def k0_off20 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c0_i32_316 : BitVec 32 := 0#32
  let c192_i32_317 : BitVec 32 := 192#32
  let v280 : BitVec 32 := Scalar.select v277 c0_i32_316 c192_i32_317
  let v281 : BitVec 32 := Scalar.addi v131 v280
  let c2_i32_563 : BitVec 32 := 2#32
  let v474 : BitVec 32 := Scalar.andi v5 c2_i32_563
  let c0_i32_564 : BitVec 32 := 0#32
  let v475 : BitVec 1 := Scalar.cmpi .eq v474 c0_i32_564
  let c96_i32 : BitVec 32 := 96#32
  let c0_i32_565 : BitVec 32 := 0#32
  let v476 : BitVec 32 := Scalar.select v475 c96_i32 c0_i32_565
  let v477 : BitVec 32 := Scalar.addi v281 v476
  let c1024_i32_651 : BitVec 32 := 1024#32
  ![v477.toNat, 1024]
def k0_dev21 (d0 : Dev nD) : Nat :=
  let c0_i32_648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_638 : BitVec 32 := 2#32
  let v540 : BitVec 32 := Scalar.xori v5 c2_i32_638
  let c1_i32_639 : BitVec 32 := 1#32
  let v541 : BitVec 32 := Scalar.shrsi v540 c1_i32_639
  let c1_i32_640 : BitVec 32 := 1#32
  let v542 : BitVec 32 := Scalar.andi v541 c1_i32_640
  let v543 : BitVec 32 := Scalar.xori v540 v542
  let c1_i32_647 : BitVec 32 := 1#32
  let v544 : BitVec 32 := Scalar.muli v543 c1_i32_647
  let v545 : BitVec 32 := Scalar.addi c0_i32_648 v544
  v545.toNat
def k0_off21 (d0 : Dev nD) (c0_i32_36 : BitVec 32) (c1_i32_30 : BitVec 32) (c2_i32_302 : BitVec 32) (c4_i32_552 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c0_i32_305 : BitVec 32 := 0#32
  let c160_i32_306 : BitVec 32 := 160#32
  let v268 : BitVec 32 := Scalar.select v265 c0_i32_305 c160_i32_306
  let v269 : BitVec 32 := Scalar.addi v47 v268
  let v462 : BitVec 32 := Scalar.andi v5 c4_i32_552
  let c0_i32_553 : BitVec 32 := 0#32
  let v463 : BitVec 1 := Scalar.cmpi .eq v462 c0_i32_553
  let c0_i32_555 : BitVec 32 := 0#32
  let c80_i32_556 : BitVec 32 := 80#32
  let v466 : BitVec 32 := Scalar.select v463 c0_i32_555 c80_i32_556
  let v467 : BitVec 32 := Scalar.addi v269 v466
  let v562 : Index := Scalar.indexCast v467
  let c0_673 : Index := 0#32
  ![v562.toNat, 0]
def k0_off21_at (r : Fin 2) : BitVec 32 × BitVec 32 × BitVec 32 × BitVec 32 :=
  if r.val < 1 then
    (0#32, 1#32, 2#32, 4#32)
  else
    (640#32, 2#32, 4#32, 1#32)
def k0_off22 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c0_i32_316 : BitVec 32 := 0#32
  let c192_i32_317 : BitVec 32 := 192#32
  let v280 : BitVec 32 := Scalar.select v277 c0_i32_316 c192_i32_317
  let v281 : BitVec 32 := Scalar.addi v131 v280
  let c2_i32_563 : BitVec 32 := 2#32
  let v474 : BitVec 32 := Scalar.andi v5 c2_i32_563
  let c0_i32_564 : BitVec 32 := 0#32
  let v475 : BitVec 1 := Scalar.cmpi .eq v474 c0_i32_564
  let c0_i32_566 : BitVec 32 := 0#32
  let c96_i32_567 : BitVec 32 := 96#32
  let v478 : BitVec 32 := Scalar.select v475 c0_i32_566 c96_i32_567
  let v479 : BitVec 32 := Scalar.addi v281 v478
  let v598 : Index := Scalar.indexCast v479
  let c0_723 : Index := 0#32
  ![v598.toNat, 0]
def k0_off23 (d0 : Dev nD) (c0_i32_36 : BitVec 32) (c1_i32_30 : BitVec 32) (c2_i32_302 : BitVec 32) (c4_i32_552 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c0_i32_305 : BitVec 32 := 0#32
  let c160_i32_306 : BitVec 32 := 160#32
  let v268 : BitVec 32 := Scalar.select v265 c0_i32_305 c160_i32_306
  let v269 : BitVec 32 := Scalar.addi v47 v268
  let v462 : BitVec 32 := Scalar.andi v5 c4_i32_552
  let c0_i32_553 : BitVec 32 := 0#32
  let v463 : BitVec 1 := Scalar.cmpi .eq v462 c0_i32_553
  let c0_i32_555 : BitVec 32 := 0#32
  let c80_i32_556 : BitVec 32 := 80#32
  let v466 : BitVec 32 := Scalar.select v463 c0_i32_555 c80_i32_556
  let v467 : BitVec 32 := Scalar.addi v269 v466
  let v616 : Index := Scalar.indexCast v467
  let c1024_748 : Index := 1024#32
  ![v616.toNat, 1024]
def k0_off23_at (r : Fin 2) : BitVec 32 × BitVec 32 × BitVec 32 × BitVec 32 :=
  if r.val < 1 then
    (0#32, 1#32, 2#32, 4#32)
  else
    (640#32, 2#32, 4#32, 1#32)
def k0_off24 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c0_i32_316 : BitVec 32 := 0#32
  let c192_i32_317 : BitVec 32 := 192#32
  let v280 : BitVec 32 := Scalar.select v277 c0_i32_316 c192_i32_317
  let v281 : BitVec 32 := Scalar.addi v131 v280
  let c2_i32_563 : BitVec 32 := 2#32
  let v474 : BitVec 32 := Scalar.andi v5 c2_i32_563
  let c0_i32_564 : BitVec 32 := 0#32
  let v475 : BitVec 1 := Scalar.cmpi .eq v474 c0_i32_564
  let c0_i32_566 : BitVec 32 := 0#32
  let c96_i32_567 : BitVec 32 := 96#32
  let v478 : BitVec 32 := Scalar.select v475 c0_i32_566 c96_i32_567
  let v479 : BitVec 32 := Scalar.addi v281 v478
  let v652 : Index := Scalar.indexCast v479
  let c1024_798 : Index := 1024#32
  ![v652.toNat, 1024]
def k0_off25 (d0 : Dev nD) (c0_i32_36 : BitVec 32) (c1_i32_30 : BitVec 32) (c2_i32_302 : BitVec 32) (c4_i32_552 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c0_i32_305 : BitVec 32 := 0#32
  let c160_i32_306 : BitVec 32 := 160#32
  let v268 : BitVec 32 := Scalar.select v265 c0_i32_305 c160_i32_306
  let v269 : BitVec 32 := Scalar.addi v47 v268
  let v462 : BitVec 32 := Scalar.andi v5 c4_i32_552
  let c0_i32_553 : BitVec 32 := 0#32
  let v463 : BitVec 1 := Scalar.cmpi .eq v462 c0_i32_553
  let c0_i32_555 : BitVec 32 := 0#32
  let c80_i32_556 : BitVec 32 := 80#32
  let v466 : BitVec 32 := Scalar.select v463 c0_i32_555 c80_i32_556
  let v467 : BitVec 32 := Scalar.addi v269 v466
  let v660 : Index := Scalar.indexCast v467
  let c0_802 : Index := 0#32
  ![v660.toNat, 0]
def k0_off25_at (r : Fin 2) : BitVec 32 × BitVec 32 × BitVec 32 × BitVec 32 :=
  if r.val < 1 then
    (0#32, 1#32, 2#32, 4#32)
  else
    (640#32, 2#32, 4#32, 1#32)
def k0_off26 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c0_i32_316 : BitVec 32 := 0#32
  let c192_i32_317 : BitVec 32 := 192#32
  let v280 : BitVec 32 := Scalar.select v277 c0_i32_316 c192_i32_317
  let v281 : BitVec 32 := Scalar.addi v131 v280
  let c2_i32_563 : BitVec 32 := 2#32
  let v474 : BitVec 32 := Scalar.andi v5 c2_i32_563
  let c0_i32_564 : BitVec 32 := 0#32
  let v475 : BitVec 1 := Scalar.cmpi .eq v474 c0_i32_564
  let c0_i32_566 : BitVec 32 := 0#32
  let c96_i32_567 : BitVec 32 := 96#32
  let v478 : BitVec 32 := Scalar.select v475 c0_i32_566 c96_i32_567
  let v479 : BitVec 32 := Scalar.addi v281 v478
  let v684 : Index := Scalar.indexCast v479
  let c0_810 : Index := 0#32
  ![v684.toNat, 0]
def k0_off27 (d0 : Dev nD) (c0_i32_36 : BitVec 32) (c1_i32_30 : BitVec 32) (c2_i32_302 : BitVec 32) (c4_i32_552 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c0_i32_305 : BitVec 32 := 0#32
  let c160_i32_306 : BitVec 32 := 160#32
  let v268 : BitVec 32 := Scalar.select v265 c0_i32_305 c160_i32_306
  let v269 : BitVec 32 := Scalar.addi v47 v268
  let v462 : BitVec 32 := Scalar.andi v5 c4_i32_552
  let c0_i32_553 : BitVec 32 := 0#32
  let v463 : BitVec 1 := Scalar.cmpi .eq v462 c0_i32_553
  let c0_i32_555 : BitVec 32 := 0#32
  let c80_i32_556 : BitVec 32 := 80#32
  let v466 : BitVec 32 := Scalar.select v463 c0_i32_555 c80_i32_556
  let v467 : BitVec 32 := Scalar.addi v269 v466
  let c0_i32_825 : BitVec 32 := 0#32
  ![v467.toNat, 0]
def k0_off27_at (r : Fin 2) : BitVec 32 × BitVec 32 × BitVec 32 × BitVec 32 :=
  if r.val < 1 then
    (0#32, 1#32, 2#32, 4#32)
  else
    (640#32, 2#32, 4#32, 1#32)
def k0_dev22 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_814 : BitVec 32 := 4#32
  let v696 : BitVec 32 := Scalar.xori v5 c4_i32_814
  let c1_i32_815 : BitVec 32 := 1#32
  let v697 : BitVec 32 := Scalar.shrsi v696 c1_i32_815
  let c1_i32_816 : BitVec 32 := 1#32
  let v698 : BitVec 32 := Scalar.andi v697 c1_i32_816
  let v699 : BitVec 32 := Scalar.xori v696 v698
  let c1_i32_823 : BitVec 32 := 1#32
  let v700 : BitVec 32 := Scalar.muli v699 c1_i32_823
  let v701 : BitVec 32 := Scalar.addi c0_i32_824 v700
  v701.toNat
def k0_dev23 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_827 : BitVec 32 := 1#32
  let v708 : BitVec 32 := Scalar.xori v5 c1_i32_827
  let c1_i32_828 : BitVec 32 := 1#32
  let v709 : BitVec 32 := Scalar.shrsi v708 c1_i32_828
  let c1_i32_829 : BitVec 32 := 1#32
  let v710 : BitVec 32 := Scalar.andi v709 c1_i32_829
  let v711 : BitVec 32 := Scalar.xori v708 v710
  let c1_i32_836 : BitVec 32 := 1#32
  let v712 : BitVec 32 := Scalar.muli v711 c1_i32_836
  let v713 : BitVec 32 := Scalar.addi c0_i32_837 v712
  v713.toNat
def k0_off28 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c0_i32_316 : BitVec 32 := 0#32
  let c192_i32_317 : BitVec 32 := 192#32
  let v280 : BitVec 32 := Scalar.select v277 c0_i32_316 c192_i32_317
  let v281 : BitVec 32 := Scalar.addi v131 v280
  let c2_i32_563 : BitVec 32 := 2#32
  let v474 : BitVec 32 := Scalar.andi v5 c2_i32_563
  let c0_i32_564 : BitVec 32 := 0#32
  let v475 : BitVec 1 := Scalar.cmpi .eq v474 c0_i32_564
  let c0_i32_566 : BitVec 32 := 0#32
  let c96_i32_567 : BitVec 32 := 96#32
  let v478 : BitVec 32 := Scalar.select v475 c0_i32_566 c96_i32_567
  let v479 : BitVec 32 := Scalar.addi v281 v478
  let c0_i32_851 : BitVec 32 := 0#32
  ![v479.toNat, 0]
def k0_dev24 (d0 : Dev nD) : Nat :=
  let c0_i32_850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_840 : BitVec 32 := 2#32
  let v720 : BitVec 32 := Scalar.xori v5 c2_i32_840
  let c1_i32_841 : BitVec 32 := 1#32
  let v721 : BitVec 32 := Scalar.shrsi v720 c1_i32_841
  let c1_i32_842 : BitVec 32 := 1#32
  let v722 : BitVec 32 := Scalar.andi v721 c1_i32_842
  let v723 : BitVec 32 := Scalar.xori v720 v722
  let c1_i32_849 : BitVec 32 := 1#32
  let v724 : BitVec 32 := Scalar.muli v723 c1_i32_849
  let v725 : BitVec 32 := Scalar.addi c0_i32_850 v724
  v725.toNat
def k0_off29 (d0 : Dev nD) (c0_i32_36 : BitVec 32) (c1_i32_30 : BitVec 32) (c2_i32_302 : BitVec 32) (c4_i32_552 : BitVec 32) (c4_i32_872 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c0_i32_305 : BitVec 32 := 0#32
  let c160_i32_306 : BitVec 32 := 160#32
  let v268 : BitVec 32 := Scalar.select v265 c0_i32_305 c160_i32_306
  let v269 : BitVec 32 := Scalar.addi v47 v268
  let v462 : BitVec 32 := Scalar.andi v5 c4_i32_552
  let c0_i32_553 : BitVec 32 := 0#32
  let v463 : BitVec 1 := Scalar.cmpi .eq v462 c0_i32_553
  let c0_i32_555 : BitVec 32 := 0#32
  let c80_i32_556 : BitVec 32 := 80#32
  let v466 : BitVec 32 := Scalar.select v463 c0_i32_555 c80_i32_556
  let v467 : BitVec 32 := Scalar.addi v269 v466
  let v742 : BitVec 32 := Scalar.andi v5 c4_i32_872
  let c0_i32_873 : BitVec 32 := 0#32
  let v743 : BitVec 1 := Scalar.cmpi .eq v742 c0_i32_873
  let c0_i32_874 : BitVec 32 := 0#32
  let c80_i32_875 : BitVec 32 := 80#32
  let v744 : BitVec 32 := Scalar.select v743 c0_i32_874 c80_i32_875
  let v745 : BitVec 32 := Scalar.subi v467 v744
  let c0_i32_933 : BitVec 32 := 0#32
  ![v745.toNat, 0]
def k0_off29_at (r : Fin 2) : BitVec 32 × BitVec 32 × BitVec 32 × BitVec 32 × BitVec 32 :=
  if r.val < 1 then
    (0#32, 1#32, 2#32, 4#32, 4#32)
  else
    (640#32, 2#32, 4#32, 1#32, 1#32)
def k0_dev25 (d0 : Dev nD) : Nat :=
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_922 : BitVec 32 := 2#32
  let v774 : BitVec 32 := Scalar.xori v5 c2_i32_922
  let c1_i32_923 : BitVec 32 := 1#32
  let v775 : BitVec 32 := Scalar.shrsi v774 c1_i32_923
  let c1_i32_924 : BitVec 32 := 1#32
  let v776 : BitVec 32 := Scalar.andi v775 c1_i32_924
  let v777 : BitVec 32 := Scalar.xori v774 v776
  let c1_i32_931 : BitVec 32 := 1#32
  let v778 : BitVec 32 := Scalar.muli v777 c1_i32_931
  let v779 : BitVec 32 := Scalar.addi c0_i32_932 v778
  v779.toNat
def k0_dev26 (d0 : Dev nD) : Nat :=
  let c0_i32_945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_935 : BitVec 32 := 4#32
  let v786 : BitVec 32 := Scalar.xori v5 c4_i32_935
  let c1_i32_936 : BitVec 32 := 1#32
  let v787 : BitVec 32 := Scalar.shrsi v786 c1_i32_936
  let c1_i32_937 : BitVec 32 := 1#32
  let v788 : BitVec 32 := Scalar.andi v787 c1_i32_937
  let v789 : BitVec 32 := Scalar.xori v786 v788
  let c1_i32_944 : BitVec 32 := 1#32
  let v790 : BitVec 32 := Scalar.muli v789 c1_i32_944
  let v791 : BitVec 32 := Scalar.addi c0_i32_945 v790
  v791.toNat
def k0_off30 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c0_i32_316 : BitVec 32 := 0#32
  let c192_i32_317 : BitVec 32 := 192#32
  let v280 : BitVec 32 := Scalar.select v277 c0_i32_316 c192_i32_317
  let v281 : BitVec 32 := Scalar.addi v131 v280
  let c2_i32_563 : BitVec 32 := 2#32
  let v474 : BitVec 32 := Scalar.andi v5 c2_i32_563
  let c0_i32_564 : BitVec 32 := 0#32
  let v475 : BitVec 1 := Scalar.cmpi .eq v474 c0_i32_564
  let c0_i32_566 : BitVec 32 := 0#32
  let c96_i32_567 : BitVec 32 := 96#32
  let v478 : BitVec 32 := Scalar.select v475 c0_i32_566 c96_i32_567
  let v479 : BitVec 32 := Scalar.addi v281 v478
  let c2_i32_918 : BitVec 32 := 2#32
  let v770 : BitVec 32 := Scalar.andi v5 c2_i32_918
  let c0_i32_919 : BitVec 32 := 0#32
  let v771 : BitVec 1 := Scalar.cmpi .eq v770 c0_i32_919
  let c0_i32_920 : BitVec 32 := 0#32
  let c96_i32_921 : BitVec 32 := 96#32
  let v772 : BitVec 32 := Scalar.select v771 c0_i32_920 c96_i32_921
  let v773 : BitVec 32 := Scalar.subi v479 v772
  let c0_i32_959 : BitVec 32 := 0#32
  ![v773.toNat, 0]
def k0_dev27 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_948 : BitVec 32 := 1#32
  let v798 : BitVec 32 := Scalar.xori v5 c1_i32_948
  let c1_i32_949 : BitVec 32 := 1#32
  let v799 : BitVec 32 := Scalar.shrsi v798 c1_i32_949
  let c1_i32_950 : BitVec 32 := 1#32
  let v800 : BitVec 32 := Scalar.andi v799 c1_i32_950
  let v801 : BitVec 32 := Scalar.xori v798 v800
  let c1_i32_957 : BitVec 32 := 1#32
  let v802 : BitVec 32 := Scalar.muli v801 c1_i32_957
  let v803 : BitVec 32 := Scalar.addi c0_i32_958 v802
  v803.toNat
def k0_off31 (d0 : Dev nD) (c0_i32_36 : BitVec 32) (c1_i32_30 : BitVec 32) (c2_i32_302 : BitVec 32) (c4_i32_552 : BitVec 32) (c4_i32_872 : BitVec 32) (c2_i32_980 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v42 : BitVec 32 := Scalar.andi v5 c1_i32_30
  let c0_i32_31 : BitVec 32 := 0#32
  let v43 : BitVec 1 := Scalar.cmpi .eq v42 c0_i32_31
  let c0_i32_34 : BitVec 32 := 0#32
  let c320_i32_35 : BitVec 32 := 320#32
  let v46 : BitVec 32 := Scalar.select v43 c0_i32_34 c320_i32_35
  let v47 : BitVec 32 := Scalar.addi c0_i32_36 v46
  let v264 : BitVec 32 := Scalar.andi v5 c2_i32_302
  let c0_i32_303 : BitVec 32 := 0#32
  let v265 : BitVec 1 := Scalar.cmpi .eq v264 c0_i32_303
  let c0_i32_305 : BitVec 32 := 0#32
  let c160_i32_306 : BitVec 32 := 160#32
  let v268 : BitVec 32 := Scalar.select v265 c0_i32_305 c160_i32_306
  let v269 : BitVec 32 := Scalar.addi v47 v268
  let v462 : BitVec 32 := Scalar.andi v5 c4_i32_552
  let c0_i32_553 : BitVec 32 := 0#32
  let v463 : BitVec 1 := Scalar.cmpi .eq v462 c0_i32_553
  let c0_i32_555 : BitVec 32 := 0#32
  let c80_i32_556 : BitVec 32 := 80#32
  let v466 : BitVec 32 := Scalar.select v463 c0_i32_555 c80_i32_556
  let v467 : BitVec 32 := Scalar.addi v269 v466
  let v742 : BitVec 32 := Scalar.andi v5 c4_i32_872
  let c0_i32_873 : BitVec 32 := 0#32
  let v743 : BitVec 1 := Scalar.cmpi .eq v742 c0_i32_873
  let c0_i32_874 : BitVec 32 := 0#32
  let c80_i32_875 : BitVec 32 := 80#32
  let v744 : BitVec 32 := Scalar.select v743 c0_i32_874 c80_i32_875
  let v745 : BitVec 32 := Scalar.subi v467 v744
  let v820 : BitVec 32 := Scalar.andi v5 c2_i32_980
  let c0_i32_981 : BitVec 32 := 0#32
  let v821 : BitVec 1 := Scalar.cmpi .eq v820 c0_i32_981
  let c0_i32_982 : BitVec 32 := 0#32
  let c160_i32_983 : BitVec 32 := 160#32
  let v822 : BitVec 32 := Scalar.select v821 c0_i32_982 c160_i32_983
  let v823 : BitVec 32 := Scalar.subi v745 v822
  let c0_i32_1040 : BitVec 32 := 0#32
  ![v823.toNat, 0]
def k0_off31_at (r : Fin 2) : BitVec 32 × BitVec 32 × BitVec 32 × BitVec 32 × BitVec 32 × BitVec 32 :=
  if r.val < 1 then
    (0#32, 1#32, 2#32, 4#32, 4#32, 2#32)
  else
    (640#32, 2#32, 4#32, 1#32, 1#32, 4#32)
def k0_dev28 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1030 : BitVec 32 := 1#32
  let v852 : BitVec 32 := Scalar.xori v5 c1_i32_1030
  let c1_i32_1031 : BitVec 32 := 1#32
  let v853 : BitVec 32 := Scalar.shrsi v852 c1_i32_1031
  let c1_i32_1032 : BitVec 32 := 1#32
  let v854 : BitVec 32 := Scalar.andi v853 c1_i32_1032
  let v855 : BitVec 32 := Scalar.xori v852 v854
  let c1_i32_1038 : BitVec 32 := 1#32
  let v856 : BitVec 32 := Scalar.muli v855 c1_i32_1038
  let v857 : BitVec 32 := Scalar.addi c0_i32_1039 v856
  v857.toNat
def k0_dev29 (d0 : Dev nD) : Nat :=
  let c0_i32_1052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1042 : BitVec 32 := 2#32
  let v864 : BitVec 32 := Scalar.xori v5 c2_i32_1042
  let c1_i32_1043 : BitVec 32 := 1#32
  let v865 : BitVec 32 := Scalar.shrsi v864 c1_i32_1043
  let c1_i32_1044 : BitVec 32 := 1#32
  let v866 : BitVec 32 := Scalar.andi v865 c1_i32_1044
  let v867 : BitVec 32 := Scalar.xori v864 v866
  let c1_i32_1051 : BitVec 32 := 1#32
  let v868 : BitVec 32 := Scalar.muli v867 c1_i32_1051
  let v869 : BitVec 32 := Scalar.addi c0_i32_1052 v868
  v869.toNat
def k0_off32 (d0 : Dev nD) : Fin 2 → Nat :=
  let c1280_i32_124 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_119 : BitVec 32 := 4#32
  let v126 : BitVec 32 := Scalar.andi v5 c4_i32_119
  let c0_i32_120 : BitVec 32 := 0#32
  let v127 : BitVec 1 := Scalar.cmpi .eq v126 c0_i32_120
  let c0_i32_122 : BitVec 32 := 0#32
  let c384_i32_123 : BitVec 32 := 384#32
  let v130 : BitVec 32 := Scalar.select v127 c0_i32_122 c384_i32_123
  let v131 : BitVec 32 := Scalar.addi c1280_i32_124 v130
  let c1_i32_313 : BitVec 32 := 1#32
  let v276 : BitVec 32 := Scalar.andi v5 c1_i32_313
  let c0_i32_314 : BitVec 32 := 0#32
  let v277 : BitVec 1 := Scalar.cmpi .eq v276 c0_i32_314
  let c0_i32_316 : BitVec 32 := 0#32
  let c192_i32_317 : BitVec 32 := 192#32
  let v280 : BitVec 32 := Scalar.select v277 c0_i32_316 c192_i32_317
  let v281 : BitVec 32 := Scalar.addi v131 v280
  let c2_i32_563 : BitVec 32 := 2#32
  let v474 : BitVec 32 := Scalar.andi v5 c2_i32_563
  let c0_i32_564 : BitVec 32 := 0#32
  let v475 : BitVec 1 := Scalar.cmpi .eq v474 c0_i32_564
  let c0_i32_566 : BitVec 32 := 0#32
  let c96_i32_567 : BitVec 32 := 96#32
  let v478 : BitVec 32 := Scalar.select v475 c0_i32_566 c96_i32_567
  let v479 : BitVec 32 := Scalar.addi v281 v478
  let c2_i32_918 : BitVec 32 := 2#32
  let v770 : BitVec 32 := Scalar.andi v5 c2_i32_918
  let c0_i32_919 : BitVec 32 := 0#32
  let v771 : BitVec 1 := Scalar.cmpi .eq v770 c0_i32_919
  let c0_i32_920 : BitVec 32 := 0#32
  let c96_i32_921 : BitVec 32 := 96#32
  let v772 : BitVec 32 := Scalar.select v771 c0_i32_920 c96_i32_921
  let v773 : BitVec 32 := Scalar.subi v479 v772
  let c1_i32_1026 : BitVec 32 := 1#32
  let v848 : BitVec 32 := Scalar.andi v5 c1_i32_1026
  let c0_i32_1027 : BitVec 32 := 0#32
  let v849 : BitVec 1 := Scalar.cmpi .eq v848 c0_i32_1027
  let c0_i32_1028 : BitVec 32 := 0#32
  let c192_i32_1029 : BitVec 32 := 192#32
  let v850 : BitVec 32 := Scalar.select v849 c0_i32_1028 c192_i32_1029
  let v851 : BitVec 32 := Scalar.subi v773 v850
  let c0_i32_1066 : BitVec 32 := 0#32
  ![v851.toNat, 0]
def k0_dev30 (d0 : Dev nD) : Nat :=
  let c0_i32_1065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1055 : BitVec 32 := 4#32
  let v876 : BitVec 32 := Scalar.xori v5 c4_i32_1055
  let c1_i32_1056 : BitVec 32 := 1#32
  let v877 : BitVec 32 := Scalar.shrsi v876 c1_i32_1056
  let c1_i32_1057 : BitVec 32 := 1#32
  let v878 : BitVec 32 := Scalar.andi v877 c1_i32_1057
  let v879 : BitVec 32 := Scalar.xori v876 v878
  let c1_i32_1064 : BitVec 32 := 1#32
  let v880 : BitVec 32 := Scalar.muli v879 c1_i32_1064
  let v881 : BitVec 32 := Scalar.addi c0_i32_1065 v880
  v881.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Mesh.lean ====
/- The mesh and the bands. Eight devices stand on a cube: over axis `a` device `d` exchanges with `pa a d`.
   The 2048 rows of the product are cut in three bands (640, 640 and 768 rows); band `b` visits the three
   axes in its own order `ax b`, keeping at each step the half its bit of that axis chooses and sending the
   other. Here: which rows a device keeps and sends at each step, and that the printed offsets and devices
   are those. -/
module

public import proofs.«01_k».proof.Proof.Gen.KernelIdeal

@[expose] public section

namespace Cert.KernelIdeal.Ring

open Idealize.ShloMosaic

/-- The partner of device `d` over axis `a`. -/
def pa : Fin 3 → Dev nD → Dev nD
  | 0, d => ⟨d.val ^^^ 1, by revert d; decide⟩
  | 1, d => ⟨d.val ^^^ 3, by revert d; decide⟩
  | 2, d => ⟨d.val ^^^ 4, by revert d; decide⟩

/-- The axis band `b` exchanges over at step `k`. -/
def ax (b k : Fin 3) : Fin 3 := b + k

/-- The step at which band `b` exchanges over axis `a`. -/
def kOf (b a : Fin 3) : Fin 3 := a - b

/-- The coordinate of device `d` along axis `a` of the cube. -/
def bit : Fin 3 → Dev nD → Bool
  | 0, d => (d.val ^^^ (d.val >>> 1)) % 2 == 1
  | 1, d => (d.val >>> 1) % 2 == 1
  | 2, d => (d.val >>> 2) % 2 == 1

/-- The first row of band `b`. -/
def base : Fin 3 → ℕ
  | 0 => 0
  | 1 => 640
  | 2 => 1280

/-- The rows of band `b` still held after `k` halvings. -/
def hs : Fin 3 → ℕ → ℕ
  | 0, k => 640 / 2 ^ k
  | 1, k => 640 / 2 ^ k
  | 2, k => 768 / 2 ^ k

/-- The first of the `hs b k` rows of band `b` that device `d` holds after `k` halvings. -/
def kOff (d : Dev nD) (b : Fin 3) : ℕ → ℕ
  | 0 => base b
  | k + 1 => kOff d b k + if bit (ax b (Fin.ofNat 3 k)) d then hs b (k + 1) else 0

/-- The first of the `hs b (k + 1)` rows of band `b` that device `d` sends at step `k`. -/
def sOff (d : Dev nD) (b : Fin 3) (k : ℕ) : ℕ :=
  kOff d b k + if bit (ax b (Fin.ofNat 3 k)) d then 0 else hs b (k + 1)

/-- The partner of device `d` in band `b` at step `k` of the reduction. -/
def pt (d : Dev nD) (b k : Fin 3) : Dev nD := pa (ax b k) d

theorem pa_pa : ∀ a d, pa a (pa a d) = d := by decide
theorem pt_pt : ∀ d b k, pt (pt d b k) b k = d := by decide
theorem ax_kOf : ∀ b a, ax b (kOf b a) = a := by decide
theorem kOf_ax : ∀ b k, kOf b (ax b k) = k := by decide

/-- What is sent at step `k` is what the partner keeps. -/
theorem sOff_eq : ∀ (d : Dev nD) (b k : Fin 3), sOff d b k = kOff (pt d b k) b (k + 1) := by decide +kernel

/-- Partners of step `k` hold the same rows before it. -/
theorem kOff_pt : ∀ (d : Dev nD) (b k : Fin 3), kOff (pt d b k) b k = kOff d b k := by decide +kernel

/-- Kept and sent halves lie side by side and make up the rows held before. -/
theorem halves : ∀ (d : Dev nD) (b k : Fin 3),
    hs b k = hs b (k + 1) + hs b (k + 1) ∧
      ((kOff d b (k + 1) = kOff d b k ∧ sOff d b k = kOff d b k + hs b (k + 1)) ∨
       (sOff d b k = kOff d b k ∧ kOff d b (k + 1) = kOff d b k + hs b (k + 1))) := by decide +kernel

theorem kOff_inb : ∀ (d : Dev nD) (b : Fin 3) (k : Fin 4), kOff d b k + hs b k ≤ 2048 := by decide +kernel
theorem sOff_inb : ∀ (d : Dev nD) (b k : Fin 3), sOff d b k + hs b (k + 1) ≤ 2048 := by decide +kernel

/-- The last bands kept lie apart from each other. -/
theorem last_apart : ∀ (d : Dev nD) (b : Fin 3) (d' : Dev nD) (b' : Fin 3), (d, b) ≠ (d', b') →
    kOff d b 3 + hs b 3 ≤ kOff d' b' 3 ∨ kOff d' b' 3 + hs b' 3 ≤ kOff d b 3 := by decide +kernel

/-! ## The printed devices and offsets -/

section Printed
open Cert.KernelIdeal

theorem dev1_eq : ∀ d : Dev nD, k0_dev1 d = (pa 0 d).val := by decide +kernel
theorem dev2_eq : ∀ d : Dev nD, k0_dev2 d = (pa 1 d).val := by decide +kernel
theorem dev3_eq : ∀ d : Dev nD, k0_dev3 d = (pa 2 d).val := by decide +kernel
theorem dev4_eq : ∀ d : Dev nD, k0_dev4 d = (pt d 0 0).val := by decide +kernel
theorem dev5_eq : ∀ d : Dev nD, k0_dev5 d = (pt d 0 0).val := by decide +kernel
theorem dev6_eq : ∀ d : Dev nD, k0_dev6 d = (pt d 1 0).val := by decide +kernel
theorem dev7_eq : ∀ d : Dev nD, k0_dev7 d = (pt d 1 0).val := by decide +kernel
theorem dev8_eq : ∀ d : Dev nD, k0_dev8 d = (pt d 2 0).val := by decide +kernel
theorem dev9_eq : ∀ d : Dev nD, k0_dev9 d = (pt d 2 0).val := by decide +kernel
theorem dev10_eq : ∀ d : Dev nD, k0_dev10 d = (pt d 0 1).val := by decide +kernel
theorem dev11_eq : ∀ d : Dev nD, k0_dev11 d = (pt d 1 1).val := by decide +kernel
theorem dev12_eq : ∀ d : Dev nD, k0_dev12 d = (pt d 2 1).val := by decide +kernel
theorem dev13_eq : ∀ d : Dev nD, k0_dev13 d = (pt d 0 1).val := by decide +kernel
theorem dev14_eq : ∀ d : Dev nD, k0_dev14 d = (pt d 1 1).val := by decide +kernel
theorem dev15_eq : ∀ d : Dev nD, k0_dev15 d = (pt d 2 1).val := by decide +kernel
theorem dev16_eq : ∀ d : Dev nD, k0_dev16 d = (pt d 0 2).val := by decide +kernel
theorem dev17_eq : ∀ d : Dev nD, k0_dev17 d = (pt d 1 2).val := by decide +kernel
theorem dev18_eq : ∀ d : Dev nD, k0_dev18 d = (pt d 2 2).val := by decide +kernel
theorem dev19_eq : ∀ d : Dev nD, k0_dev19 d = (pt d 0 2).val := by decide +kernel
theorem dev20_eq : ∀ d : Dev nD, k0_dev20 d = (pt d 1 2).val := by decide +kernel
theorem dev21_eq : ∀ d : Dev nD, k0_dev21 d = (pt d 2 2).val := by decide +kernel
theorem dev22_eq : ∀ d : Dev nD, k0_dev22 d = (pt d 0 2).val := by decide +kernel
theorem dev23_eq : ∀ d : Dev nD, k0_dev23 d = (pt d 1 2).val := by decide +kernel
theorem dev24_eq : ∀ d : Dev nD, k0_dev24 d = (pt d 2 2).val := by decide +kernel
theorem dev25_eq : ∀ d : Dev nD, k0_dev25 d = (pt d 0 1).val := by decide +kernel
theorem dev26_eq : ∀ d : Dev nD, k0_dev26 d = (pt d 1 1).val := by decide +kernel
theorem dev27_eq : ∀ d : Dev nD, k0_dev27 d = (pt d 2 1).val := by decide +kernel
theorem dev28_eq : ∀ d : Dev nD, k0_dev28 d = (pt d 0 0).val := by decide +kernel
theorem dev29_eq : ∀ d : Dev nD, k0_dev29 d = (pt d 1 0).val := by decide +kernel
theorem dev30_eq : ∀ d : Dev nD, k0_dev30 d = (pt d 2 0).val := by decide +kernel

theorem off1_eq0 : ∀ d : Dev nD, k0_off1 d 0#32 1#32 = ![sOff d 0 0, 0] := by decide +kernel
theorem off1_eq1 : ∀ d : Dev nD, k0_off1 d 640#32 2#32 = ![sOff d 1 0, 0] := by decide +kernel
theorem off2_eq0 : ∀ d : Dev nD, k0_off2 d 0#32 1#32 = ![sOff d 0 0, 1024] := by decide +kernel
theorem off2_eq1 : ∀ d : Dev nD, k0_off2 d 640#32 2#32 = ![sOff d 1 0, 1024] := by decide +kernel
theorem off3_eq : ∀ d : Dev nD, k0_off3 d = ![sOff d 2 0, 0] := by decide +kernel
theorem off4_eq : ∀ d : Dev nD, k0_off4 d = ![sOff d 2 0, 1024] := by decide +kernel
theorem off5_eq0 : ∀ d : Dev nD, k0_off5 d 0#32 1#32 = ![kOff d 0 1, 0] := by decide +kernel
theorem off5_eq1 : ∀ d : Dev nD, k0_off5 d 640#32 2#32 = ![kOff d 1 1, 0] := by decide +kernel
theorem off6_eq0 : ∀ d : Dev nD, k0_off6 d 0#32 1#32 = ![kOff d 0 1, 1024] := by decide +kernel
theorem off6_eq1 : ∀ d : Dev nD, k0_off6 d 640#32 2#32 = ![kOff d 1 1, 1024] := by decide +kernel
theorem off7_eq : ∀ d : Dev nD, k0_off7 d = ![kOff d 2 1, 0] := by decide +kernel
theorem off8_eq : ∀ d : Dev nD, k0_off8 d = ![kOff d 2 1, 1024] := by decide +kernel
theorem off9_eq0 : ∀ d : Dev nD, k0_off9 d 0#32 1#32 2#32 = ![sOff d 0 1, 0] := by decide +kernel
theorem off9_eq1 : ∀ d : Dev nD, k0_off9 d 640#32 2#32 4#32 = ![sOff d 1 1, 0] := by decide +kernel
theorem off10_eq : ∀ d : Dev nD, k0_off10 d = ![sOff d 2 1, 0] := by decide +kernel
theorem off11_eq0 : ∀ d : Dev nD, k0_off11 d 0#32 1#32 2#32 = ![sOff d 0 1, 1024] := by decide +kernel
theorem off11_eq1 : ∀ d : Dev nD, k0_off11 d 640#32 2#32 4#32 = ![sOff d 1 1, 1024] := by decide +kernel
theorem off12_eq : ∀ d : Dev nD, k0_off12 d = ![sOff d 2 1, 1024] := by decide +kernel
theorem off13_eq0 : ∀ d : Dev nD, k0_off13 d 0#32 1#32 2#32 = ![kOff d 0 2, 0] := by decide +kernel
theorem off13_eq1 : ∀ d : Dev nD, k0_off13 d 640#32 2#32 4#32 = ![kOff d 1 2, 0] := by decide +kernel
theorem off14_eq : ∀ d : Dev nD, k0_off14 d = ![kOff d 2 2, 0] := by decide +kernel
theorem off15_eq0 : ∀ d : Dev nD, k0_off15 d 0#32 1#32 2#32 = ![kOff d 0 2, 1024] := by decide +kernel
theorem off15_eq1 : ∀ d : Dev nD, k0_off15 d 640#32 2#32 4#32 = ![kOff d 1 2, 1024] := by decide +kernel
theorem off16_eq : ∀ d : Dev nD, k0_off16 d = ![kOff d 2 2, 1024] := by decide +kernel
theorem off17_eq0 : ∀ d : Dev nD, k0_off17 d 0#32 1#32 2#32 4#32 = ![sOff d 0 2, 0] := by decide +kernel
theorem off17_eq1 : ∀ d : Dev nD, k0_off17 d 640#32 2#32 4#32 1#32 = ![sOff d 1 2, 0] := by decide +kernel
theorem off18_eq : ∀ d : Dev nD, k0_off18 d = ![sOff d 2 2, 0] := by decide +kernel
theorem off19_eq0 : ∀ d : Dev nD, k0_off19 d 0#32 1#32 2#32 4#32 = ![sOff d 0 2, 1024] := by decide +kernel
theorem off19_eq1 : ∀ d : Dev nD, k0_off19 d 640#32 2#32 4#32 1#32 = ![sOff d 1 2, 1024] := by decide +kernel
theorem off20_eq : ∀ d : Dev nD, k0_off20 d = ![sOff d 2 2, 1024] := by decide +kernel
theorem off21_eq0 : ∀ d : Dev nD, k0_off21 d 0#32 1#32 2#32 4#32 = ![kOff d 0 3, 0] := by decide +kernel
theorem off21_eq1 : ∀ d : Dev nD, k0_off21 d 640#32 2#32 4#32 1#32 = ![kOff d 1 3, 0] := by decide +kernel
theorem off22_eq : ∀ d : Dev nD, k0_off22 d = ![kOff d 2 3, 0] := by decide +kernel
theorem off23_eq0 : ∀ d : Dev nD, k0_off23 d 0#32 1#32 2#32 4#32 = ![kOff d 0 3, 1024] := by decide +kernel
theorem off23_eq1 : ∀ d : Dev nD, k0_off23 d 640#32 2#32 4#32 1#32 = ![kOff d 1 3, 1024] := by decide +kernel
theorem off24_eq : ∀ d : Dev nD, k0_off24 d = ![kOff d 2 3, 1024] := by decide +kernel
theorem off25_eq0 : ∀ d : Dev nD, k0_off25 d 0#32 1#32 2#32 4#32 = ![kOff d 0 3, 0] := by decide +kernel
theorem off25_eq1 : ∀ d : Dev nD, k0_off25 d 640#32 2#32 4#32 1#32 = ![kOff d 1 3, 0] := by decide +kernel
theorem off26_eq : ∀ d : Dev nD, k0_off26 d = ![kOff d 2 3, 0] := by decide +kernel
theorem off27_eq0 : ∀ d : Dev nD, k0_off27 d 0#32 1#32 2#32 4#32 = ![kOff d 0 3, 0] := by decide +kernel
theorem off27_eq1 : ∀ d : Dev nD, k0_off27 d 640#32 2#32 4#32 1#32 = ![kOff d 1 3, 0] := by decide +kernel
theorem off28_eq : ∀ d : Dev nD, k0_off28 d = ![kOff d 2 3, 0] := by decide +kernel
theorem off29_eq0 : ∀ d : Dev nD, k0_off29 d 0#32 1#32 2#32 4#32 4#32 = ![kOff d 0 2, 0] := by decide +kernel
theorem off29_eq1 : ∀ d : Dev nD, k0_off29 d 640#32 2#32 4#32 1#32 1#32 = ![kOff d 1 2, 0] := by decide +kernel
theorem off30_eq : ∀ d : Dev nD, k0_off30 d = ![kOff d 2 2, 0] := by decide +kernel
theorem off31_eq0 : ∀ d : Dev nD, k0_off31 d 0#32 1#32 2#32 4#32 4#32 2#32 = ![kOff d 0 1, 0] := by decide +kernel
theorem off31_eq1 : ∀ d : Dev nD, k0_off31 d 640#32 2#32 4#32 1#32 1#32 4#32 = ![kOff d 1 1, 0] := by decide +kernel
theorem off32_eq : ∀ d : Dev nD, k0_off32 d = ![kOff d 2 1, 0] := by decide +kernel

end Printed

end Cert.KernelIdeal.Ring
-- ==== Proof.Cells.lean ====
/- The buffers' regions and the semaphore cells the kernel names, as families over band, step and column half. -/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

namespace Cert.KernelIdeal.Ring

open Cert.KernelIdeal Cert.KernelIdeal.Gen
open Idealize.ShloMosaic Idealize.ShloMosaic.TcCoe

/-! ## Rectangles of a 2048 by 2048 buffer -/

/-- The `n` rows from `r` and the `m` columns from `c`. -/
def band (r n c m : ℕ) : Finset S2048x2048.Idx :=
  Finset.univ.filter fun i => (r ≤ (i 0).val ∧ (i 0).val < r + n) ∧ (c ≤ (i 1).val ∧ (i 1).val < c + m)

theorem mem_band {r n c m : ℕ} {i : S2048x2048.Idx} :
    i ∈ band r n c m ↔ (r ≤ (i 0).val ∧ (i 0).val < r + n) ∧ (c ≤ (i 1).val ∧ (i 1).val < c + m) := by
  simp [band]

theorem unit_set {r n c m : ℕ} (inb : ∀ a, (![r, c] : Fin 2 → ℕ) a + (![n, m] : Fin 2 → ℕ) a ≤ S2048x2048.size a) :
    (Rect.unit (s := S2048x2048) ![r, c] ![n, m] inb).set = band r n c m := by
  ext i
  rw [Rect.mem_set_unit, mem_band]
  exact Fin.forall_fin_two

theorem inb_half {r n : ℕ} (h : r + n ≤ 2048) (cc : Fin 2) :
    ∀ a, (![r, 1024 * cc.val] : Fin 2 → ℕ) a + (![n, 1024] : Fin 2 → ℕ) a ≤ S2048x2048.size a := by
  have : 1024 * cc.val + 1024 ≤ 2048 := by omega
  exact Fin.forall_fin_two.mpr ⟨h, this⟩

theorem inb_rows {r n : ℕ} (h : r + n ≤ 2048) :
    ∀ a, (![r, 0] : Fin 2 → ℕ) a + (![n, 2048] : Fin 2 → ℕ) a ≤ S2048x2048.size a :=
  Fin.forall_fin_two.mpr ⟨h, le_rfl⟩

/-- Half `cc` of the columns of `n` rows of the partial products. -/
def zS (r n : ℕ) (cc : Fin 2) (h : r + n ≤ 2048) : Memref sig .tc .vmem ⟨2, ![n, 1024]⟩ .bf16 :=
  (Memref.whole cc0_scratch0).slice (Rect.unit (s := S2048x2048) ![r, 1024 * cc.val] ![n, 1024] (inb_half h cc)) (fun _ => rfl)

/-- `n` rows of the result. -/
def oS (r n : ℕ) (h : r + n ≤ 2048) : Memref sig .tc .vmem ⟨2, ![n, 2048]⟩ .bf16 :=
  (Memref.whole cc0_stg2_0).slice (Rect.unit (s := S2048x2048) ![r, 0] ![n, 2048] (inb_rows h)) (fun _ => rfl)

theorem zS_set {r n : ℕ} {cc : Fin 2} (h : r + n ≤ 2048) : (zS r n cc h).view.set = band r n (1024 * cc.val) 1024 :=
  (View.set_slice_whole _ _).trans (unit_set _)

theorem oS_set {r n : ℕ} (h : r + n ≤ 2048) : (oS r n h).view.set = band r n 0 2048 :=
  (View.set_slice_whole _ _).trans (unit_set _)

/-! ## The landing buffers -/

/-- Where band `b` receives at step `k` of the reduction. -/
def commM : (b k : Fin 3) → Memref sig .tc .vmem ⟨2, ![hs b (k.val + 1), 2048]⟩ .bf16
  | 0, 0 => Memref.whole cc0_scratch3
  | 1, 0 => Memref.whole cc0_scratch4
  | 2, 0 => Memref.whole cc0_scratch5
  | 0, 1 => Memref.whole cc0_scratch6
  | 1, 1 => Memref.whole cc0_scratch7
  | 2, 1 => Memref.whole cc0_scratch8
  | 0, 2 => Memref.whole cc0_scratch9
  | 1, 2 => Memref.whole cc0_scratch10
  | 2, 2 => Memref.whole cc0_scratch11

theorem inb_comm (n : ℕ) (cc : Fin 2) :
    ∀ a, (![0, 1024 * cc.val] : Fin 2 → ℕ) a + (![n, 1024] : Fin 2 → ℕ) a ≤ (⟨2, ![n, 2048]⟩ : Shape).size a := by
  have : 1024 * cc.val + 1024 ≤ 2048 := by omega
  exact Fin.forall_fin_two.mpr ⟨(Nat.zero_add n).le, this⟩

/-- Half `cc` of the columns of that buffer. -/
def commS (b k : Fin 3) (cc : Fin 2) : Memref sig .tc .vmem ⟨2, ![hs b (k.val + 1), 1024]⟩ .bf16 :=
  (commM b k).slice (Rect.unit (s := ⟨2, ![hs b (k.val + 1), 2048]⟩) ![0, 1024 * cc.val] ![hs b (k.val + 1), 1024] (inb_comm _ cc)) (fun _ => rfl)

/-! ## The semaphores -/

/-- The semaphore that counts what a device has sent from slot `(b, t, cc)`. -/
def sendSem (b : Fin 3) (t : Fin 6) (cc : Fin 2) : DmaSem sig := ⟨3 + (12 * b.val + 2 * t.val + cc.val), by have := b.2; have := t.2; have := cc.2; show _ < 75; omega⟩

/-- The semaphore that counts what a device has received in slot `(b, t, cc)`. -/
def recvSem (b : Fin 3) (t : Fin 6) (cc : Fin 2) : DmaSem sig := ⟨39 + (12 * b.val + 2 * t.val + cc.val), by have := b.2; have := t.2; have := cc.2; show _ < 75; omega⟩

/-- The barrier the devices meet at before any of them sends. -/
def barS : Sem sig := (SemArray.scalar (sig.barrier 0 rfl) : Sems sig S_).sem

/-- Step `k` of the reduction among the six exchanges. -/
def rsT (k : Fin 3) : Fin 6 := ⟨k.val, by omega⟩

/-- Step `j` of the gathering among the six exchanges. -/
def agT (j : Fin 3) : Fin 6 := ⟨3 + j.val, by omega⟩

/-- The reduction step whose exchange step `j` of the gathering undoes. -/
def back (j : Fin 3) : Fin 3 := 2 - j

/-- The bytes of one message of the reduction. -/
def nRs (b k : Fin 3) : ℕ := (commS b k 0).view.dmaCredit

/-- The bytes of one message of the gathering. -/
def nAg (b j : Fin 3) : ℕ := (oS 0 (hs b (3 - j.val)) (by revert b j; decide)).view.dmaCredit

end Cert.KernelIdeal.Ring
-- ==== Proof.Contents.lean ====
/- What the buffers hold. `zv b k d` is what device `d` holds of band `b` of the partial products after `k`
   exchanges, `outv` what every device finally holds of the result. Both are over arbitrary float values. -/
module

public import proofs.«01_k».proof.Proof.Cells
public import Idealize.ShloMosaic.Lib.Pipeline.Value

@[expose] public section

noncomputable section

namespace Cert.KernelIdeal.Ring

open Cert.KernelIdeal Cert.KernelIdeal.Gen
open Idealize.ShloMosaic Idealize.ShloMosaic.TcCoe

variable {F : FTy → Type} [FloatOps F]

theorem inb_aRows : ∀ b : Fin 3, ∀ a, (![base b, 0] : Fin 2 → ℕ) a + (![hs b 0, 1024] : Fin 2 → ℕ) a ≤ S2048x1024.size a := by decide

/-- The rows of band `b` among the 2048 of a device's block of the left factor. -/
def aRect (b : Fin 3) : Rect S2048x1024 := Rect.unit (s := S2048x1024) ![base b, 0] ![hs b 0, 1024] (inb_aRows b)

/-- Those rows. -/
def aRows (A : Vec F S2048x1024 .bf16) (b : Fin 3) : Vec F ⟨2, ![hs b 0, 1024]⟩ .bf16 :=
  fun j => A ((aRect b).emb j)

/-- The product of a band's rows with a device's block of the right factor, rounded to bf16. -/
def bandMul : (b : Fin 3) → Vec F ⟨2, ![hs b 0, 1024]⟩ .bf16 → Vec F S1024x2048 .bf16 → Vec F ⟨2, ![hs b 0, 2048]⟩ .bf16
  | 0, x, y => truncf (F := F) .bf16 (matmul (φ₁ := .bf16) (φ₂ := .bf16) dot_S640x1024_S1024x2048_S640x2048_1_0_0_1_n_n none x y (constant S640x2048 .f32 0x00000000#32)) bitsLt_bf16_f32
  | 1, x, y => truncf (F := F) .bf16 (matmul (φ₁ := .bf16) (φ₂ := .bf16) dot_S640x1024_S1024x2048_S640x2048_1_0_0_1_n_n none x y (constant S640x2048 .f32 0x00000000#32)) bitsLt_bf16_f32
  | 2, x, y => truncf (F := F) .bf16 (matmul (φ₁ := .bf16) (φ₂ := .bf16) dot_S768x1024_S1024x2048_S768x2048_1_0_0_1_n_n none x y (constant S768x2048 .f32 0x00000000#32)) bitsLt_bf16_f32

theorem inb_zRows : ∀ b : Fin 3, ∀ a, (![base b, 0] : Fin 2 → ℕ) a + (![hs b 0, 2048] : Fin 2 → ℕ) a ≤ S2048x2048.size a := by decide

/-- The rows of band `b` of the partial products. -/
def zRows (b : Fin 3) : Memref sig .tc .vmem ⟨2, ![hs b 0, 2048]⟩ .bf16 :=
  (Memref.whole cc0_scratch0).slice (Rect.unit (s := S2048x2048) ![base b, 0] ![hs b 0, 2048] (inb_zRows b)) (fun _ => rfl)

variable (A : Dev nD → Vec F S2048x1024 .bf16) (B : Dev nD → Vec F S1024x2048 .bf16)

/-- A value to stand where nothing is said. -/
def junk : Vec F S2048x2048 .bf16 := constant (F := F) S2048x2048 .bf16 0

/-- Band `b` of device `d`'s partial product, as it is written. -/
def z0 (b : Fin 3) (d : Dev nD) : Vec F S2048x2048 .bf16 :=
  (zRows b).view.write (Elt F) (junk (F := F)) (bandMul b (aRows (A d) b) (B d)) Finset.univ

/-- What device `d` holds of band `b` after `k` exchanges: its own sum and its partner's, added and rounded. -/
def zv (b : Fin 3) : ℕ → Dev nD → Vec F S2048x2048 .bf16
  | 0, d => z0 A B b d
  | k + 1, d => addf (F := F) (φ := .bf16) (zv b k d) (zv b k (pt d b (Fin.ofNat 3 k)))

/-- `x * sigmoid x` by way of f32, rounded to bf16, entry by entry. -/
def siluV {s : Shape} (v : FVec F s .bf16) : FVec F s .bf16 :=
  truncf .bf16
    (divf (extf .f32 v bitsLt_bf16_f32)
      (addf (broadcast s (Scalar.ofBits .f32 0x3F800000#32 : F .f32))
        (exp (subf (broadcast s (Scalar.ofBits .f32 0x00000000#32 : F .f32)) (extf .f32 v bitsLt_bf16_f32)))))
    bitsLt_bf16_f32

/-- Row `i` is among the last rows device `d` keeps of band `b`. -/
def Last (i : S2048x2048.Idx) (d : Dev nD) (b : Fin 3) : Prop :=
  kOff d b 3 ≤ (i 0).val ∧ (i 0).val < kOff d b 3 + hs b 3

open Classical in
/-- The result: at the rows device `d` keeps of band `b`, the function of the full sum. -/
def outv : Vec F S2048x2048 .bf16 := fun i =>
  if h : ∃ p : Dev nD × Fin 3, Last i p.1 p.2 then siluV (zv A B h.choose.2 3 h.choose.1) i else junk (F := F) i

/-- The rows kept last lie apart, so they determine the result. -/
theorem outv_eq {i : S2048x2048.Idx} {d : Dev nD} {b : Fin 3} (h : Last i d b) :
    outv A B i = siluV (zv A B b 3 d) i := by
  have hex : ∃ p : Dev nD × Fin 3, Last i p.1 p.2 := ⟨(d, b), h⟩
  have heq : hex.choose = (d, b) := by
    by_contra hne
    have hs := hex.choose_spec
    rcases last_apart hex.choose.1 hex.choose.2 d b hne with h' | h'
    · exact absurd hs.2 (not_lt.mpr (h'.trans h.1))
    · exact absurd h.2 (not_lt.mpr (h'.trans hs.1))
  unfold outv
  rw [dif_pos hex, heq]

/-! ## The printed payloads -/

section Pay
variable {s : Shape}
theorem pay29_eq (v : Vec F S80x2048 .bf16) : k0_pay29 v = siluV v := rfl
theorem pay30_eq (v : Vec F S80x2048 .bf16) : k0_pay30 v = siluV v := rfl
theorem pay31_eq (v : Vec F S96x2048 .bf16) : k0_pay31 v = siluV v := rfl
theorem pay4_eq (x : Vec F S640x1024 .bf16) (y : Vec F S1024x2048 .bf16) : k0_pay4 x y = bandMul 0 x y := shapeCast_self _ _
theorem pay7_eq (x : Vec F S640x1024 .bf16) (y : Vec F S1024x2048 .bf16) : k0_pay7 (k0_pay6 x y) = bandMul 1 x y := shapeCast_self _ _
theorem pay9_eq (x : Vec F S768x1024 .bf16) (y : Vec F S1024x2048 .bf16) : k0_pay9 x y = bandMul 2 x y := shapeCast_self _ _
theorem pay2_eq (y : Vec F S1024x2048 .bf16) : k0_pay2 (k0_pay1 y) = y := (shapeCast_self _ _).trans (shapeCast_self _ _)
theorem pay3_eq (x : Vec F S640x1024 .bf16) : k0_pay3 x = x := (shapeCast_self _ _).trans (shapeCast_self _ _)
theorem pay5_eq (x : Vec F S640x1024 .bf16) : k0_pay5 x = x := (shapeCast_self _ _).trans (shapeCast_self _ _)
theorem pay8_eq (x : Vec F S768x1024 .bf16) : k0_pay8 x = x := (shapeCast_self _ _).trans (shapeCast_self _ _)
end Pay

end Cert.KernelIdeal.Ring
-- ==== Proof.Schedule.lean ====
/- The protocol. Every semaphore cell has one round. A device's barrier cell gets one unit from its partner over
   each axis, and with it what that partner lends: the landing buffers and result rows the device will write on it.
   A send cell gives back the rows sent, a receive cell hands over the rows landed. -/
module

public import proofs.«01_k».proof.Proof.Contents

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barC (d : Dev nD) : GSem nD τ sig := ((d : Thread nD τ), .reg barS)
abbrev sRs (d : Dev nD) (b k : Fin 3) (cc : Fin 2) : GSem nD τ sig := ((d : Thread nD τ), .dma (sendSem b (rsT k) cc))
abbrev rRs (d : Dev nD) (b k : Fin 3) (cc : Fin 2) : GSem nD τ sig := ((d : Thread nD τ), .dma (recvSem b (rsT k) cc))
abbrev sAg (d : Dev nD) (b j : Fin 3) : GSem nD τ sig := ((d : Thread nD τ), .dma (sendSem b (agT j) 0))
abbrev rAg (d : Dev nD) (b j : Fin 3) : GSem nD τ sig := ((d : Thread nD τ), .dma (recvSem b (agT j) 0))

/-- What a semaphore is for. -/
inductive Kd where
  | no | bar
  | sRs (b k : Fin 3) (cc : Fin 2) | rRs (b k : Fin 3) (cc : Fin 2)
  | sAg (b j : Fin 3) | rAg (b j : Fin 3)
deriving DecidableEq

/-- Slot number `n` read as band, exchange and column half: a slot of the reduction, of the gathering, or unused. -/
def slotKd (recv : Bool) (n : ℕ) : Kd :=
  let b := Fin.ofNat 3 (n / 12)
  let t := n % 12 / 2
  if t < 3 then (if recv then .rRs b (Fin.ofNat 3 t) (Fin.ofNat 2 n) else .sRs b (Fin.ofNat 3 t) (Fin.ofNat 2 n))
  else if n % 2 = 0 then (if recv then .rAg b (Fin.ofNat 3 (t - 3)) else .sAg b (Fin.ofNat 3 (t - 3)))
  else .no

def kind : SemLoc sig → Kd
  | .reg s => if s = barS then .bar else .no
  | .dma q => if q.val < 3 then .no else if q.val < 39 then slotKd false (q.val - 3) else slotKd true (q.val - 39)

theorem kind_bar : kind (.reg barS) = .bar := by decide
theorem kind_sRs : ∀ b k cc, kind (.dma (sendSem b (rsT k) cc)) = .sRs b k cc := by decide
theorem kind_rRs : ∀ b k cc, kind (.dma (recvSem b (rsT k) cc)) = .rRs b k cc := by decide
theorem kind_sAg : ∀ b j, kind (.dma (sendSem b (agT j) 0)) = .sAg b j := by decide
theorem kind_rAg : ∀ b j, kind (.dma (recvSem b (agT j) 0)) = .rAg b j := by decide
theorem kind_idle : ∀ b j, kind (.dma (sendSem b (agT j) 1)) = .no ∧ kind (.dma (recvSem b (agT j) 1)) = .no := by decide

/-! ## Holdings -/

/-- Device `d` holds the partial products on `S`, with contents `f`. -/
abbrev zAt (d : Dev nD) (S : Finset S2048x2048.Idx) (f : Vec F S2048x2048 .bf16) : sProp 𝕄 :=
  ((Memref.whole cc0_scratch0 : Memref sig .tc .vmem S2048x2048 .bf16).view.loc (d : Thread nD τ) ↦[S]{fullShare} f)

/-- Device `d`'s result on `S`, with contents `f`. -/
abbrev oAt (d : Dev nD) (S : Finset S2048x2048.Idx) (f : Vec F S2048x2048 .bf16) : sProp 𝕄 :=
  ((Memref.whole cc0_stg2_0 : Memref sig .tc .vmem S2048x2048 .bf16).view.loc (d : Thread nD τ) ↦[S]{fullShare} f)

/-- The rows of band `b` held after `k` halvings, half `cc` of the columns. -/
abbrev keepZ (d : Dev nD) (b : Fin 3) (k : ℕ) (cc : Fin 2) : Finset S2048x2048.Idx := band (kOff d b k) (hs b k) (1024 * cc.val) 1024
/-- The rows sent at step `k`, half `cc` of the columns. -/
abbrev sentZ (d : Dev nD) (b : Fin 3) (k : ℕ) (cc : Fin 2) : Finset S2048x2048.Idx := band (sOff d b k) (hs b (k + 1)) (1024 * cc.val) 1024
/-- The rows of band `b` held after `k` halvings, all columns. -/
abbrev keepO (d : Dev nD) (b : Fin 3) (k : ℕ) : Finset S2048x2048.Idx := band (kOff d b k) (hs b k) 0 2048
abbrev sentO (d : Dev nD) (b : Fin 3) (k : ℕ) : Finset S2048x2048.Idx := band (sOff d b k) (hs b (k + 1)) 0 2048

theorem keep_inb (d : Dev nD) (b k : Fin 3) : kOff d b (k.val + 1) + hs b (k.val + 1) ≤ 2048 := kOff_inb d b k.succ

/-- A landing buffer's half `cc` on device `d`, with contents `f`. -/
abbrev cAt (d : Dev nD) (b k : Fin 3) (cc : Fin 2) (f : Buf (Elt F) ((commS b k cc).view.loc (d : Thread nD τ))) : sProp 𝕄 :=
  ((commS b k cc).view.loc (d : Thread nD τ) ↦[(commS b k cc).view.set]{fullShare} f)

variable (A : Dev nD → Vec F S2048x1024 .bf16) (B : Dev nD → Vec F S1024x2048 .bf16)

/-- What device `d` has landed at step `k`: its partner's sums of the rows it keeps. -/
def landedRs (d : Dev nD) (b k : Fin 3) (cc : Fin 2) : sProp 𝕄 :=
  iprop(∃ f, cAt d b k cc f ∗ ⌜(commS b k cc).view.read (Elt F) f
    = (zS (kOff d b (k.val + 1)) (hs b (k.val + 1)) cc (keep_inb d b k)).view.read (Elt F) (zv A B b k.val (pt d b k))⌝)

/-- The rows device `d` sent at step `k`, back. -/
def backRs (d : Dev nD) (b k : Fin 3) (cc : Fin 2) : sProp 𝕄 := iprop(∃ f, zAt (F := F) d (sentZ d b k.val cc) f)

/-- The result rows sent at step `j` of the gathering, back. -/
def backAg (d : Dev nD) (b j : Fin 3) : sProp 𝕄 := oAt d (keepO d b ((back j).val + 1)) (outv A B)

/-- The result rows landed at step `j` of the gathering. -/
def landedAg (d : Dev nD) (b j : Fin 3) : sProp 𝕄 := oAt d (sentO d b (back j).val) (outv A B)

/-- What device `e` lends its partner of step `k` of band `b`: both halves of the landing buffer, and the result rows. -/
def lend (e : Dev nD) (b k : Fin 3) : sProp 𝕄 :=
  iprop((∃ f, cAt (F := F) e b k 0 f) ∗ (∃ f, cAt (F := F) e b k 1 f) ∗ (∃ f, oAt (F := F) e (sentO e b k.val) f))

/-- What device `e` lends its partner over axis `a`. -/
def lendAx (e : Dev nD) (a : Fin 3) : sProp 𝕄 := bigSep Finset.univ fun b : Fin 3 => lend (F := F) e b (kOf b a)

omit [FloatOps F] in
theorem lend_eq (e : Dev nD) (b k : Fin 3) : lend (F := F) (pt e b k) b k
    = iprop((∃ f, cAt (F := F) (pt e b k) b k 0 f) ∗ (∃ f, cAt (F := F) (pt e b k) b k 1 f) ∗ (∃ f, oAt (F := F) (pt e b k) (keepO e b (k.val + 1)) f)) := by
  unfold lend; rw [sentO, sOff_eq, pt_pt]

/-! ## The schedule -/

theorem nRs_pos : ∀ b k, 0 < nRs b k := by decide
theorem nAg_pos : ∀ b j, 0 < nAg b j := by decide

def ringRd : Rounds.Schedule (GSem nD τ sig) (Fin 3) 𝕄 where
  duties g r := if r = 0 ∧ g.1.2 = .tc then (match kind g.2 with | .no => ∅ | .bar => Finset.univ | _ => {0}) else ∅
  unitless _ := False
  amount g _ _ := match kind g.2 with
    | .sRs b k _ => nRs b k
    | .rRs b k _ => nRs b k
    | .sAg b j => nAg b j
    | .rAg b j => nAg b j
    | _ => 1
  payload g _ a := match kind g.2 with
    | .no => iprop(emp)
    | .bar => lendAx (pa a g.1.1) a
    | .sRs b k cc => backRs g.1.1 b k cc
    | .rRs b k cc => landedRs A B g.1.1 b k cc
    | .sAg b j => backAg A B g.1.1 b j
    | .rAg b j => landedAg A B g.1.1 b j
  amount_pos g _ _ _ := by
    cases kind g.2 with
    | no => exact Nat.one_pos
    | bar => exact Nat.one_pos
    | sRs b k _ => exact nRs_pos b k
    | rRs b k _ => exact nRs_pos b k
    | sAg b j => exact nAg_pos b j
    | rAg b j => exact nAg_pos b j

instance ringRd_storable (g : GSem nD τ sig) (r : ℕ) (a : Fin 3) :
    BI.Storable (upEmb : UEmb _ 𝕄) ((ringRd (F := F) A B).payload g r a) := by
  dsimp only [ringRd]
  cases kind g.2 <;> dsimp only [lendAx, lend, backRs, landedRs, backAg, landedAg] <;> infer_instance

section Sched
variable (d : Dev nD) (b k j : Fin 3) (cc : Fin 2) (a : Fin 3)

theorem duties_bar : (ringRd A B).duties (barC d) 0 = Finset.univ := by
  dsimp only [ringRd]; rw [if_pos ⟨rfl, rfl⟩, kind_bar]
theorem duties_sRs : (ringRd A B).duties (sRs d b k cc) 0 = {0} := by
  dsimp only [ringRd]; rw [if_pos ⟨rfl, rfl⟩, kind_sRs]
theorem duties_rRs : (ringRd A B).duties (rRs d b k cc) 0 = {0} := by
  dsimp only [ringRd]; rw [if_pos ⟨rfl, rfl⟩, kind_rRs]
theorem duties_sAg : (ringRd A B).duties (sAg d b j) 0 = {0} := by
  dsimp only [ringRd]; rw [if_pos ⟨rfl, rfl⟩, kind_sAg]
theorem duties_rAg : (ringRd A B).duties (rAg d b j) 0 = {0} := by
  dsimp only [ringRd]; rw [if_pos ⟨rfl, rfl⟩, kind_rAg]
theorem duties_later (g : GSem nD τ sig) : ∀ r, 1 ≤ r → (ringRd A B).duties g r = ∅ :=
  fun r hr => by dsimp only [ringRd]; exact if_neg fun h => by omega
theorem duties_no (g : GSem nD τ sig) (h : kind g.2 = .no) (r : ℕ) : (ringRd A B).duties g r = ∅ := by
  dsimp only [ringRd]; rw [h]; exact ite_self _

theorem amount_bar : (ringRd A B).amount (barC d) 0 a = 1 := by dsimp only [ringRd]; rw [kind_bar]
theorem amount_sRs : (ringRd A B).amount (sRs d b k cc) 0 a = nRs b k := by dsimp only [ringRd]; rw [kind_sRs]
theorem amount_rRs : (ringRd A B).amount (rRs d b k cc) 0 a = nRs b k := by dsimp only [ringRd]; rw [kind_rRs]
theorem amount_sAg : (ringRd A B).amount (sAg d b j) 0 a = nAg b j := by dsimp only [ringRd]; rw [kind_sAg]
theorem amount_rAg : (ringRd A B).amount (rAg d b j) 0 a = nAg b j := by dsimp only [ringRd]; rw [kind_rAg]

/-- A cell with the one duty `0` expects its amount and holds its payload. -/
theorem expect_one {g : GSem nD τ sig} {n : ℕ} (h : (ringRd A B).duties g 0 = {0}) (hn : (ringRd A B).amount g 0 0 = n) :
    (ringRd A B).expect g 0 = n := by
  unfold Schedule.expect Schedule.amountOf; rw [h, Finset.sum_singleton, hn]
theorem expect_bar : (ringRd A B).expect (barC d) 0 = 3 := by
  unfold Schedule.expect Schedule.amountOf
  rw [duties_bar, Finset.sum_congr rfl fun a _ => amount_bar A B d a]; rfl

theorem payload_bar : (ringRd A B).payload (barC d) 0 a = lendAx (pa a d) a := by dsimp only [ringRd]; rw [kind_bar]
theorem payload_sRs : (ringRd A B).payload (sRs d b k cc) 0 a = backRs d b k cc := by dsimp only [ringRd]; rw [kind_sRs]
theorem payload_rRs : (ringRd A B).payload (rRs d b k cc) 0 a = landedRs A B d b k cc := by dsimp only [ringRd]; rw [kind_rRs]
theorem payload_sAg : (ringRd A B).payload (sAg d b j) 0 a = backAg A B d b j := by dsimp only [ringRd]; rw [kind_sAg]
theorem payload_rAg : (ringRd A B).payload (rAg d b j) 0 a = landedAg A B d b j := by dsimp only [ringRd]; rw [kind_rAg]

theorem rest_one {g : GSem nD τ sig} {P : sProp 𝕄} (h : (ringRd A B).duties g 0 = {0}) (hp : (ringRd A B).payload g 0 0 = P) :
    bigSep ((ringRd A B).duties g 0 \ ∅) (fun a => (ringRd A B).payload g 0 a) = P := by
  rw [Finset.sdiff_empty, h, bigSep_singleton, hp]
theorem rest_bar : bigSep ((ringRd A B).duties (barC d) 0 \ ∅) (fun a => (ringRd A B).payload (barC d) 0 a)
    = bigSep Finset.univ fun a : Fin 3 => lendAx (F := F) (pa a d) a := by
  rw [Finset.sdiff_empty, duties_bar]; exact bigSep_congr fun a _ => payload_bar A B d a
end Sched

/-! ## Levels -/

def L (g : GSem nD τ sig) : Finset Unit := if g.1.2 = .tc then {()} else ∅
/-- Barrier cells at 1, the receive cells of exchange `t` at `2 + t`, all else at 0. -/
def lv (g : GSem nD τ sig) (_ : Unit) : ℕ := match kind g.2 with
  | .bar => 1
  | .rRs _ k _ => 2 + k.val
  | .rAg _ j => 5 + j.val
  | _ => 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Ring
-- ==== Proof.State.lean ====
/- The state of a device between two operations of the kernel. The program is a fixed list of events; after `pc` of
   them the phase `at pc` says how far each band and column half has come, and `St` says what the device then holds. -/
module

public import proofs.«01_k».proof.Proof.Schedule

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Phases -/

/-- An event: the right factor copied, the next band's rows of the left factor copied, a band's product written, a step
    of one half of a band's reduction (send, send done, landed, added), a step of a band's gathering (first the
    function applied, then send, send done, landed). -/
inductive Ev where
  | bb | aa | z (b : Fin 3) | rs (b : Fin 3) (cc : Fin 2) | ag (b : Fin 3)
deriving DecidableEq

/-- How many events of each kind have been. -/
structure Phase where
  bb : ℕ
  aa : ℕ
  rs : Fin 3 → Fin 2 → ℕ
  ag : Fin 3 → ℕ

/-- The phase after one more event; writing a band's product begins both its halves. -/
def Phase.bump (p : Phase) : Ev → Phase
  | .bb => { p with bb := p.bb + 1 }
  | .aa => { p with aa := p.aa + 1 }
  | .z b => { p with rs := fun b' cc' => if b' = b then p.rs b' cc' + 1 else p.rs b' cc' }
  | .rs b cc => { p with rs := fun b' cc' => if b' = b ∧ cc' = cc then p.rs b' cc' + 1 else p.rs b' cc' }
  | .ag b => { p with ag := fun b' => if b' = b then p.ag b' + 1 else p.ag b' }

/-- The six halves in the order of the later steps. -/
def order : List Ev := [.rs 0 0, .rs 1 0, .rs 2 0, .rs 0 1, .rs 1 1, .rs 2 1]

/-- Sent, landed and added, one after the other. -/
def finish (l : List Ev) : List Ev := l.flatMap fun e => [e, e, e]

/-- One step of the gathering: the three bands sent, then each waited for. -/
def gather : List Ev := [.ag 0, .ag 1, .ag 2, .ag 0, .ag 0, .ag 1, .ag 1, .ag 2, .ag 2]

/-- The kernel's events in the order of its text. -/
def events : List Ev :=
  [.bb, .aa, .z 0, .rs 0 0, .rs 0 1, .aa, .z 1, .rs 1 0, .rs 1 1, .aa, .z 2, .rs 2 0, .rs 2 1]
    ++ finish [.rs 0 0, .rs 0 1, .rs 1 0, .rs 1 1, .rs 2 0, .rs 2 1]
    ++ order ++ finish order ++ order ++ finish order
    ++ [.ag 0, .ag 1, .ag 2] ++ gather ++ gather ++ gather

def start0 : Phase := ⟨0, 0, fun _ _ => 0, fun _ => 0⟩

/-- The phase after the first `pc` events. -/
def phase (pc : ℕ) : Phase := (events.take pc).foldl Phase.bump start0

theorem phase_succ {pc : ℕ} {e : Ev} (h : events[pc]? = some e) : phase (pc + 1) = (phase pc).bump e := by
  unfold phase
  rw [List.take_add_one, h, List.foldl_append]
  rfl

/-! ## What is owed -/

/-- What device `c` owes for the slot of the reduction `x`: the bytes its partner's receive cell waits for. -/
def owedRs (c : Dev nD) (x : Fin 3 × Fin 3 × Fin 2) : CellTallies nD τ sig Unit :=
  tallyAt (rRs (pt c x.1 x.2.1) x.1 x.2.1 x.2.2) () (nRs x.1 x.2.1)

def owedAg (c : Dev nD) (y : Fin 3 × Fin 3) : CellTallies nD τ sig Unit :=
  tallyAt (rAg (pt c y.1 (back y.2)) y.1 y.2) () (nAg y.1 y.2)

/-- What device `c` still owes at a phase: the slots not yet sent. -/
def owed (c : Dev nD) (p : Phase) : CellTallies nD τ sig Unit :=
  (∑ x : Fin 3 × Fin 3 × Fin 2, if p.rs x.1 x.2.2 ≤ 1 + 4 * x.2.1.val then owedRs c x else 0)
    + ∑ y : Fin 3 × Fin 3, if p.ag y.1 ≤ 1 + 3 * y.2.val then owedAg c y else 0

/-- A sum of which one summand falls away. -/
theorem sum_drop {α M : Type} [Fintype α] [DecidableEq α] [AddCommMonoid M] (a : α) (f g : α → M)
    (ha : g a = 0) (hne : ∀ x, x ≠ a → g x = f x) : ∑ x, f x = (∑ x, g x) + f a := by
  rw [← Finset.add_sum_erase _ f (Finset.mem_univ a), ← Finset.add_sum_erase _ g (Finset.mem_univ a), ha, zero_add, add_comm]
  congr 1
  exact Finset.sum_congr rfl fun x hx => (hne x (Finset.ne_of_mem_erase hx)).symm

theorem owed_send_rs (c : Dev nD) (p : Phase) (b k : Fin 3) (cc : Fin 2) (h : p.rs b cc = 1 + 4 * k.val) :
    owed c p = owed c (p.bump (.rs b cc)) + tallyAt (rRs (pt c b k) b k cc) () (nRs b k) := by
  unfold owed
  rw [sum_drop (b, k, cc) _ (fun x => if (p.bump (.rs b cc)).rs x.1 x.2.2 ≤ 1 + 4 * x.2.1.val then owedRs c x else 0)]
  · rw [if_pos h.le, add_right_comm]; rfl
  · exact if_neg (by simp only [Phase.bump, and_self, if_true]; omega)
  · rintro ⟨b', k', cc'⟩ hne
    refine if_congr ?_ rfl rfl
    simp only [Phase.bump]
    split
    · rename_i hb; obtain ⟨rfl, rfl⟩ := hb
      have : k' ≠ k := fun hk => hne (by rw [hk])
      have : k'.val ≠ k.val := fun hk => this (Fin.ext hk)
      omega
    · rfl

theorem owed_send_ag (c : Dev nD) (p : Phase) (b j : Fin 3) (h : p.ag b = 1 + 3 * j.val) :
    owed c p = owed c (p.bump (.ag b)) + tallyAt (rAg (pt c b (back j)) b j) () (nAg b j) := by
  unfold owed
  rw [sum_drop (b, j) _ (fun x => if (p.bump (.ag b)).ag x.1 ≤ 1 + 3 * x.2.val then owedAg c x else 0)]
  · rw [if_pos h.le, add_assoc]; rfl
  · exact if_neg (by simp only [Phase.bump, if_true]; omega)
  · rintro ⟨b', j'⟩ hne
    refine if_congr ?_ rfl rfl
    simp only [Phase.bump]
    split
    · rename_i hb; obtain rfl := hb
      have : j' ≠ j := fun hk => hne (by rw [hk])
      have : j'.val ≠ j.val := fun hk => this (Fin.ext hk)
      omega
    · rfl

theorem owed_same_rs (c : Dev nD) (p : Phase) (b : Fin 3) (cc : Fin 2) (h : p.rs b cc % 4 ≠ 1) :
    owed c (p.bump (.rs b cc)) = owed c p := by
  unfold owed
  congr 1
  refine Finset.sum_congr rfl fun x _ => if_congr ?_ rfl rfl
  simp only [Phase.bump]
  split
  · rename_i hb; rw [hb.1, hb.2]; omega
  · rfl

theorem owed_same_z (c : Dev nD) (p : Phase) (b : Fin 3) (h : ∀ cc, p.rs b cc = 0) :
    owed c (p.bump (.z b)) = owed c p := by
  unfold owed
  congr 1
  refine Finset.sum_congr rfl fun x _ => if_congr ?_ rfl rfl
  simp only [Phase.bump]
  split
  · rename_i hb; rw [hb, h]; omega
  · rfl

theorem owed_same_ag (c : Dev nD) (p : Phase) (b : Fin 3) (h : p.ag b % 3 ≠ 1) :
    owed c (p.bump (.ag b)) = owed c p := by
  unfold owed
  congr 1
  refine Finset.sum_congr rfl fun x _ => if_congr ?_ rfl rfl
  simp only [Phase.bump]
  split
  · rename_i hb; rw [hb]; omega
  · rfl

/-- Only cells of slots not yet sent are owed anything. -/
theorem owed_pos {c : Dev nD} {p : Phase} {g : GSem nD τ sig} {u : Unit} (h : 0 < owed c p g u) :
    (∃ b k cc, p.rs b cc ≤ 1 + 4 * k.val ∧ g = rRs (pt c b k) b k cc) ∨
      (∃ b j, p.ag b ≤ 1 + 3 * j.val ∧ g = rAg (pt c b (back j)) b j) := by
  unfold owed at h
  rw [Pi.add_apply, Finsupp.add_apply, Finset.sum_apply, Finset.sum_apply, Finsupp.finset_sum_apply, Finsupp.finset_sum_apply] at h
  rcases Nat.add_pos_iff_pos_or_pos.mp h with h | h
  · obtain ⟨x, -, hx⟩ := Finset.exists_ne_zero_of_sum_ne_zero h.ne'
    refine .inl ⟨x.1, x.2.1, x.2.2, ?_⟩
    split at hx
    · rename_i hle
      unfold owedRs at hx
      rw [tallyAt_apply] at hx
      by_contra hn
      exact hx (if_neg fun h' => hn ⟨hle, h'.1⟩)
    · exact absurd rfl hx
  · obtain ⟨x, -, hx⟩ := Finset.exists_ne_zero_of_sum_ne_zero h.ne'
    refine .inr ⟨x.1, x.2, ?_⟩
    split at hx
    · rename_i hle
      unfold owedAg at hx
      rw [tallyAt_apply] at hx
      by_contra hn
      exact hx (if_neg fun h' => hn ⟨hle, h'.1⟩)
    · exact absurd rfl hx

/-- Every slot not yet sent lies above level `n`. -/
def Above (p : Phase) (n : ℕ) : Prop :=
  (∀ (b k : Fin 3) (cc : Fin 2), p.rs b cc ≤ 1 + 4 * k.val → n < 2 + k.val) ∧ (∀ b j : Fin 3, p.ag b ≤ 1 + 3 * j.val → n < 5 + j.val)

instance (p : Phase) (n : ℕ) : Decidable (Above p n) := by unfold Above; infer_instance

/-- A device may wait at a cell below everything it owes. -/
theorem mayWait (c : Dev nD) (sm : SemLoc sig) (p : Phase) (n : ℕ) (hsm : lv ((c : Thread nD τ), sm) () ≤ n) (h : Above p n) :
    (levAts L lv : sProp 𝕄) ⊢ MayWait (c : Thread nD τ) sm () (owed c p) := by
  refine MayOwe.of_cut (L := L) (lev := lv) n (fun q hq => by rw [Finset.mem_singleton.mp hq, L_tc]; exact Finset.mem_singleton_self _)
    (fun g u hg => ?_) (fun q hq => by rw [Finset.mem_singleton.mp hq]; exact hsm) (fun g u hg => ?_)
  · rcases owed_pos hg with ⟨b, k, cc, -, rfl⟩ | ⟨b, j, -, rfl⟩ <;> exact Finset.mem_singleton_self _
  · rcases owed_pos hg with ⟨b, k, cc, hle, rfl⟩ | ⟨b, j, hle, rfl⟩
    · dsimp only [lv]; rw [kind_rRs]; exact h.1 b k cc hle
    · dsimp only [lv]; rw [kind_rAg]; exact h.2 b j hle

/-! ## Holdings by phase -/

/-- The kernel's own semaphores, by direction and slot. -/
abbrev Own : Type := Bool × Fin 3 × Fin 6 × Fin 2
abbrev osem : Own → SemLoc sig
  | (false, s) => .dma (sendSem s.1 s.2.1 s.2.2)
  | (true, s) => .dma (recvSem s.1 s.2.1 s.2.2)
/-- All the cells: the barrier's, and those. -/
abbrev csem : Unit ⊕ Own → SemLoc sig
  | .inl _ => .reg barS
  | .inr o => osem o
abbrev kcell (x : Dev nD × (Unit ⊕ Own)) : GSem nD τ sig := ((x.1 : Thread nD τ), csem x.2)

variable (A : Dev nD → Vec F S2048x1024 .bf16) (B : Dev nD → Vec F S1024x2048 .bf16)
variable (K : Dev nD × (Unit ⊕ Own) → ℕ)

/-- The invariants of all cells, that each has reached its round, and the levels. -/
def recs : sProp 𝕄 :=
  iprop((bigSep Finset.univ fun x : Dev nD × (Unit ⊕ Own) => cellInv ER (ringRd A B) (K x) (kcell x))
    ∗ (bigSep Finset.univ fun x : Dev nD × (Unit ⊕ Own) => reached ER (kcell x) 0) ∗ levAts L lv)

instance recs_persistent : BI.Persistent (recs A B K : sProp 𝕄) := by unfold recs; infer_instance

theorem recs_inv (x : Dev nD × (Unit ⊕ Own)) : recs A B K ⊢ cellInv ER (ringRd A B) (K x) (kcell x) := by
  have h : (bigSep Finset.univ fun x : Dev nD × (Unit ⊕ Own) => (cellInv ER (ringRd A B) (K x) (kcell x) : sProp 𝕄))
      ⊢ cellInv ER (ringRd A B) (K x) (kcell x) := bigSep_elim (Finset.mem_univ x)
  unfold recs; iintro ⟨H, -, -⟩; iapply h; iexact H
theorem recs_reached (x : Dev nD × (Unit ⊕ Own)) : recs A B K ⊢ reached ER (kcell x) 0 := by
  have h : (bigSep Finset.univ fun x : Dev nD × (Unit ⊕ Own) => (reached ER (kcell x) 0 : sProp 𝕄)) ⊢ reached ER (kcell x) 0 :=
    bigSep_elim (Finset.mem_univ x)
  unfold recs; iintro ⟨-, H, -⟩; iapply h; iexact H
theorem recs_lev : recs A B K ⊢ (levAts L lv : sProp 𝕄) := by
  unfold recs; iintro ⟨-, -, H⟩; iexact H

/-- A slot of the reduction: not sent; sent; its rows back; its partner's rows landed. -/
def slotRs (c : Dev nD) (b k : Fin 3) (cc : Fin 2) : ℕ → sProp 𝕄
  | 0 => iprop(atPos ER (sRs c b k cc) 0 ∅ 0 ∗ atPos ER (rRs c b k cc) 0 ∅ 0 ∗ dutyTok ER (sRs c b k cc) 0 0
      ∗ dutyTok ER (rRs (pt c b k) b k cc) 0 0 ∗ cred (tallyAt (rRs c b k cc) () (nRs b k)) ∗ ∃ f, cAt (F := F) (pt c b k) b k cc f)
  | 1 => iprop(atPos ER (sRs c b k cc) 0 ∅ 0 ∗ atPos ER (rRs c b k cc) 0 ∅ 0
      ∗ cred (tallyAt (sRs c b k cc) () (nRs b k)) ∗ cred (tallyAt (rRs c b k cc) () (nRs b k)))
  | 2 => iprop(semVal (sRs c b k cc) 0 ∗ backRs c b k cc ∗ atPos ER (rRs c b k cc) 0 ∅ 0 ∗ cred (tallyAt (rRs c b k cc) () (nRs b k)))
  | _ + 3 => iprop(semVal (sRs c b k cc) 0 ∗ backRs c b k cc ∗ semVal (rRs c b k cc) 0 ∗ landedRs A B c b k cc)

/-- A slot of the gathering, likewise. -/
def slotAg (c : Dev nD) (b j : Fin 3) : ℕ → sProp 𝕄
  | 0 => iprop(atPos ER (sAg c b j) 0 ∅ 0 ∗ atPos ER (rAg c b j) 0 ∅ 0 ∗ dutyTok ER (sAg c b j) 0 0
      ∗ dutyTok ER (rAg (pt c b (back j)) b j) 0 0 ∗ cred (tallyAt (rAg c b j) () (nAg b j))
      ∗ ∃ f, oAt (F := F) (pt c b (back j)) (keepO c b ((back j).val + 1)) f)
  | 1 => iprop(atPos ER (sAg c b j) 0 ∅ 0 ∗ atPos ER (rAg c b j) 0 ∅ 0
      ∗ cred (tallyAt (sAg c b j) () (nAg b j)) ∗ cred (tallyAt (rAg c b j) () (nAg b j)))
  | 2 => iprop(semVal (sAg c b j) 0 ∗ atPos ER (rAg c b j) 0 ∅ 0 ∗ cred (tallyAt (rAg c b j) () (nAg b j)))
  | _ + 3 => iprop(semVal (sAg c b j) 0 ∗ semVal (rAg c b j) 0)

/-- After `m` steps of a half of a band: how often the rows held have been halved. -/
def halvings (m : ℕ) : ℕ := if m % 4 = 0 then m / 4 else m / 4 + 1

/-- The partial products held of half `cc` of band `b`. -/
def heldZ (c : Dev nD) (b : Fin 3) (cc : Fin 2) : ℕ → sProp 𝕄
  | 0 => iprop(∃ f, zAt (F := F) c (keepZ c b 0 cc) f)
  | m + 1 => zAt c (keepZ c b (halvings m) cc) (zv A B b (m / 4) c)

/-- The result rows held of band `b`. -/
def heldO (c : Dev nD) (b : Fin 3) : ℕ → sProp 𝕄
  | 0 => iprop(∃ f, oAt (F := F) c (keepO c b 3) f)
  | m + 1 => if m % 3 = 1 then iprop(emp) else oAt c (keepO c b (3 - m / 3)) (outv A B)

/-- A half of a band's reduction after `n` steps. -/
def rsSt (c : Dev nD) (b : Fin 3) (cc : Fin 2) (n : ℕ) : sProp 𝕄 :=
  iprop(heldZ A B c b cc n ∗ bigSep Finset.univ fun k : Fin 3 => slotRs A B c b k cc (n - (1 + 4 * k.val)))

/-- A band's gathering after `n` steps. -/
def agSt (c : Dev nD) (b : Fin 3) (n : ℕ) : sProp 𝕄 :=
  iprop(heldO A B c b n ∗ bigSep Finset.univ fun j : Fin 3 => slotAg (F := F) c b j (n - (1 + 3 * j.val)))

abbrev aM : Memref sig .tc .vmem S2048x1024 .bf16 := Memref.whole cc0_stg0_0
abbrev bM : Memref sig .tc .vmem S1024x2048 .bf16 := Memref.whole cc0_stg1_0
abbrev oM : Memref sig .tc .vmem S2048x2048 .bf16 := Memref.whole cc0_stg2_0
abbrev zM : Memref sig .tc .vmem S2048x2048 .bf16 := Memref.whole cc0_scratch0
abbrev a16M : Memref sig .tc .vmem S2048x1024 .bf16 := Memref.whole cc0_scratch1
abbrev b16M : Memref sig .tc .vmem S1024x2048 .bf16 := Memref.whole cc0_scratch2

/-- The two factors' blocks, and their copies: the right one once copied, the left one's first `aa` bands. -/
def factors (c : Dev nD) (bb aa : ℕ) : sProp 𝕄 :=
  iprop(((aM.view.loc (c : Thread nD τ)) ↦{fullShare} A c) ∗ ((bM.view.loc (c : Thread nD τ)) ↦{fullShare} B c)
    ∗ (∃ f : Vec F S2048x1024 .bf16, ((a16M.view.loc (c : Thread nD τ)) ↦{fullShare} f) ∗ ⌜∀ b : Fin 3, b.val < aa → aRows f b = aRows (A c) b⌝)
    ∗ (∃ f : Vec F S1024x2048 .bf16, ((b16M.view.loc (c : Thread nD τ)) ↦{fullShare} f) ∗ ⌜0 < bb → f = B c⌝))

/-- The cells done with from the start: the barrier's, and those of the slots never used. -/
def idle (c : Dev nD) : sProp 𝕄 :=
  iprop(semVal (barC c) 0 ∗ bigSep Finset.univ fun x : Fin 3 × Fin 3 =>
    iprop(semVal ((c : Thread nD τ), .dma (sendSem x.1 (agT x.2) 1)) 0 ∗ semVal ((c : Thread nD τ), .dma (recvSem x.1 (agT x.2) 1)) 0))

/-- What device `c` holds at phase `p`. -/
def St (c : Dev nD) (p : Phase) : sProp 𝕄 :=
  iprop(recs A B K ∗ (∃ W, owes (c : Thread nD τ) (owed c p) W)
    ∗ (bigSep Finset.univ fun x : Fin 3 × Fin 2 => rsSt A B c x.1 x.2 (p.rs x.1 x.2))
    ∗ (bigSep Finset.univ fun b : Fin 3 => agSt A B c b (p.ag b))
    ∗ factors A B c p.bb p.aa ∗ idle c)

end Cert.KernelIdeal.Ring
-- ==== Proof.Slots.lean ====
/- Taking one slot out of a device's state and putting it back changed; how the held rows split and join. -/
module

public import proofs.«01_k».proof.Proof.State

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Rows split and joined -/

theorem band_split {r n s m r' : ℕ} (c w : ℕ) (hn : n = m + m) (h : (s = r ∧ r' = r + m) ∨ (r' = r ∧ s = r + m)) :
    band r n c w = band s m c w ∪ band r' m c w ∧ Disjoint (band s m c w) (band r' m c w) := by
  constructor
  · ext i
    rw [Finset.mem_union, mem_band, mem_band, mem_band]
    omega
  · rw [Finset.disjoint_left]
    intro i hi hj
    rw [mem_band] at hi hj
    omega

theorem keepZ_split (d : Dev nD) (b k : Fin 3) (cc : Fin 2) :
    keepZ d b k.val cc = keepZ d b (k.val + 1) cc ∪ sentZ d b k.val cc ∧ Disjoint (keepZ d b (k.val + 1) cc) (sentZ d b k.val cc) :=
  band_split _ _ (halves d b k).1 (halves d b k).2

theorem keepO_split (d : Dev nD) (b k : Fin 3) :
    keepO d b k.val = keepO d b (k.val + 1) ∪ sentO d b k.val ∧ Disjoint (keepO d b (k.val + 1)) (sentO d b k.val) :=
  band_split _ _ (halves d b k).1 (halves d b k).2

theorem zAt_split (d : Dev nD) (b k : Fin 3) (cc : Fin 2) (f : Vec F S2048x2048 .bf16) :
    (zAt d (keepZ d b k.val cc) f : sProp 𝕄) ⊣⊢ iprop(zAt d (keepZ d b (k.val + 1) cc) f ∗ zAt d (sentZ d b k.val cc) f) := by
  have h := keepZ_split d b k cc
  unfold zAt; rw [h.1]; exact pointsTo_union h.2

theorem oAt_split (d : Dev nD) (b k : Fin 3) (f : Vec F S2048x2048 .bf16) :
    (oAt d (keepO d b k.val) f : sProp 𝕄) ⊣⊢ iprop(oAt d (keepO d b (k.val + 1)) f ∗ oAt d (sentO d b k.val) f) := by
  have h := keepO_split d b k
  unfold oAt; rw [h.1]; exact pointsTo_union h.2

theorem zS_congr {r r' n : ℕ} {cc : Fin 2} (e : r = r') (h : r + n ≤ 2048) (h' : r' + n ≤ 2048) : zS r n cc h = zS r' n cc h' := by
  subst e; rfl

theorem oS_congr {r r' n : ℕ} (e : r = r') (h : r + n ≤ 2048) (h' : r' + n ≤ 2048) : oS r n h = oS r' n h' := by
  subst e; rfl

variable (A : Dev nD → Vec F S2048x1024 .bf16) (B : Dev nD → Vec F S1024x2048 .bf16)
variable (K : Dev nD × (Unit ⊕ Own) → ℕ)

/-! ## One slot of the reduction out of the state -/

theorem slotRs_done (c : Dev nD) (b k : Fin 3) (cc : Fin 2) {q q' : ℕ} (h : 3 ≤ q) (h' : 3 ≤ q') :
    slotRs A B c b k cc q = slotRs A B c b k cc q' := by
  obtain ⟨q, rfl⟩ := Nat.exists_eq_add_of_le' h
  obtain ⟨q', rfl⟩ := Nat.exists_eq_add_of_le' h'
  rfl

theorem slotAg_done (c : Dev nD) (b j : Fin 3) {q q' : ℕ} (h : 3 ≤ q) (h' : 3 ≤ q') :
    slotAg (F := F) c b j q = slotAg c b j q' := by
  obtain ⟨q, rfl⟩ := Nat.exists_eq_add_of_le' h
  obtain ⟨q', rfl⟩ := Nat.exists_eq_add_of_le' h'
  rfl

/-- The other slots of a half while slot `k` is under way. -/
def otherRs (c : Dev nD) (b : Fin 3) (cc : Fin 2) (k : Fin 3) (n : ℕ) : sProp 𝕄 :=
  bigSep (Finset.univ.erase k) fun k' : Fin 3 => slotRs A B c b k' cc (n - (1 + 4 * k'.val))

def otherAg (c : Dev nD) (b j : Fin 3) (n : ℕ) : sProp 𝕄 :=
  bigSep (Finset.univ.erase j) fun j' : Fin 3 => slotAg (F := F) c b j' (n - (1 + 3 * j'.val))

theorem otherRs_succ (c : Dev nD) (b : Fin 3) (cc : Fin 2) (k : Fin 3) (q : ℕ) (hq : q ≤ 3) :
    otherRs A B c b cc k (1 + 4 * k.val + q + 1) = otherRs A B c b cc k (1 + 4 * k.val + q) := by
  refine bigSep_congr fun k' hk' => ?_
  have hne : k'.val ≠ k.val := fun h => Finset.ne_of_mem_erase hk' (Fin.ext h)
  rcases Nat.lt_or_gt_of_ne hne with h | h
  · exact slotRs_done A B c b k' cc (by omega) (by omega)
  · rw [show 1 + 4 * k.val + q + 1 - (1 + 4 * k'.val) = 0 by omega, show 1 + 4 * k.val + q - (1 + 4 * k'.val) = 0 by omega]

theorem otherAg_succ (c : Dev nD) (b j : Fin 3) (q : ℕ) (hq : q ≤ 2) :
    otherAg (F := F) c b j (1 + 3 * j.val + q + 1) = otherAg c b j (1 + 3 * j.val + q) := by
  refine bigSep_congr fun j' hj' => ?_
  have hne : j'.val ≠ j.val := fun h => Finset.ne_of_mem_erase hj' (Fin.ext h)
  rcases Nat.lt_or_gt_of_ne hne with h | h
  · exact slotAg_done c b j' (by omega) (by omega)
  · rw [show 1 + 3 * j.val + q + 1 - (1 + 3 * j'.val) = 0 by omega, show 1 + 3 * j.val + q - (1 + 3 * j'.val) = 0 by omega]

theorem rsSt_eq (c : Dev nD) (b : Fin 3) (cc : Fin 2) (k : Fin 3) (q : ℕ) :
    rsSt A B c b cc (1 + 4 * k.val + q)
      = iprop(heldZ A B c b cc (1 + 4 * k.val + q) ∗ slotRs A B c b k cc q ∗ otherRs A B c b cc k (1 + 4 * k.val + q)) := by
  unfold rsSt otherRs
  rw [bigSep_univ_at _ k, Nat.add_sub_cancel_left]

theorem agSt_eq (c : Dev nD) (b j : Fin 3) (q : ℕ) :
    agSt A B c b (1 + 3 * j.val + q)
      = iprop(heldO A B c b (1 + 3 * j.val + q) ∗ slotAg (F := F) c b j q ∗ otherAg (F := F) c b j (1 + 3 * j.val + q)) := by
  unfold agSt otherAg
  rw [bigSep_univ_at _ j, Nat.add_sub_cancel_left]

/-- All of the state but one half's, what is owed, and the records. -/
def awayRs (c : Dev nD) (p : Phase) (b : Fin 3) (cc : Fin 2) : sProp 𝕄 :=
  iprop((bigSep (Finset.univ.erase (b, cc)) fun x : Fin 3 × Fin 2 => rsSt A B c x.1 x.2 (p.rs x.1 x.2))
    ∗ (bigSep Finset.univ fun b : Fin 3 => agSt A B c b (p.ag b)) ∗ factors A B c p.bb p.aa ∗ idle (F := F) c)

theorem awayRs_bump (c : Dev nD) (p : Phase) (b : Fin 3) (cc : Fin 2) :
    awayRs A B c (p.bump (.rs b cc)) b cc = awayRs A B c p b cc := by
  unfold awayRs
  congr 1
  refine bigSep_congr fun x hx => ?_
  have hne : ¬(x.1 = b ∧ x.2 = cc) := fun h => Finset.ne_of_mem_erase hx (Prod.ext h.1 h.2)
  simp only [Phase.bump, if_neg hne]

theorem St_rs (c : Dev nD) (p : Phase) (b : Fin 3) (cc : Fin 2) :
    St A B K c p ⊣⊢ iprop(recs A B K ∗ (∃ W, owes (c : Thread nD τ) (owed c p) W) ∗ rsSt A B c b cc (p.rs b cc) ∗ awayRs A B c p b cc) := by
  unfold St awayRs
  rw [bigSep_univ_at _ (b, cc)]
  constructor
  · iintro ⟨H1, H2, ⟨H3, H4⟩, H5, H6, H7⟩
    iframe
  · iintro ⟨H1, H2, H3, H4, H5, H6, H7⟩
    iframe

/-- All of the state but one band's gathering, what is owed, and the records. -/
def awayAg (c : Dev nD) (p : Phase) (b : Fin 3) : sProp 𝕄 :=
  iprop((bigSep Finset.univ fun x : Fin 3 × Fin 2 => rsSt A B c x.1 x.2 (p.rs x.1 x.2))
    ∗ (bigSep (Finset.univ.erase b) fun b : Fin 3 => agSt A B c b (p.ag b)) ∗ factors A B c p.bb p.aa ∗ idle (F := F) c)

theorem awayAg_bump (c : Dev nD) (p : Phase) (b : Fin 3) :
    awayAg A B c (p.bump (.ag b)) b = awayAg A B c p b := by
  unfold awayAg
  congr 2
  refine bigSep_congr fun x hx => ?_
  simp only [Phase.bump, if_neg (Finset.ne_of_mem_erase hx)]

theorem St_ag (c : Dev nD) (p : Phase) (b : Fin 3) :
    St A B K c p ⊣⊢ iprop(recs A B K ∗ (∃ W, owes (c : Thread nD τ) (owed c p) W) ∗ agSt A B c b (p.ag b) ∗ awayAg A B c p b) := by
  unfold St awayAg
  rw [bigSep_univ_at _ b]
  constructor
  · iintro ⟨H1, H2, H3, ⟨H4, H5⟩, H6, H7⟩
    iframe
  · iintro ⟨H1, H2, H3, H4, H5, H6, H7⟩
    iframe

/-- The half's state and the phase that follows, one step of slot `k` on. -/
theorem bump_rs (p : Phase) (b : Fin 3) (cc : Fin 2) : (p.bump (.rs b cc)).rs b cc = p.rs b cc + 1 := by
  simp [Phase.bump]
theorem bump_ag (p : Phase) (b : Fin 3) : (p.bump (.ag b)).ag b = p.ag b + 1 := by
  simp [Phase.bump]

/-- Slot `k` of a half after `q` steps, taken out of the state. -/
theorem St_slotRs (c : Dev nD) (p : Phase) (b k : Fin 3) (cc : Fin 2) (q : ℕ) (hp : p.rs b cc = 1 + 4 * k.val + q) :
    St A B K c p ⊢ iprop(recs A B K ∗ (∃ W, owes (c : Thread nD τ) (owed c p) W)
      ∗ heldZ A B c b cc (1 + 4 * k.val + q) ∗ slotRs A B c b k cc q
      ∗ otherRs A B c b cc k (1 + 4 * k.val + q) ∗ awayRs A B c p b cc) := by
  refine (St_rs A B K c p b cc).1.trans ?_
  rw [hp, rsSt_eq]
  iintro ⟨H1, H2, ⟨H3, H4, H5⟩, H6⟩
  iframe

/-- The same put back after one more step. -/
theorem slotRs_St (c : Dev nD) (p : Phase) (b k : Fin 3) (cc : Fin 2) (q : ℕ) (hq : q ≤ 3) (hp : p.rs b cc = 1 + 4 * k.val + q) :
    iprop(recs A B K ∗ (∃ W, owes (c : Thread nD τ) (owed c (p.bump (.rs b cc))) W)
      ∗ heldZ A B c b cc (1 + 4 * k.val + q + 1) ∗ slotRs A B c b k cc (q + 1)
      ∗ otherRs A B c b cc k (1 + 4 * k.val + q) ∗ awayRs A B c p b cc) ⊢ St A B K c (p.bump (.rs b cc)) := by
  refine .trans ?_ (St_rs A B K c _ b cc).2
  rw [bump_rs, hp, awayRs_bump, show 1 + 4 * k.val + q + 1 = 1 + 4 * k.val + (q + 1) from rfl, rsSt_eq,
    show 1 + 4 * k.val + (q + 1) = 1 + 4 * k.val + q + 1 from rfl, otherRs_succ A B c b cc k q hq]
  iintro ⟨H1, H2, H3, H4, H5, H6⟩
  iframe

theorem St_slotAg (c : Dev nD) (p : Phase) (b j : Fin 3) (q : ℕ) (hp : p.ag b = 1 + 3 * j.val + q) :
    St A B K c p ⊢ iprop(recs A B K ∗ (∃ W, owes (c : Thread nD τ) (owed c p) W)
      ∗ heldO A B c b (1 + 3 * j.val + q) ∗ slotAg (F := F) c b j q
      ∗ otherAg (F := F) c b j (1 + 3 * j.val + q) ∗ awayAg A B c p b) := by
  refine (St_ag A B K c p b).1.trans ?_
  rw [hp, agSt_eq]
  iintro ⟨H1, H2, ⟨H3, H4, H5⟩, H6⟩
  iframe

theorem slotAg_St (c : Dev nD) (p : Phase) (b j : Fin 3) (q : ℕ) (hq : q ≤ 2) (hp : p.ag b = 1 + 3 * j.val + q) :
    iprop(recs A B K ∗ (∃ W, owes (c : Thread nD τ) (owed c (p.bump (.ag b))) W)
      ∗ heldO A B c b (1 + 3 * j.val + q + 1) ∗ slotAg (F := F) c b j (q + 1)
      ∗ otherAg (F := F) c b j (1 + 3 * j.val + q) ∗ awayAg A B c p b) ⊢ St A B K c (p.bump (.ag b)) := by
  refine .trans ?_ (St_ag A B K c _ b).2
  rw [bump_ag, hp, awayAg_bump, show 1 + 3 * j.val + q + 1 = 1 + 3 * j.val + (q + 1) from rfl, agSt_eq,
    show 1 + 3 * j.val + (q + 1) = 1 + 3 * j.val + q + 1 from rfl, otherAg_succ c b j q hq]
  iintro ⟨H1, H2, H3, H4, H5, H6⟩
  iframe

end Cert.KernelIdeal.Ring
-- ==== Proof.StepsRs.lean ====
/- The operations of one slot of the reduction, each from the state before it to the state after it. -/
module

public import proofs.«01_k».proof.Proof.Slots

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (A : Dev nD → Vec F S2048x1024 .bf16) (B : Dev nD → Vec F S1024x2048 .bf16)
variable (K : Dev nD × (Unit ⊕ Own) → ℕ)
variable {α : Type}

/-- The weakest precondition of a program on device `c`'s core. -/
abbrev wpc (c : Dev nD) (e : Prog (TpuEff nD τ sig (Elt F) Λ₀ .tc) α) (Q : α → sProp 𝕄) : sProp 𝕄 :=
  wp frame (wpE (defs₀ (F := F)) 𝒱₀ (c : Thread nD τ) none) Set.univ e Q

theorem nRs_eq (b k : Fin 3) (cc : Fin 2) : (commS b k cc).view.dmaCredit = nRs b k := rfl
theorem nRs_zS (b k : Fin 3) (cc : Fin 2) (r : ℕ) (h : r + hs b (k.val + 1) ≤ 2048) : (zS r (hs b (k.val + 1)) cc h).view.dmaCredit = nRs b k := by
  fin_cases b <;> fin_cases k <;> rfl

theorem heldZ_ready (c : Dev nD) (b k : Fin 3) (cc : Fin 2) :
    heldZ A B c b cc (1 + 4 * k.val) = zAt c (keepZ c b k.val cc) (zv A B b k.val c) := by
  rw [show 1 + 4 * k.val = 4 * k.val + 1 by omega]
  show zAt c (keepZ c b (halvings (4 * k.val)) cc) (zv A B b (4 * k.val / 4) c) = _
  rw [show halvings (4 * k.val) = k.val by unfold halvings; rw [if_pos (by omega)]; omega, show 4 * k.val / 4 = k.val by omega]

theorem heldZ_sent (c : Dev nD) (b k : Fin 3) (cc : Fin 2) {q : ℕ} (h : 1 ≤ q) (h' : q ≤ 3) :
    heldZ A B c b cc (1 + 4 * k.val + q) = zAt c (keepZ c b (k.val + 1) cc) (zv A B b k.val c) := by
  rw [show 1 + 4 * k.val + q = 4 * k.val + q + 1 by omega]
  show zAt c (keepZ c b (halvings (4 * k.val + q)) cc) (zv A B b ((4 * k.val + q) / 4) c) = _
  rw [show halvings (4 * k.val + q) = k.val + 1 by unfold halvings; rw [if_neg (by omega)]; omega, show (4 * k.val + q) / 4 = k.val by omega]

theorem heldZ_next (c : Dev nD) (b k : Fin 3) (cc : Fin 2) :
    heldZ A B c b cc (1 + 4 * (k.val + 1)) = zAt c (keepZ c b (k.val + 1) cc) (zv A B b (k.val + 1) c) := by
  rw [show 1 + 4 * (k.val + 1) = 4 * (k.val + 1) + 1 by omega]
  show zAt c (keepZ c b (halvings (4 * (k.val + 1))) cc) (zv A B b (4 * (k.val + 1) / 4) c) = _
  rw [show halvings (4 * (k.val + 1)) = k.val + 1 by unfold halvings; rw [if_pos (by omega)]; omega, show 4 * (k.val + 1) / 4 = k.val + 1 by omega]

theorem zS_read_congr {r r' n : ℕ} {cc : Fin 2} (e : r = r') (h : r + n ≤ 2048) (h' : r' + n ≤ 2048) (f : Vec F S2048x2048 .bf16) :
    (zS r n cc h).view.read (Elt F) f = (zS r' n cc h').view.read (Elt F) f := by
  subst e; rfl

theorem slotRs_one (c : Dev nD) (b k : Fin 3) (cc : Fin 2) : slotRs A B c b k cc (0 + 1)
    = iprop(atPos ER (sRs c b k cc) 0 ∅ 0 ∗ atPos ER (rRs c b k cc) 0 ∅ 0
      ∗ cred (tallyAt (sRs c b k cc) () (nRs b k)) ∗ cred (tallyAt (rRs c b k cc) () (nRs b k))) := rfl
theorem slotRs_two (c : Dev nD) (b k : Fin 3) (cc : Fin 2) : slotRs A B c b k cc (1 + 1)
    = iprop(semVal (sRs c b k cc) 0 ∗ backRs c b k cc ∗ atPos ER (rRs c b k cc) 0 ∅ 0 ∗ cred (tallyAt (rRs c b k cc) () (nRs b k))) := rfl
theorem slotRs_three (c : Dev nD) (b k : Fin 3) (cc : Fin 2) : slotRs A B c b k cc (2 + 1)
    = iprop(semVal (sRs c b k cc) 0 ∗ backRs c b k cc ∗ semVal (rRs c b k cc) 0 ∗ landedRs A B c b k cc) := rfl

/-- The send of slot `k`: half the rows leave, the partner's landing buffer with them. -/
theorem step_send_rs (c : Dev nD) (p : Phase) (b k : Fin 3) (cc : Fin 2) (hp : p.rs b cc = 1 + 4 * k.val)
    (src dst : Memref sig .tc .vmem ⟨2, ![hs b (k.val + 1), 1024]⟩ .bf16) (dev : Dev nD) (sS sR : DmaSem sig)
    (hsrc : src = zS (sOff c b k.val) (hs b (k.val + 1)) cc (sOff_inb c b k)) (hdst : dst = commS b k cc) (hdev : dev = pt c b k)
    (hsS : sS = sendSem b (rsT k) cc) (hsR : sR = recvSem b (rsT k) cc)
    {h₀ h₁ h₂ h₃} {e : PUnit → Prog (TpuEff nD τ sig (Elt F) Λ₀ .tc) α}
    {Q : α → sProp 𝕄} (hnext : St A B K c (p.bump (.rs b cc)) ⊢ wpc c (e ⟨⟩) Q) :
    St A B K c p ⊢ wpc c (.op (.enqueueDma src (.remote (Dev.tc dev) dst (.dma sS) h₀) (.dma sR) h₁ h₂ h₃) e) Q := by
  subst hsrc hdst hdev hsS hsR
  refine (St_slotRs A B K c p b k cc 0 hp).trans ?_
  rw [Nat.add_zero, heldZ_ready]
  unfold slotRs
  iintro ⟨#Hr, ⟨%W, Ho⟩, Hz, ⟨HaS, HaR, HtS, HtR, Hc, ⟨%f, Hd⟩⟩, Hoth, Haw⟩
  ihave Hz := (zAt_split c b k cc _).1 $$ Hz
  icases Hz with ⟨Hz, Hs⟩
  ihave #HiS := (recs_inv A B K (c, .inr (false, b, rsT k, cc))) $$ Hr
  ihave #HiR := (recs_inv A B K (pt c b k, .inr (true, b, rsT k, cc))) $$ Hr
  ihave #HrS := (recs_reached A B K (c, .inr (false, b, rsT k, cc))) $$ Hr
  ihave #HrR := (recs_reached A B K (pt c b k, .inr (true, b, rsT k, cc))) $$ Hr
  iapply (Rounds.wp_send_pointsTo 𝒱₀ ER (ringRd A B) (c : Thread nD τ) none (c' := (pt c b k : Thread nD τ))
      (src := zS (sOff c b k.val) (hs b (k.val + 1)) cc (sOff_inb c b k)) (dst := commS b k cc)
      (sS := .dma (sendSem b (rsT k) cc)) (sem := .dma (recvSem b (rsT k) cc))
      (q := fullShare) (fs := zv A B b k.val c) (fd := f)
      (r₁ := 0) (r₂ := 0) (d₁ := 0) (d₂ := 0)
      (κ₁ := K (c, .inr (false, b, rsT k, cc))) (κ₂ := K (pt c b k, .inr (true, b, rsT k, cc)))
      (by rw [duties_sRs]; exact Finset.mem_singleton_self _) (by rw [duties_rRs]; exact Finset.mem_singleton_self _)
      () () (nRs b k) rfl (amount_sRs A B c b k cc 0) (amount_rRs A B (pt c b k) b k cc 0)
      (owed c (p.bump (.rs b cc))) (owed_send_rs c p b k cc hp)
      (by
        rw [payload_sRs, zS_set]
        unfold backRs; iintro H; iexists _; iexact H)
      (by
        rw [payload_rRs]
        unfold landedRs; iintro H; iexists _
        isplitl [H]; · iexact H
        ipureintro
        rw [View.read_write_univ, pt_pt]
        exact zS_read_congr (sOff_eq c b k) _ _ _)
      (by routes)) $$ [Hs Hd Ho HtS HtR]
  · isplitr; · iexact HiS
    isplitr; · iexact HiR
    isplitl [Hs]; · rw [zS_set]; iexact Hs
    isplitl [Hd]; · iexact Hd
    isplitl [Ho]; · iexact Ho
    isplitl [HtS]; · iexact HtS
    isplitr; · iexact HrS
    isplitl [HtR]; · iexact HtR
    iexact HrR
  iintro ⟨HcS, Ho⟩
  iapply hnext
  iapply (slotRs_St A B K c p b k cc 0 (by omega) hp)
  rw [heldZ_sent A B c b k cc (q := 0 + 1) (by omega) (by omega), slotRs_one]
  isplitr; · iexact Hr
  isplitl [Ho]; · iexists W; iexact Ho
  isplitl [Hz]; · iexact Hz
  isplitl [HaS HaR HcS Hc]; · iframe
  isplitl [Hoth]; · iexact Hoth
  iexact Haw

/-- A wait at one of the kernel's own cells: its one message done, the cell is closed and what it hands over is held. -/
theorem wait_cell (c : Dev nD) (p : Phase) (x : Own) (sem : DmaSem sig) (hsem : osem x = .dma sem) {n l : ℕ} {P : sProp 𝕄}
    (hd : (ringRd A B).duties (kcell (c, .inr x)) 0 = {0}) (hn : (ringRd A B).amount (kcell (c, .inr x)) 0 0 = n)
    (hpay : (ringRd A B).payload (kcell (c, .inr x)) 0 0 = P)
    (hl : lv (kcell (c, .inr x)) () ≤ l) (hab : Above p l)
    {s₁ s₂ : Shape} {src : Memref sig .tc .vmem s₁ .bf16} {dst : Memref sig .tc .vmem s₂ .bf16} (hcr : dst.view.dmaCredit = n)
    {h₁ h₂} {e : PUnit → Prog (TpuEff nD τ sig (Elt F) Λ₀ .tc) α} {Q : α → sProp 𝕄} :
    iprop(recs A B K ∗ (∃ W, owes (c : Thread nD τ) (owed c p) W) ∗ cred (tallyAt (kcell (c, .inr x)) () n) ∗ atPos ER (kcell (c, .inr x)) 0 ∅ 0)
      ⊢ iprop((((∃ W, owes (c : Thread nD τ) (owed c p) W) ∗ semVal (kcell (c, .inr x)) 0 ∗ P) -∗ wpc c (e ⟨⟩) Q)
        -∗ wpc c (.op (.waitDma2 sem src dst h₁ h₂) e) Q) := by
  have hg : kcell (c, .inr x) = ((c : Thread nD τ), .dma sem) := by dsimp only [kcell, csem]; rw [hsem]
  iintro ⟨#Hr, ⟨%W, Ho⟩, Hc, Ha⟩ Hk
  ihave #Hi := (recs_inv A B K (c, .inr x)) $$ Hr
  ihave #Hl := (recs_lev A B K) $$ Hr
  ihave #Hm := (mayWait (F := F) c (.dma sem) p l (by rw [← hg]; exact hl) hab) $$ Hl
  rw [hg] at hd hn hpay ⊢
  iapply (Rounds.wp_wait_rest_token 𝒱₀ ER (ringRd A B) (c : Thread nD τ) none (κ := K (c, .inr x))
      (wpE_waitDma2_eq 𝒱₀ (c : Thread nD τ) none Set.univ) (Set.mem_univ _) () (O := owed c p) (W := W) (R := 0) (m := 0) (T := ∅)
      (by rw [Nat.zero_add, expect_one A B hd hn, hcr])) $$ [Hc Ho Ha]
  · isplitr; · iexact Hi
    isplitl [Hc]; · rw [hcr]; iexact Hc
    isplitl [Ho]; · iexact Ho
    isplitr; · iexact Hm
    iexact Ha
  rw [rest_one A B hd hpay]
  iintro ⟨Ho, Ha, -, HP⟩
  imod (Rounds.cell_close ER (ringRd A B) (Set.mem_univ (K (c, .inr x))) (fun h => h) (R := 0 + 1) (duties_later A B ((c : Thread nD τ), .dma sem))) $$ [Ha] with Hv
  · isplitr; · iexact Hi
    iexact Ha
  iapply Hk
  isplitl [Ho]; · iexists _; iexact Ho
  isplitl [Hv]; · iexact Hv
  iexact HP

/-- The wait for a send: its rows are back. -/
theorem step_waitS_rs (c : Dev nD) (p : Phase) (b k : Fin 3) (cc : Fin 2) (hp : p.rs b cc = 1 + 4 * k.val + 1) (hab : Above p 0)
    (sem : DmaSem sig) (hsem : sem = sendSem b (rsT k) cc)
    {s₁ s₂ : Shape} {src : Memref sig .tc .vmem s₁ .bf16} {dst : Memref sig .tc .vmem s₂ .bf16} (hcr : dst.view.dmaCredit = nRs b k)
    {h₁ h₂} {e : PUnit → Prog (TpuEff nD τ sig (Elt F) Λ₀ .tc) α} {Q : α → sProp 𝕄}
    (hnext : St A B K c (p.bump (.rs b cc)) ⊢ wpc c (e ⟨⟩) Q) :
    St A B K c p ⊢ wpc c (.op (.waitDma2 sem src dst h₁ h₂) e) Q := by
  refine (St_slotRs A B K c p b k cc 1 hp).trans ?_
  rw [heldZ_sent A B c b k cc (by omega) (by omega), show slotRs A B c b k cc 1 = slotRs A B c b k cc (0 + 1) from rfl, slotRs_one]
  iintro ⟨#Hr, Ho, Hz, ⟨HaS, HaR, HcS, Hc⟩, Hoth, Haw⟩
  iapply (wait_cell A B K c p (false, b, rsT k, cc) sem (by rw [hsem]) (n := nRs b k) (l := 0) (P := backRs c b k cc)
    (duties_sRs A B c b k cc) (amount_sRs A B c b k cc 0) (payload_sRs A B c b k cc 0)
    (by dsimp only [lv, kcell, csem]; rw [kind_sRs]) hab hcr) $$ [Ho HcS HaS]
  · isplitr; · iexact Hr
    isplitl [Ho]; · iexact Ho
    isplitl [HcS]; · iexact HcS
    iexact HaS
  iintro ⟨Ho, Hv, HP⟩
  iapply hnext
  iapply (slotRs_St A B K c p b k cc 1 (by omega) hp)
  rw [owed_same_rs c p b cc (by omega), show 1 + 4 * k.val + 1 + 1 = 1 + 4 * k.val + 2 by omega,
    heldZ_sent A B c b k cc (q := 2) (by omega) (by omega), slotRs_two]
  isplitr; · iexact Hr
  isplitl [Ho]; · iexact Ho
  isplitl [Hz]; · iexact Hz
  isplitl [Hv HP HaR Hc]; · iframe
  isplitl [Hoth]; · iexact Hoth
  iexact Haw

/-- The wait for a receive: the partner's rows have landed. -/
theorem step_waitR_rs (c : Dev nD) (p : Phase) (b k : Fin 3) (cc : Fin 2) (hp : p.rs b cc = 1 + 4 * k.val + 2) (hab : Above p (2 + k.val))
    (sem : DmaSem sig) (hsem : sem = recvSem b (rsT k) cc)
    {s₁ s₂ : Shape} {src : Memref sig .tc .vmem s₁ .bf16} {dst : Memref sig .tc .vmem s₂ .bf16} (hcr : dst.view.dmaCredit = nRs b k)
    {h₁ h₂} {e : PUnit → Prog (TpuEff nD τ sig (Elt F) Λ₀ .tc) α} {Q : α → sProp 𝕄}
    (hnext : St A B K c (p.bump (.rs b cc)) ⊢ wpc c (e ⟨⟩) Q) :
    St A B K c p ⊢ wpc c (.op (.waitDma2 sem src dst h₁ h₂) e) Q := by
  refine (St_slotRs A B K c p b k cc 2 hp).trans ?_
  rw [heldZ_sent A B c b k cc (by omega) (by omega), show slotRs A B c b k cc 2 = slotRs A B c b k cc (1 + 1) from rfl, slotRs_two]
  iintro ⟨#Hr, Ho, Hz, ⟨HvS, Hb, HaR, Hc⟩, Hoth, Haw⟩
  iapply (wait_cell A B K c p (true, b, rsT k, cc) sem (by rw [hsem]) (n := nRs b k) (l := 2 + k.val) (P := landedRs A B c b k cc)
    (duties_rRs A B c b k cc) (amount_rRs A B c b k cc 0) (payload_rRs A B c b k cc 0)
    (by dsimp only [lv, kcell, csem]; rw [kind_rRs]) hab hcr) $$ [Ho Hc HaR]
  · isplitr; · iexact Hr
    isplitl [Ho]; · iexact Ho
    isplitl [Hc]; · iexact Hc
    iexact HaR
  iintro ⟨Ho, Hv, HP⟩
  iapply hnext
  iapply (slotRs_St A B K c p b k cc 2 (by omega) hp)
  rw [owed_same_rs c p b cc (by omega), show 1 + 4 * k.val + 2 + 1 = 1 + 4 * k.val + 3 by omega,
    heldZ_sent A B c b k cc (q := 3) (by omega) (by omega), slotRs_three]
  isplitr; · iexact Hr
  isplitl [Ho]; · iexact Ho
  isplitl [Hz]; · iexact Hz
  isplitl [Hv HP HvS Hb]; · iframe
  isplitl [Hoth]; · iexact Hoth
  iexact Haw

/-- What device `d` holds at step `k` of the rows device `c` keeps. -/
abbrev part (c : Dev nD) (b k : Fin 3) (cc : Fin 2) (d : Dev nD) : Vec F ⟨2, ![hs b (k.val + 1), 1024]⟩ .bf16 :=
  (zS (kOff c b (k.val + 1)) (hs b (k.val + 1)) cc (keep_inb c b k)).view.read (Elt F) (zv A B b k.val d)

/-- Loading the rows kept. -/
theorem step_load_z (c : Dev nD) (p : Phase) (b k : Fin 3) (cc : Fin 2) (hp : p.rs b cc = 1 + 4 * k.val + 3)
    {off : Fin 2 → ℕ} (hoff : off = ![kOff c b (k.val + 1), 1024 * cc.val])
    {inb : ∀ a, off a + (![hs b (k.val + 1), 1024] : Fin 2 → ℕ) a ≤ S2048x2048.size a}
    {hl} {e : Vec F ⟨2, ![hs b (k.val + 1), 1024]⟩ .bf16 → Prog (TpuEff nD τ sig (Elt F) Λ₀ .tc) α} {Q : α → sProp 𝕄}
    (hnext : St A B K c p ⊢ wpc c (e (part A B c b k cc c)) Q) :
    St A B K c p ⊢ wpc c (.op (.load zM (Rect.unit (s := S2048x2048) off ![hs b (k.val + 1), 1024] inb).toLoadRect hl) e) Q := by
  subst hoff
  refine (St_rs A B K c p b cc).1.trans ?_
  rw [hp, rsSt_eq, heldZ_sent A B c b k cc (by omega) (by omega)]
  iintro ⟨Hr, Ho, ⟨Hz, Hs, Hoth⟩, Haw⟩
  iapply (wp_load_rect 𝒱₀ (c : Thread nD τ) none Set.univ (m := zM)
    (r := Rect.unit (s := S2048x2048) ![kOff c b (k.val + 1), 1024 * cc.val] ![hs b (k.val + 1), 1024] inb) (S := keepZ c b (k.val + 1) cc)
    ((zS_set (keep_inb c b k)).le)) $$ Hz
  iintro Hz
  iapply hnext
  iapply (St_rs A B K c p b cc).2
  rw [hp, rsSt_eq, heldZ_sent A B c b k cc (by omega) (by omega)]
  iframe

/-- Loading the rows landed. -/
theorem step_load_comm (c : Dev nD) (p : Phase) (b k : Fin 3) (cc : Fin 2) (hp : p.rs b cc = 1 + 4 * k.val + 3)
    {m : Memref sig .tc .vmem ⟨2, ![hs b (k.val + 1), 2048]⟩ .bf16} (hm : m = commM b k)
    {off : Fin 2 → ℕ} (hoff : off = ![0, 1024 * cc.val])
    {inb : ∀ a, off a + (![hs b (k.val + 1), 1024] : Fin 2 → ℕ) a ≤ (⟨2, ![hs b (k.val + 1), 2048]⟩ : Shape).size a}
    {hl} {e : Vec F ⟨2, ![hs b (k.val + 1), 1024]⟩ .bf16 → Prog (TpuEff nD τ sig (Elt F) Λ₀ .tc) α} {Q : α → sProp 𝕄}
    (hnext : St A B K c p ⊢ wpc c (e (part A B c b k cc (pt c b k))) Q) :
    St A B K c p ⊢ wpc c (.op (.load m (Rect.unit (s := ⟨2, ![hs b (k.val + 1), 2048]⟩) off ![hs b (k.val + 1), 1024] inb).toLoadRect hl) e) Q := by
  subst hoff hm
  refine (St_rs A B K c p b cc).1.trans ?_
  rw [hp, rsSt_eq, show slotRs A B c b k cc 3 = slotRs A B c b k cc (2 + 1) from rfl, slotRs_three]
  unfold landedRs
  iintro ⟨Hr, Ho, ⟨Hz, ⟨HvS, Hb, HvR, ⟨%f, Hc, %hf⟩⟩, Hoth⟩, Haw⟩
  have hread : ((commM b k).access (Rect.unit (s := ⟨2, ![hs b (k.val + 1), 2048]⟩) ![0, 1024 * cc.val] ![hs b (k.val + 1), 1024] inb)).read (Elt F) f
      = part A B c b k cc (pt c b k) := hf
  have hload : (cAt c b k cc f : sProp 𝕄) ⊢ iprop((cAt c b k cc f -∗ wpc c (e (part A B c b k cc (pt c b k))) Q)
      -∗ wpc c (.op (.load (commM b k) (Rect.unit (s := ⟨2, ![hs b (k.val + 1), 2048]⟩) ![0, 1024 * cc.val] ![hs b (k.val + 1), 1024] inb).toLoadRect hl) e) Q) := by
    rw [← hread]
    exact wp_load_rect 𝒱₀ (c : Thread nD τ) none Set.univ (m := commM b k)
      (r := Rect.unit (s := ⟨2, ![hs b (k.val + 1), 2048]⟩) ![0, 1024 * cc.val] ![hs b (k.val + 1), 1024] inb) (S := (commS b k cc).view.set) (le_refl _)
  iapply hload $$ Hc
  iintro Hc
  iapply hnext
  iapply (St_rs A B K c p b cc).2
  rw [hp, rsSt_eq, show slotRs A B c b k cc 3 = slotRs A B c b k cc (2 + 1) from rfl, slotRs_three]
  unfold landedRs
  iframe
  iexists f
  isplitl [Hc]; · iexact Hc
  ipureintro; exact hf

/-- Adding the partner's sum of the rows kept, and writing it over them. -/
theorem step_store_z (c : Dev nD) (p : Phase) (b k : Fin 3) (cc : Fin 2) (hp : p.rs b cc = 1 + 4 * k.val + 3)
    {off : Fin 2 → ℕ} (hoff : off = ![kOff c b (k.val + 1), 1024 * cc.val])
    {inb : ∀ a, off a + (![hs b (k.val + 1), 1024] : Fin 2 → ℕ) a ≤ S2048x2048.size a}
    {w : Vec F ⟨2, ![hs b (k.val + 1), 1024]⟩ .bf16} (hw : w = addf (F := F) (φ := .bf16) (part A B c b k cc c) (part A B c b k cc (pt c b k)))
    {hx hm} {e : PUnit → Prog (TpuEff nD τ sig (Elt F) Λ₀ .tc) α} {Q : α → sProp 𝕄}
    (hnext : St A B K c (p.bump (.rs b cc)) ⊢ wpc c (e ⟨⟩) Q) :
    St A B K c p ⊢ wpc c (.op (.store zM (Rect.unit (s := S2048x2048) off ![hs b (k.val + 1), 1024] inb) w Finset.univ hx hm) e) Q := by
  subst hoff
  refine (St_slotRs A B K c p b k cc 3 hp).trans ?_
  rw [heldZ_sent A B c b k cc (by omega) (by omega)]
  iintro ⟨Hr, Ho, Hz, Hs, Hoth, Haw⟩
  iapply (wp_store 𝒱₀ (c : Thread nD τ) none Set.univ (m := zM)
    (r := Rect.unit (s := S2048x2048) ![kOff c b (k.val + 1), 1024 * cc.val] ![hs b (k.val + 1), 1024] inb) (S := keepZ c b (k.val + 1) cc)
    (by rw [View.setOn_univ]; exact (zS_set (keep_inb c b k)).le)) $$ Hz
  iintro Hz
  iapply hnext
  iapply (slotRs_St A B K c p b k cc 3 (by omega) hp)
  rw [owed_same_rs c p b cc (by omega), show slotRs A B c b k cc (3 + 1) = slotRs A B c b k cc 3 from rfl,
    show 1 + 4 * k.val + 3 + 1 = 1 + 4 * (k.val + 1) by omega,
    show heldZ A B c b cc (1 + 4 * (k.val + 1)) = zAt c (keepZ c b (k.val + 1) cc) (zv A B b (k.val + 1) c) from heldZ_next A B c b k cc]
  rw [show (zAt c (keepZ c b (k.val + 1) cc) (zv A B b (k.val + 1) c) : sProp 𝕄) = _ from (pointsTo_congr fun i hi => ?_).symm]
  · iframe
  · obtain ⟨x, rfl⟩ := View.exists_emb_of_mem_set (zS (kOff c b (k.val + 1)) (hs b (k.val + 1)) cc (keep_inb c b k)).view (i := i)
      (by rw [zS_set]; exact hi)
    refine (View.write_emb_of_mem (v := (zS (kOff c b (k.val + 1)) (hs b (k.val + 1)) cc (keep_inb c b k)).view) _ w (Finset.mem_univ x)).trans ?_
    subst hw
    show _ = addf (F := F) (φ := .bf16) (zv A B b k.val c) (zv A B b k.val (pt c b (Fin.ofNat 3 k.val))) _
    rw [show Fin.ofNat 3 k.val = k from Fin.ext (Nat.mod_eq_of_lt k.2)]
    rfl

end Cert.KernelIdeal.Ring
-- ==== Proof.StepsAg.lean ====
/- The operations of one step of the gathering, each from the state before it to the state after it. -/
module

public import proofs.«01_k».proof.Proof.StepsRs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S2048x1024 .bf16) (B : Dev nD → Vec F S1024x2048 .bf16)
variable (K : Dev nD × (Unit ⊕ Own) → ℕ)
variable {α : Type}

theorem back_succ : ∀ j : Fin 3, (back j).val + 1 = 3 - j.val := by decide
theorem back_next : ∀ j : Fin 3, (back j).val = 3 - (j.val + 1) := by decide
theorem ag_inb (c : Dev nD) (b j : Fin 3) : kOff c b (3 - j.val) + hs b (3 - j.val) ≤ 2048 := by
  have h := kOff_inb c b (back j).succ
  rwa [Fin.val_succ, back_succ] at h

/-- Rows of the result before the send of step `j`. -/
theorem heldO_ready (c : Dev nD) (b j : Fin 3) : heldO A B c b (1 + 3 * j.val) = oAt c (keepO c b (3 - j.val)) (outv A B) := by
  rw [show 1 + 3 * j.val = 3 * j.val + 1 by omega]
  show (if 3 * j.val % 3 = 1 then _ else oAt c (keepO c b (3 - 3 * j.val / 3)) (outv A B)) = _
  rw [if_neg (by omega), show 3 * j.val / 3 = j.val by omega]
/-- While they are sent. -/
theorem heldO_sent (c : Dev nD) (b j : Fin 3) : heldO A B c b (1 + 3 * j.val + 1) = (iprop(emp) : sProp 𝕄) := by
  show (if (1 + 3 * j.val) % 3 = 1 then _ else _) = _
  rw [if_pos (by omega)]
/-- Once they are back. -/
theorem heldO_back (c : Dev nD) (b j : Fin 3) : heldO A B c b (1 + 3 * j.val + 2) = oAt c (keepO c b (3 - j.val)) (outv A B) := by
  show (if (1 + 3 * j.val + 1) % 3 = 1 then _ else oAt c (keepO c b (3 - (1 + 3 * j.val + 1) / 3)) (outv A B)) = _
  rw [if_neg (by omega), show (1 + 3 * j.val + 1) / 3 = j.val by omega]
/-- With the partner's rows. -/
theorem heldO_next (c : Dev nD) (b j : Fin 3) : heldO A B c b (1 + 3 * j.val + 3) = oAt c (keepO c b (3 - (j.val + 1))) (outv A B) := by
  show (if (1 + 3 * j.val + 2) % 3 = 1 then _ else oAt c (keepO c b (3 - (1 + 3 * j.val + 2) / 3)) (outv A B)) = _
  rw [if_neg (by omega), show (1 + 3 * j.val + 2) / 3 = j.val + 1 by omega]

theorem slotAg_zero (c : Dev nD) (b j : Fin 3) : slotAg (F := F) c b j 0
    = iprop(atPos ER (sAg c b j) 0 ∅ 0 ∗ atPos ER (rAg c b j) 0 ∅ 0 ∗ dutyTok ER (sAg c b j) 0 0
      ∗ dutyTok ER (rAg (pt c b (back j)) b j) 0 0 ∗ cred (tallyAt (rAg c b j) () (nAg b j))
      ∗ ∃ f, oAt (F := F) (pt c b (back j)) (keepO c b (3 - j.val)) f) := by rw [← back_succ]; rfl
theorem slotAg_one (c : Dev nD) (b j : Fin 3) : slotAg (F := F) c b j (0 + 1)
    = iprop(atPos ER (sAg c b j) 0 ∅ 0 ∗ atPos ER (rAg c b j) 0 ∅ 0
      ∗ cred (tallyAt (sAg c b j) () (nAg b j)) ∗ cred (tallyAt (rAg c b j) () (nAg b j))) := rfl
theorem slotAg_two (c : Dev nD) (b j : Fin 3) : slotAg (F := F) c b j (1 + 1)
    = iprop(semVal (sAg c b j) 0 ∗ atPos ER (rAg c b j) 0 ∅ 0 ∗ cred (tallyAt (rAg c b j) () (nAg b j))) := rfl
theorem slotAg_three (c : Dev nD) (b j : Fin 3) : slotAg (F := F) c b j (2 + 1)
    = iprop(semVal (sAg c b j) 0 ∗ semVal (rAg c b j) 0) := rfl

theorem nAg_oS (b j : Fin 3) (r : ℕ) (h : r + hs b (3 - j.val) ≤ 2048) : (oS r (hs b (3 - j.val)) h).view.dmaCredit = nAg b j := by
  fin_cases b <;> fin_cases j <;> rfl

/-- Rows copied onto the same rows of a partner. -/
theorem copied (e : Dev nD) {r n : ℕ} (h : r + n ≤ 2048) (f g : Vec F S2048x2048 .bf16) :
    (oAt e (band r n 0 2048) ((oS r n h).view.write (Elt F) f ((oS r n h).view.read (Elt F) g) Finset.univ) : sProp 𝕄)
      = oAt e (band r n 0 2048) g := by
  refine pointsTo_congr fun i hi => ?_
  obtain ⟨x, rfl⟩ := View.exists_emb_of_mem_set (oS r n h).view (i := i) (by rw [oS_set]; exact hi)
  exact View.write_emb_of_mem _ _ (Finset.mem_univ x)

/-- The send of step `j`: the rows held leave for the partner's same rows. -/
theorem step_send_ag (c : Dev nD) (p : Phase) (b j : Fin 3) (hp : p.ag b = 1 + 3 * j.val)
    {off : Fin 2 → ℕ} (hoff : off = ![kOff c b (3 - j.val), 0])
    {inb : ∀ a, off a + (![hs b (3 - j.val), 2048] : Fin 2 → ℕ) a ≤ S2048x2048.size a} {hst hst'}
    (dev : Dev nD) (sS sR : DmaSem sig) (hdev : dev = pt c b (back j))
    (hsS : sS = sendSem b (agT j) 0) (hsR : sR = recvSem b (agT j) 0)
    {h₀ h₁ h₂ h₃} {e : PUnit → Prog (TpuEff nD τ sig (Elt F) Λ₀ .tc) α}
    {Q : α → sProp 𝕄} (hnext : St A B K c (p.bump (.ag b)) ⊢ wpc c (e ⟨⟩) Q) :
    St A B K c p ⊢ wpc c (.op (.enqueueDma (oM.slice (Rect.unit (s := S2048x2048) off ![hs b (3 - j.val), 2048] inb) hst)
      (.remote (Dev.tc dev) (oM.slice (Rect.unit (s := S2048x2048) off ![hs b (3 - j.val), 2048] inb) hst') (.dma sS) h₀) (.dma sR) h₁ h₂ h₃) e) Q := by
  subst hoff hdev hsS hsR
  refine (St_slotAg A B K c p b j 0 hp).trans ?_
  rw [Nat.add_zero, heldO_ready, slotAg_zero]
  iintro ⟨#Hr, ⟨%W, Ho⟩, Hz, ⟨HaS, HaR, HtS, HtR, Hc, ⟨%f, Hd⟩⟩, Hoth, Haw⟩
  ihave #HiS := (recs_inv A B K (c, .inr (false, b, agT j, 0))) $$ Hr
  ihave #HiR := (recs_inv A B K (pt c b (back j), .inr (true, b, agT j, 0))) $$ Hr
  ihave #HrS := (recs_reached A B K (c, .inr (false, b, agT j, 0))) $$ Hr
  ihave #HrR := (recs_reached A B K (pt c b (back j), .inr (true, b, agT j, 0))) $$ Hr
  iapply (Rounds.wp_send_pointsTo 𝒱₀ ER (ringRd A B) (c : Thread nD τ) none (c' := (pt c b (back j) : Thread nD τ))
      (src := oS (kOff c b (3 - j.val)) (hs b (3 - j.val)) (ag_inb c b j)) (dst := oS (kOff c b (3 - j.val)) (hs b (3 - j.val)) (ag_inb c b j))
      (sS := .dma (sendSem b (agT j) 0)) (sem := .dma (recvSem b (agT j) 0))
      (q := fullShare) (fs := outv A B) (fd := f)
      (r₁ := 0) (r₂ := 0) (d₁ := 0) (d₂ := 0)
      (κ₁ := K (c, .inr (false, b, agT j, 0))) (κ₂ := K (pt c b (back j), .inr (true, b, agT j, 0)))
      (by rw [duties_sAg]; exact Finset.mem_singleton_self _) (by rw [duties_rAg]; exact Finset.mem_singleton_self _)
      () () (nAg b j) (nAg_oS b j _ (ag_inb c b j)) (amount_sAg A B c b j 0) (amount_rAg A B (pt c b (back j)) b j 0)
      (owed c (p.bump (.ag b))) (owed_send_ag c p b j hp)
      (by
        rw [payload_sAg, oS_set]
        unfold backAg; rw [back_succ]; exact Entails.refl _)
      (by
        rw [payload_rAg, oS_set]
        unfold landedAg sentO
        rw [sOff_eq, pt_pt, back_succ]
        exact Entails.of_eq (copied (pt c b (back j)) (ag_inb c b j) f (outv A B)))
      (by routes)) $$ [Hz Hd Ho HtS HtR]
  · isplitr; · iexact HiS
    isplitr; · iexact HiR
    isplitl [Hz]; · rw [oS_set]; iexact Hz
    isplitl [Hd]; · rw [oS_set]; iexact Hd
    isplitl [Ho]; · iexact Ho
    isplitl [HtS]; · iexact HtS
    isplitr; · iexact HrS
    isplitl [HtR]; · iexact HtR
    iexact HrR
  iintro ⟨HcS, Ho⟩
  iapply hnext
  iapply (slotAg_St A B K c p b j 0 (by omega) hp)
  rw [Nat.add_zero, heldO_sent, slotAg_one]
  isplitr; · iexact Hr
  isplitl [Ho]; · iexists W; iexact Ho
  isplitr; · iempintro
  isplitl [HaS HaR HcS Hc]; · iframe
  isplitl [Hoth]; · iexact Hoth
  iexact Haw

/-- The wait for a send: its rows are back. -/
theorem step_waitS_ag (c : Dev nD) (p : Phase) (b j : Fin 3) (hp : p.ag b = 1 + 3 * j.val + 1) (hab : Above p 0)
    (sem : DmaSem sig) (hsem : sem = sendSem b (agT j) 0)
    {s₁ s₂ : Shape} {src : Memref sig .tc .vmem s₁ .bf16} {dst : Memref sig .tc .vmem s₂ .bf16} (hcr : dst.view.dmaCredit = nAg b j)
    {h₁ h₂} {e : PUnit → Prog (TpuEff nD τ sig (Elt F) Λ₀ .tc) α} {Q : α → sProp 𝕄}
    (hnext : St A B K c (p.bump (.ag b)) ⊢ wpc c (e ⟨⟩) Q) :
    St A B K c p ⊢ wpc c (.op (.waitDma2 sem src dst h₁ h₂) e) Q := by
  refine (St_slotAg A B K c p b j 1 hp).trans ?_
  rw [heldO_sent, show slotAg (F := F) c b j 1 = slotAg c b j (0 + 1) from rfl, slotAg_one]
  iintro ⟨#Hr, Ho, -, ⟨HaS, HaR, HcS, Hc⟩, Hoth, Haw⟩
  iapply (wait_cell A B K c p (false, b, agT j, 0) sem (by rw [hsem]) (n := nAg b j) (l := 0) (P := backAg A B c b j)
    (duties_sAg A B c b j) (amount_sAg A B c b j 0) (payload_sAg A B c b j 0)
    (by dsimp only [lv, kcell, csem]; rw [kind_sAg]) hab hcr) $$ [Ho HcS HaS]
  · isplitr; · iexact Hr
    isplitl [Ho]; · iexact Ho
    isplitl [HcS]; · iexact HcS
    iexact HaS
  iintro ⟨Ho, Hv, HP⟩
  iapply hnext
  iapply (slotAg_St A B K c p b j 1 (by omega) hp)
  rw [owed_same_ag c p b (by omega), show 1 + 3 * j.val + 1 + 1 = 1 + 3 * j.val + 2 by omega, heldO_back, slotAg_two]
  unfold backAg; rw [back_succ]
  isplitr; · iexact Hr
  isplitl [Ho]; · iexact Ho
  isplitl [HP]; · iexact HP
  isplitl [Hv HaR Hc]; · iframe
  isplitl [Hoth]; · iexact Hoth
  iexact Haw

/-- The wait for a receive: the partner's rows have landed beside those held. -/
theorem step_waitR_ag (c : Dev nD) (p : Phase) (b j : Fin 3) (hp : p.ag b = 1 + 3 * j.val + 2) (hab : Above p (5 + j.val))
    (sem : DmaSem sig) (hsem : sem = recvSem b (agT j) 0)
    {s₁ s₂ : Shape} {src : Memref sig .tc .vmem s₁ .bf16} {dst : Memref sig .tc .vmem s₂ .bf16} (hcr : dst.view.dmaCredit = nAg b j)
    {h₁ h₂} {e : PUnit → Prog (TpuEff nD τ sig (Elt F) Λ₀ .tc) α} {Q : α → sProp 𝕄}
    (hnext : St A B K c (p.bump (.ag b)) ⊢ wpc c (e ⟨⟩) Q) :
    St A B K c p ⊢ wpc c (.op (.waitDma2 sem src dst h₁ h₂) e) Q := by
  refine (St_slotAg A B K c p b j 2 hp).trans ?_
  rw [heldO_back, show slotAg (F := F) c b j 2 = slotAg c b j (1 + 1) from rfl, slotAg_two]
  iintro ⟨#Hr, Ho, Hz, ⟨HvS, HaR, Hc⟩, Hoth, Haw⟩
  iapply (wait_cell A B K c p (true, b, agT j, 0) sem (by rw [hsem]) (n := nAg b j) (l := 5 + j.val) (P := landedAg A B c b j)
    (duties_rAg A B c b j) (amount_rAg A B c b j 0) (payload_rAg A B c b j 0)
    (by dsimp only [lv, kcell, csem]; rw [kind_rAg]) hab hcr) $$ [Ho Hc HaR]
  · isplitr; · iexact Hr
    isplitl [Ho]; · iexact Ho
    isplitl [Hc]; · iexact Hc
    iexact HaR
  iintro ⟨Ho, Hv, HP⟩
  iapply hnext
  iapply (slotAg_St A B K c p b j 2 (by omega) hp)
  rw [owed_same_ag c p b (by omega), show 1 + 3 * j.val + 2 + 1 = 1 + 3 * j.val + 3 by omega, heldO_next, slotAg_three]
  unfold landedAg; rw [← back_next, ← back_succ]
  isplitr; · iexact Hr
  isplitl [Ho]; · iexact Ho
  isplitl [HP Hz]
  · iapply (oAt_split c b (back j) (outv A B)).2
    isplitl [Hz]; · iexact Hz
    iexact HP
  isplitl [Hv HvS]; · iframe
  isplitl [Hoth]; · iexact Hoth
  iexact Haw

end Cert.KernelIdeal.Ring
-- ==== Proof.StepsZ.lean ====
/- Loads and stores of the factors and their copies, of a band's product when it is first written, and of its last
   rows and the function of them. -/
module

public import proofs.«01_k».proof.Proof.StepsAg

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S2048x1024 .bf16) (B : Dev nD → Vec F S1024x2048 .bf16)
variable (K : Dev nD × (Unit ⊕ Own) → ℕ)
variable {α : Type}

/-! ## The factors -/

/-- All of the state but the factors. -/
def awayF (c : Dev nD) (p : Phase) : sProp 𝕄 :=
  iprop(recs A B K ∗ (∃ W, owes (c : Thread nD τ) (owed c p) W)
    ∗ (bigSep Finset.univ fun x : Fin 3 × Fin 2 => rsSt A B c x.1 x.2 (p.rs x.1 x.2))
    ∗ (bigSep Finset.univ fun b : Fin 3 => agSt A B c b (p.ag b)) ∗ idle (F := F) c)

theorem St_factors (c : Dev nD) (p : Phase) : St A B K c p ⊣⊢ iprop(factors A B c p.bb p.aa ∗ awayF A B K c p) := by
  unfold St awayF
  constructor
  · iintro ⟨H1, H2, H3, H4, H5, H6⟩; iframe
  · iintro ⟨H1, H2, H3, H4, H5, H6⟩; iframe

theorem awayF_bb (c : Dev nD) (p : Phase) : awayF A B K c (p.bump .bb) = awayF A B K c p := rfl
theorem awayF_aa (c : Dev nD) (p : Phase) : awayF A B K c (p.bump .aa) = awayF A B K c p := rfl

theorem zero_off : (![0, 0] : Fin 2 → ℕ) = fun _ => 0 := by decide

/-- Loading the right factor. -/
theorem step_load_b (c : Dev nD) (p : Phase) {inb hl} {e : Vec F S1024x2048 .bf16 → Prog (TpuEff nD τ sig (Elt F) Λ₀ .tc) α}
    {Q : α → sProp 𝕄} (hnext : St A B K c p ⊢ wpc c (e (B c)) Q) :
    St A B K c p ⊢ wpc c (.op (.load bM (Rect.unit (s := S1024x2048) ![0, 0] S1024x2048.size inb).toLoadRect hl) e) Q := by
  refine (St_factors A B K c p).1.trans ?_
  unfold factors
  iintro ⟨⟨Ha, Hb, H1, H2⟩, Haw⟩
  iapply (wp_load 𝒱₀ (c : Thread nD τ) none Set.univ (m := bM) (Finset.subset_univ _)) $$ Hb
  iintro Hb
  have hv : bM.view.readAt (Elt F) (Rect.unit (s := S1024x2048) ![0, 0] S1024x2048.size inb).toLoadRect (B c) = B c :=
    Memref.readAt_unit_zero (Elt F) cc0_stg1_0 zero_off inb (B c)
  rw [hv]
  iapply hnext
  iapply (St_factors A B K c p).2
  unfold factors
  iframe

/-- Loading the right factor's copy before it is made. -/
theorem step_load_b16_any (c : Dev nD) (p : Phase) {inb hl} {e : Vec F S1024x2048 .bf16 → Prog (TpuEff nD τ sig (Elt F) Λ₀ .tc) α}
    {Q : α → sProp 𝕄} (hnext : ∀ v, St A B K c p ⊢ wpc c (e v) Q) :
    St A B K c p ⊢ wpc c (.op (.load b16M (Rect.unit (s := S1024x2048) ![0, 0] S1024x2048.size inb).toLoadRect hl) e) Q := by
  refine (St_factors A B K c p).1.trans ?_
  unfold factors
  iintro ⟨⟨Ha, Hb, H1, ⟨%f, H2, %hf⟩⟩, Haw⟩
  iapply (wp_load 𝒱₀ (c : Thread nD τ) none Set.univ (m := b16M) (Finset.subset_univ _)) $$ H2
  iintro H2
  iapply (hnext _)
  iapply (St_factors A B K c p).2
  unfold factors
  iframe
  iexists f
  isplitl [H2]; · iexact H2
  ipureintro; exact hf

/-- Copying the right factor. -/
theorem step_store_b16 (c : Dev nD) (p : Phase) {inb hx hm} {w : Vec F S1024x2048 .bf16} (hw : w = B c)
    {e : PUnit → Prog (TpuEff nD τ sig (Elt F) Λ₀ .tc) α}
    {Q : α → sProp 𝕄} (hnext : St A B K c (p.bump .bb) ⊢ wpc c (e ⟨⟩) Q) :
    St A B K c p ⊢ wpc c (.op (.store b16M (Rect.unit (s := S1024x2048) ![0, 0] S1024x2048.size inb) w Finset.univ hx hm) e) Q := by
  refine (St_factors A B K c p).1.trans ?_
  unfold factors
  iintro ⟨⟨Ha, Hb, H1, ⟨%f, H2, %hf⟩⟩, Haw⟩
  iapply (wp_store 𝒱₀ (c : Thread nD τ) none Set.univ (m := b16M) (r := Rect.unit (s := S1024x2048) ![0, 0] S1024x2048.size inb)
    (S := Finset.univ) (f := f) (Finset.subset_univ _)) $$ H2
  iintro H2
  have hv : (b16M.access (Rect.unit (s := S1024x2048) ![0, 0] S1024x2048.size inb)).write (Elt F) f w Finset.univ = w :=
    Memref.write_access_unit_zero_univ (Elt F) cc0_scratch2 zero_off inb f w
  rw [hv]
  iapply hnext
  iapply (St_factors A B K c (p.bump .bb)).2
  rw [awayF_bb]
  unfold factors
  isplitr [Haw]
  · isplitl [Ha]; · iexact Ha
    isplitl [Hb]; · iexact Hb
    isplitl [H1]; · iexact H1
    iexists w
    isplitl [H2]; · iexact H2
    ipureintro; exact fun _ => hw
  iexact Haw

/-- Loading that copy. -/
theorem step_load_b16 (c : Dev nD) (p : Phase) (hp : 0 < p.bb) {inb hl} {e : Vec F S1024x2048 .bf16 → Prog (TpuEff nD τ sig (Elt F) Λ₀ .tc) α}
    {Q : α → sProp 𝕄} (hnext : St A B K c p ⊢ wpc c (e (B c)) Q) :
    St A B K c p ⊢ wpc c (.op (.load b16M (Rect.unit (s := S1024x2048) ![0, 0] S1024x2048.size inb).toLoadRect hl) e) Q := by
  refine (St_factors A B K c p).1.trans ?_
  unfold factors
  iintro ⟨⟨Ha, Hb, H1, ⟨%f, H2, %hf⟩⟩, Haw⟩
  iapply (wp_load 𝒱₀ (c : Thread nD τ) none Set.univ (m := b16M) (Finset.subset_univ _)) $$ H2
  iintro H2
  have hv : b16M.view.readAt (Elt F) (Rect.unit (s := S1024x2048) ![0, 0] S1024x2048.size inb).toLoadRect f = B c :=
    (Memref.readAt_unit_zero (Elt F) cc0_scratch2 zero_off inb f).trans (hf hp)
  rw [hv]
  iapply hnext
  iapply (St_factors A B K c p).2
  unfold factors
  iframe
  iexists f
  isplitl [H2]; · iexact H2
  ipureintro; exact hf

/-- Loading a band's rows of the left factor. -/
theorem step_load_a (c : Dev nD) (p : Phase) (b : Fin 3) {inb : ∀ a, (![base b, 0] : Fin 2 → ℕ) a + (![hs b 0, 1024] : Fin 2 → ℕ) a ≤ S2048x1024.size a}
    {hl} {e : Vec F ⟨2, ![hs b 0, 1024]⟩ .bf16 → Prog (TpuEff nD τ sig (Elt F) Λ₀ .tc) α}
    {Q : α → sProp 𝕄} (hnext : St A B K c p ⊢ wpc c (e (aRows (A c) b)) Q) :
    St A B K c p ⊢ wpc c (.op (.load aM (Rect.unit (s := S2048x1024) ![base b, 0] ![hs b 0, 1024] inb).toLoadRect hl) e) Q := by
  refine (St_factors A B K c p).1.trans ?_
  unfold factors
  iintro ⟨⟨Ha, Hb, H1, H2⟩, Haw⟩
  iapply (wp_load 𝒱₀ (c : Thread nD τ) none Set.univ (m := aM) (Finset.subset_univ _)) $$ Ha
  iintro Ha
  have hv : aM.view.readAt (Elt F) (Rect.unit (s := S2048x1024) ![base b, 0] ![hs b 0, 1024] inb).toLoadRect (A c) = aRows (A c) b := rfl
  rw [hv]
  iapply hnext
  iapply (St_factors A B K c p).2
  unfold factors
  iframe

/-- Loading a band's rows of its copy before they are made. -/
theorem step_load_a16_any (c : Dev nD) (p : Phase) {r : LoadRect S2048x1024} {hl} {e : (r.shape.Idx → Elt F .bf16) → Prog (TpuEff nD τ sig (Elt F) Λ₀ .tc) α}
    {Q : α → sProp 𝕄} (hnext : ∀ v, St A B K c p ⊢ wpc c (e v) Q) :
    St A B K c p ⊢ wpc c (.op (.load a16M r hl) e) Q := by
  refine (St_factors A B K c p).1.trans ?_
  unfold factors
  iintro ⟨⟨Ha, Hb, ⟨%f, H1, %hf⟩, H2⟩, Haw⟩
  iapply (wp_load 𝒱₀ (c : Thread nD τ) none Set.univ (m := a16M) (Finset.subset_univ _)) $$ H1
  iintro H1
  iapply (hnext _)
  iapply (St_factors A B K c p).2
  unfold factors
  iframe
  iexists f
  isplitl [H1]; · iexact H1
  ipureintro; exact hf

/-- The bands in order. -/
theorem base_le : ∀ b b' : Fin 3, b'.val < b.val → base b' + hs b' 0 ≤ base b := by decide

/-- Writing a band's rows leaves the earlier bands' rows. -/
theorem aRows_write (b : Fin 3) (n : ℕ) (hn : n = b.val) (X f : Vec F S2048x1024 .bf16) (w : Vec F ⟨2, ![hs b 0, 1024]⟩ .bf16) (hw : w = aRows X b)
    (hf : ∀ b' : Fin 3, b'.val < n → aRows f b' = aRows X b') :
    ∀ b' : Fin 3, b'.val < n + 1 → aRows ((a16M.access (aRect b)).write (Elt F) f w Finset.univ) b' = aRows X b' := by
  intro b' hb'
  funext j
  rcases Nat.lt_or_ge b'.val b.val with h | h
  · have hnot : (aRect b').emb j ∉ (a16M.access (aRect b)).setOn Finset.univ := by
      intro hmem
      rw [View.setOn_univ, View.set_slice_whole] at hmem
      have h1 := ((Rect.mem_set_unit ..).mp hmem 0).1
      have hj := (a16M.access (aRect b')).emb_mem_set j
      rw [View.set_slice_whole] at hj
      have h2 := ((Rect.mem_set_unit ..).mp hj 0).2
      have h3 := base_le b b' h
      exact absurd (h1.trans_lt h2) (not_lt.mpr h3)
    exact (View.write_of_not_mem f w Finset.univ hnot).trans (congrFun (hf b' (hn ▸ h)) j)
  · obtain rfl : b' = b := Fin.ext (by omega)
    subst hw
    exact View.write_emb_of_mem (v := a16M.access (aRect b')) f (aRows X b') (Finset.mem_univ j)

/-- Copying a band's rows of the left factor. -/
theorem step_store_a16 (c : Dev nD) (p : Phase) (b : Fin 3) (hp : p.aa = b.val)
    {inb : ∀ a, (![base b, 0] : Fin 2 → ℕ) a + (![hs b 0, 1024] : Fin 2 → ℕ) a ≤ S2048x1024.size a} {hx hm}
    {w : Vec F ⟨2, ![hs b 0, 1024]⟩ .bf16} (hw : w = aRows (A c) b)
    {e : PUnit → Prog (TpuEff nD τ sig (Elt F) Λ₀ .tc) α}
    {Q : α → sProp 𝕄} (hnext : St A B K c (p.bump .aa) ⊢ wpc c (e ⟨⟩) Q) :
    St A B K c p ⊢ wpc c (.op (.store a16M (Rect.unit (s := S2048x1024) ![base b, 0] ![hs b 0, 1024] inb) w Finset.univ hx hm) e) Q := by
  refine (St_factors A B K c p).1.trans ?_
  unfold factors
  iintro ⟨⟨Ha, Hb, ⟨%f, H1, %hf⟩, H2⟩, Haw⟩
  iapply (wp_store 𝒱₀ (c : Thread nD τ) none Set.univ (m := a16M) (r := Rect.unit (s := S2048x1024) ![base b, 0] ![hs b 0, 1024] inb)
    (S := Finset.univ) (f := f) (Finset.subset_univ _)) $$ H1
  iintro H1
  iapply hnext
  iapply (St_factors A B K c (p.bump .aa)).2
  rw [awayF_aa]
  unfold factors
  isplitr [Haw]
  · isplitl [Ha]; · iexact Ha
    isplitl [Hb]; · iexact Hb
    isplitl [H1]
    · iexists _
      isplitl [H1]; · iexact H1
      ipureintro; exact aRows_write b p.aa hp (A c) f w hw hf
    iexact H2
  iexact Haw

/-- Loading the rows copied. -/
theorem step_load_a16 (c : Dev nD) (p : Phase) (b : Fin 3) (hp : b.val < p.aa) {inb : ∀ a, (![base b, 0] : Fin 2 → ℕ) a + (![hs b 0, 1024] : Fin 2 → ℕ) a ≤ S2048x1024.size a}
    {hl} {e : Vec F ⟨2, ![hs b 0, 1024]⟩ .bf16 → Prog (TpuEff nD τ sig (Elt F) Λ₀ .tc) α}
    {Q : α → sProp 𝕄} (hnext : St A B K c p ⊢ wpc c (e (aRows (A c) b)) Q) :
    St A B K c p ⊢ wpc c (.op (.load a16M (Rect.unit (s := S2048x1024) ![base b, 0] ![hs b 0, 1024] inb).toLoadRect hl) e) Q := by
  refine (St_factors A B K c p).1.trans ?_
  unfold factors
  iintro ⟨⟨Ha, Hb, ⟨%f, H1, %hf⟩, H2⟩, Haw⟩
  iapply (wp_load 𝒱₀ (c : Thread nD τ) none Set.univ (m := a16M) (Finset.subset_univ _)) $$ H1
  iintro H1
  have hv : a16M.view.readAt (Elt F) (Rect.unit (s := S2048x1024) ![base b, 0] ![hs b 0, 1024] inb).toLoadRect f = aRows (A c) b :=
    (show _ = aRows f b from rfl).trans (hf b hp)
  rw [hv]
  iapply hnext
  iapply (St_factors A B K c p).2
  unfold factors
  iframe
  iexists f
  isplitl [H1]; · iexact H1
  ipureintro; exact hf

/-! ## Both halves of a band -/

theorem cols (r n : ℕ) : band r n 0 2048 = band r n (1024 * (0 : Fin 2).val) 1024 ∪ band r n (1024 * (1 : Fin 2).val) 1024
    ∧ Disjoint (band r n (1024 * (0 : Fin 2).val) 1024) (band r n (1024 * (1 : Fin 2).val) 1024) := by
  simp only [Fin.val_zero, Fin.val_one]
  constructor
  · ext i
    rw [Finset.mem_union, mem_band, mem_band, mem_band]
    omega
  · rw [Finset.disjoint_left]
    intro i hi hj
    rw [mem_band] at hi hj
    omega

theorem zAt_cols (d : Dev nD) (b : Fin 3) (k : ℕ) (f : Vec F S2048x2048 .bf16) :
    (zAt d (keepO d b k) f : sProp 𝕄) ⊣⊢ iprop(zAt d (keepZ d b k 0) f ∗ zAt d (keepZ d b k 1) f) := by
  have h := cols (kOff d b k) (hs b k)
  unfold zAt; rw [show keepO d b k = keepZ d b k 0 ∪ keepZ d b k 1 from h.1]; exact pointsTo_union h.2

theorem zAt_join (d : Dev nD) (b : Fin 3) (k : ℕ) :
    iprop((∃ f, zAt (F := F) d (keepZ d b k 0) f) ∗ ∃ f, zAt (F := F) d (keepZ d b k 1) f) ⊢ iprop(∃ f, zAt (F := F) d (keepO d b k) f) := by
  have h := cols (kOff d b k) (hs b k)
  iintro ⟨⟨%f, H0⟩, ⟨%g, H1⟩⟩
  iexists _
  rw [show keepO d b k = keepZ d b k 0 ∪ keepZ d b k 1 from h.1]
  iapply (pointsTo_join h.2)
  isplitl [H0]; · iexact H0
  iexact H1

theorem two (Φ : Fin 2 → sProp 𝕄) : bigSep Finset.univ Φ = iprop(Φ 0 ∗ Φ 1) := bigSep_fin_two Φ

theorem heldZ_zero (c : Dev nD) (b : Fin 3) (cc : Fin 2) : heldZ A B c b cc 0 = iprop(∃ f, zAt (F := F) c (keepZ c b 0 cc) f) := rfl
theorem heldO_zero (c : Dev nD) (b : Fin 3) : heldO A B c b 0 = iprop(∃ f, oAt (F := F) c (keepO c b 3) f) := rfl

/-- The slots of a half after `n` steps. -/
def slots (c : Dev nD) (b : Fin 3) (cc : Fin 2) (n : ℕ) : sProp 𝕄 :=
  bigSep Finset.univ fun k : Fin 3 => slotRs A B c b k cc (n - (1 + 4 * k.val))

theorem slots_one (c : Dev nD) (b : Fin 3) (cc : Fin 2) : slots A B c b cc (0 + 1) = slots A B c b cc 0 :=
  bigSep_congr fun k _ => by rw [show 0 + 1 - (1 + 4 * k.val) = 0 by omega, show 0 - (1 + 4 * k.val) = 0 by omega]

/-- All of the state but the partial products held of band `b`. -/
def awayZ (c : Dev nD) (p : Phase) (b : Fin 3) : sProp 𝕄 :=
  iprop(recs A B K ∗ (∃ W, owes (c : Thread nD τ) (owed c p) W)
    ∗ slots A B c b 0 (p.rs b 0) ∗ slots A B c b 1 (p.rs b 1)
    ∗ (bigSep (Finset.univ.erase b) fun b' : Fin 3 => bigSep Finset.univ fun cc : Fin 2 => rsSt A B c b' cc (p.rs b' cc))
    ∗ (bigSep Finset.univ fun b : Fin 3 => agSt A B c b (p.ag b)) ∗ factors A B c p.bb p.aa ∗ idle (F := F) c)

theorem St_z (c : Dev nD) (p : Phase) (b : Fin 3) :
    St A B K c p ⊣⊢ iprop((heldZ A B c b 0 (p.rs b 0) ∗ heldZ A B c b 1 (p.rs b 1)) ∗ awayZ A B K c p b) := by
  unfold St awayZ
  rw [bigSep_univ_prod, bigSep_univ_at _ b, two]
  unfold rsSt slots
  constructor
  · iintro ⟨H1, H2, ⟨⟨⟨H3, H4⟩, ⟨H5, H6⟩⟩, H7⟩, H8, H9, H10⟩; iframe
  · iintro ⟨⟨H3, H5⟩, H1, H2, H4, H6, H7, H8, H9, H10⟩; iframe

theorem bump_z (p : Phase) (b : Fin 3) (cc : Fin 2) : (p.bump (.z b)).rs b cc = p.rs b cc + 1 := by simp [Phase.bump]

theorem awayZ_bump (c : Dev nD) (p : Phase) (b : Fin 3) (hp : ∀ cc, p.rs b cc = 0) : awayZ A B K c (p.bump (.z b)) b = awayZ A B K c p b := by
  unfold awayZ
  rw [owed_same_z c p b hp, bump_z, bump_z, hp, hp, slots_one, slots_one]
  congr 5
  refine bigSep_congr fun x hx => ?_
  simp only [Phase.bump, if_neg (Finset.ne_of_mem_erase hx)]

theorem rows_set (c : Dev nD) (b : Fin 3) (k : ℕ) {off : Fin 2 → ℕ} (hoff : off = ![kOff c b k, 0])
    (inb : ∀ a, off a + (![hs b k, 2048] : Fin 2 → ℕ) a ≤ S2048x2048.size a) :
    (Rect.unit (s := S2048x2048) off ![hs b k, 2048] inb).set = keepO c b k := by
  subst hoff; exact unit_set inb

/-- Loading a band's rows before its product is written. -/
theorem step_load_z_any (c : Dev nD) (p : Phase) (b : Fin 3) (hp : ∀ cc, p.rs b cc = 0)
    {inb : ∀ a, (![base b, 0] : Fin 2 → ℕ) a + (![hs b 0, 2048] : Fin 2 → ℕ) a ≤ S2048x2048.size a}
    {hl} {e : Vec F ⟨2, ![hs b 0, 2048]⟩ .bf16 → Prog (TpuEff nD τ sig (Elt F) Λ₀ .tc) α}
    {Q : α → sProp 𝕄} (hnext : ∀ v, St A B K c p ⊢ wpc c (e v) Q) :
    St A B K c p ⊢ wpc c (.op (.load zM (Rect.unit (s := S2048x2048) ![base b, 0] ![hs b 0, 2048] inb).toLoadRect hl) e) Q := by
  refine (St_z A B K c p b).1.trans ?_
  rw [hp, hp, heldZ_zero, heldZ_zero]
  iintro ⟨H, Haw⟩
  ihave H := (zAt_join c b 0) $$ H
  icases H with ⟨%f, H⟩
  iapply (wp_load_rect 𝒱₀ (c : Thread nD τ) none Set.univ (m := zM) (r := Rect.unit (s := S2048x2048) ![base b, 0] ![hs b 0, 2048] inb)
    (S := keepO c b 0) ((View.set_slice_whole _ _).trans (rows_set c b 0 rfl inb)).le) $$ H
  iintro H
  iapply (hnext _)
  iapply (St_z A B K c p b).2
  rw [hp, hp, heldZ_zero, heldZ_zero]
  isplitr [Haw]
  · ihave H := (zAt_cols c b 0 f).1 $$ H
    icases H with ⟨H0, H1⟩
    isplitl [H0]
    · iexists f; iexact H0
    · iexists f; iexact H1
  iexact Haw

/-- Writing a band's product. -/
theorem step_store_z0 (c : Dev nD) (p : Phase) (b : Fin 3) (hp : ∀ cc, p.rs b cc = 0)
    {inb : ∀ a, (![base b, 0] : Fin 2 → ℕ) a + (![hs b 0, 2048] : Fin 2 → ℕ) a ≤ S2048x2048.size a} {hx hm}
    {w : Vec F ⟨2, ![hs b 0, 2048]⟩ .bf16} (hw : w = bandMul b (aRows (A c) b) (B c))
    {e : PUnit → Prog (TpuEff nD τ sig (Elt F) Λ₀ .tc) α}
    {Q : α → sProp 𝕄} (hnext : St A B K c (p.bump (.z b)) ⊢ wpc c (e ⟨⟩) Q) :
    St A B K c p ⊢ wpc c (.op (.store zM (Rect.unit (s := S2048x2048) ![base b, 0] ![hs b 0, 2048] inb) w Finset.univ hx hm) e) Q := by
  subst hw
  refine (St_z A B K c p b).1.trans ?_
  rw [hp, hp, heldZ_zero, heldZ_zero]
  iintro ⟨H, Haw⟩
  ihave H := (zAt_join c b 0) $$ H
  icases H with ⟨%f, H⟩
  iapply (wp_store 𝒱₀ (c : Thread nD τ) none Set.univ (m := zM) (r := Rect.unit (s := S2048x2048) ![base b, 0] ![hs b 0, 2048] inb)
    (S := keepO c b 0) ((View.set_slice_whole _ _).trans (rows_set c b 0 rfl inb)).le) $$ H
  iintro H
  iapply hnext
  iapply (St_z A B K c (p.bump (.z b)) b).2
  rw [awayZ_bump A B K c p b hp, bump_z, bump_z, hp, hp]
  isplitr [Haw]
  · have hz : (zAt c (keepO c b 0) ((zM.access (Rect.unit (s := S2048x2048) ![base b, 0] ![hs b 0, 2048] inb)).write (Elt F) f (bandMul b (aRows (A c) b) (B c)) Finset.univ) : sProp 𝕄)
        = zAt c (keepO c b 0) (zv A B b 0 c) := by
      refine pointsTo_congr fun i hi => ?_
      obtain ⟨x, rfl⟩ := View.exists_emb_of_mem_set (zRows b).view (i := i)
        (by rw [show (zRows b).view.set = keepO c b 0 from (View.set_slice_whole _ _).trans (rows_set c b 0 rfl _)]; exact hi)
      exact (View.write_emb_of_mem (v := (zRows b).view) _ _ (Finset.mem_univ x)).trans (View.write_emb_of_mem (v := (zRows b).view) _ _ (Finset.mem_univ x)).symm
    ihave H := ((Entails.of_eq hz).trans (zAt_cols c b 0 _).1) $$ H
    iexact H
  iexact Haw

/-! ## The function of the full sums -/

/-- The last rows device `c` keeps of band `b`, as summed. -/
abbrev lastRows (c : Dev nD) (b : Fin 3) : Vec F ⟨2, ![hs b 3, 2048]⟩ .bf16 :=
  (oS (kOff c b 3) (hs b 3) (kOff_inb c b 3)).view.read (Elt F) (zv A B b 3 c)

theorem heldZ_last (c : Dev nD) (b : Fin 3) (cc : Fin 2) : heldZ A B c b cc 13 = zAt c (keepZ c b 3 cc) (zv A B b 3 c) := rfl

/-- Loading those rows. -/
theorem step_load_last (c : Dev nD) (p : Phase) (b : Fin 3) (hp : ∀ cc, p.rs b cc = 13)
    {off : Fin 2 → ℕ} (hoff : off = ![kOff c b 3, 0])
    {inb : ∀ a, off a + (![hs b 3, 2048] : Fin 2 → ℕ) a ≤ S2048x2048.size a}
    {hl} {e : Vec F ⟨2, ![hs b 3, 2048]⟩ .bf16 → Prog (TpuEff nD τ sig (Elt F) Λ₀ .tc) α}
    {Q : α → sProp 𝕄} (hnext : St A B K c p ⊢ wpc c (e (lastRows A B c b)) Q) :
    St A B K c p ⊢ wpc c (.op (.load zM (Rect.unit (s := S2048x2048) off ![hs b 3, 2048] inb).toLoadRect hl) e) Q := by
  subst hoff
  refine (St_z A B K c p b).1.trans ?_
  rw [hp, hp, heldZ_last, heldZ_last]
  iintro ⟨H, Haw⟩
  ihave H := (zAt_cols c b 3 _).2 $$ H
  iapply (wp_load_rect 𝒱₀ (c : Thread nD τ) none Set.univ (m := zM) (r := Rect.unit (s := S2048x2048) ![kOff c b 3, 0] ![hs b 3, 2048] inb)
    (S := keepO c b 3) ((View.set_slice_whole _ _).trans (rows_set c b 3 rfl inb)).le) $$ H
  iintro H
  iapply hnext
  iapply (St_z A B K c p b).2
  rw [hp, hp, heldZ_last, heldZ_last]
  isplitr [Haw]
  · ihave H := (zAt_cols c b 3 _).1 $$ H
    iexact H
  iexact Haw

/-- Loading the result's rows before they are written. -/
theorem step_load_o_any (c : Dev nD) (p : Phase) (b : Fin 3) (hp : p.ag b = 0)
    {off : Fin 2 → ℕ} (hoff : off = ![kOff c b 3, 0])
    {inb : ∀ a, off a + (![hs b 3, 2048] : Fin 2 → ℕ) a ≤ S2048x2048.size a}
    {hl} {e : Vec F ⟨2, ![hs b 3, 2048]⟩ .bf16 → Prog (TpuEff nD τ sig (Elt F) Λ₀ .tc) α}
    {Q : α → sProp 𝕄} (hnext : ∀ v, St A B K c p ⊢ wpc c (e v) Q) :
    St A B K c p ⊢ wpc c (.op (.load oM (Rect.unit (s := S2048x2048) off ![hs b 3, 2048] inb).toLoadRect hl) e) Q := by
  subst hoff
  refine (St_ag A B K c p b).1.trans ?_
  rw [hp]
  unfold agSt; rw [heldO_zero]
  iintro ⟨Hr, Ho, ⟨⟨%f, H⟩, Hs⟩, Haw⟩
  iapply (wp_load_rect 𝒱₀ (c : Thread nD τ) none Set.univ (m := oM) (r := Rect.unit (s := S2048x2048) ![kOff c b 3, 0] ![hs b 3, 2048] inb)
    (S := keepO c b 3) ((View.set_slice_whole _ _).trans (rows_set c b 3 rfl inb)).le) $$ H
  iintro H
  iapply (hnext _)
  iapply (St_ag A B K c p b).2
  rw [hp]
  unfold agSt; rw [heldO_zero]
  iframe
  iexists f; iexact H

/-- Writing the function of the full sums. -/
theorem step_store_o (c : Dev nD) (p : Phase) (b : Fin 3) (hp : p.ag b = 0)
    {off : Fin 2 → ℕ} (hoff : off = ![kOff c b 3, 0])
    {inb : ∀ a, off a + (![hs b 3, 2048] : Fin 2 → ℕ) a ≤ S2048x2048.size a} {hx hm}
    {w : Vec F ⟨2, ![hs b 3, 2048]⟩ .bf16} (hw : w = siluV (lastRows A B c b))
    {e : PUnit → Prog (TpuEff nD τ sig (Elt F) Λ₀ .tc) α}
    {Q : α → sProp 𝕄} (hnext : St A B K c (p.bump (.ag b)) ⊢ wpc c (e ⟨⟩) Q) :
    St A B K c p ⊢ wpc c (.op (.store oM (Rect.unit (s := S2048x2048) off ![hs b 3, 2048] inb) w Finset.univ hx hm) e) Q := by
  subst hoff hw
  refine (St_ag A B K c p b).1.trans ?_
  rw [hp]
  unfold agSt; rw [heldO_zero]
  iintro ⟨Hr, Ho, ⟨⟨%f, H⟩, Hs⟩, Haw⟩
  iapply (wp_store 𝒱₀ (c : Thread nD τ) none Set.univ (m := oM) (r := Rect.unit (s := S2048x2048) ![kOff c b 3, 0] ![hs b 3, 2048] inb)
    (S := keepO c b 3) ((View.set_slice_whole _ _).trans (rows_set c b 3 rfl inb)).le) $$ H
  iintro H
  iapply hnext
  iapply (St_ag A B K c (p.bump (.ag b)) b).2
  rw [awayAg_bump, bump_ag, hp, owed_same_ag c p b (by omega)]
  unfold agSt
  isplitl [Hr]; · iexact Hr
  isplitl [Ho]; · iexact Ho
  isplitr [Haw]
  · isplitl [H]
    · have ho : (oAt c (keepO c b 3) ((oM.access (Rect.unit (s := S2048x2048) ![kOff c b 3, 0] ![hs b 3, 2048] inb)).write (Elt F) f (siluV (lastRows A B c b)) Finset.univ) : sProp 𝕄)
          = oAt c (keepO c b 3) (outv A B) := by
        refine pointsTo_congr fun i hi => ?_
        rw [outv_eq A B (d := c) (b := b) (mem_band.mp hi).1]
        obtain ⟨x, rfl⟩ := View.exists_emb_of_mem_set (oS (kOff c b 3) (hs b 3) (kOff_inb c b 3)).view (i := i) (by rw [oS_set]; exact hi)
        exact View.write_emb_of_mem (v := (oS (kOff c b 3) (hs b 3) (kOff_inb c b 3)).view) _ _ (Finset.mem_univ x)
      rw [show heldO A B c b (0 + 1) = oAt c (keepO c b 3) (outv A B) from heldO_ready A B c b 0]
      ihave H := (Entails.of_eq ho) $$ H
      iexact H
    · have hslots : (bigSep Finset.univ fun j : Fin 3 => slotAg (F := F) c b j (0 - (1 + 3 * j.val)))
          = bigSep Finset.univ fun j : Fin 3 => slotAg (F := F) c b j (0 + 1 - (1 + 3 * j.val)) :=
        bigSep_congr fun j _ => by rw [show 0 + 1 - (1 + 3 * j.val) = 0 by omega, show 0 - (1 + 3 * j.val) = 0 by omega]
      rw [← hslots]
      iexact Hs
  iexact Haw

end Cert.KernelIdeal.Ring
-- ==== Proof.Run.lean ====
/- The steps at the phases the kernel goes through, and how its parts follow each other. -/
module

public import proofs.«01_k».proof.Proof.StepsZ

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S2048x1024 .bf16) (B : Dev nD → Vec F S1024x2048 .bf16)
variable (K : Dev nD × (Unit ⊕ Own) → ℕ)
variable {α : Type}

theorem next {n : ℕ} {ev : Ev} (h : events[n]? = some ev) {c : Dev nD} {P : sProp 𝕄} (hP : St A B K c (phase (n + 1)) ⊢ P) :
    St A B K c ((phase n).bump ev) ⊢ P := by rwa [← phase_succ h]

/-- The state at phase `n`. -/
abbrev At (c : Dev nD) (n : ℕ) : sProp 𝕄 := St A B K c (phase n)

/-- A part of the kernel, then the rest. -/
theorem then_part {β : Type} {c : Dev nD} {P : sProp 𝕄} {R : β → sProp 𝕄} {Q : α → sProp 𝕄} {e : Prog (TpuEff nD τ sig (Elt F) Λ₀ .tc) β}
    {k : β → Prog (TpuEff nD τ sig (Elt F) Λ₀ .tc) α} (h : P ⊢ wpc c e R) (h' : ∀ v, R v ⊢ wpc c (k v) Q) : P ⊢ wpc c (e >>= k) Q := by
  unfold wpc; rw [wp_bind]; exact h.trans (wp_mono _ _ _ h')

/-- The end of a part. -/
theorem done {c : Dev nD} {P : sProp 𝕄} {R : α → sProp 𝕄} {v : α} (h : P ⊢ R v) : P ⊢ wpc c (.ret v) R := by
  unfold wpc; rw [wp_ret]
  iintro H; imodintro; iapply h; iexact H

/-- The same, with a value known. -/
theorem done_with {c : Dev nD} {P : sProp 𝕄} {C : α → Prop} {v : α} (h : C v) : P ⊢ wpc c (.ret v) (fun v => iprop(⌜C v⌝ ∗ P)) := by
  refine done ?_
  iintro H
  isplitr
  · ipureintro; exact h
  iexact H

/-- A function of the kernel's buffers, at them. -/
abbrev onBufs {X : Type 1} (f : (arg0 : Memref sig .tc .vmem S2048x1024 .bf16) → arg0.IsWhole → (arg1 : Memref sig .tc .vmem S1024x2048 .bf16) → arg1.IsWhole
    → (arg2 : Memref sig .tc .vmem S2048x2048 .bf16) → arg2.IsWhole → (arg3 : Memref sig .tc .vmem S2048x2048 .bf16) → arg3.IsWhole
    → (arg4 : Memref sig .tc .vmem S2048x1024 .bf16) → arg4.IsWhole → (arg5 : Memref sig .tc .vmem S1024x2048 .bf16) → arg5.IsWhole
    → (arg6 : Memref sig .tc .vmem S320x2048 .bf16) → arg6.IsWhole → (arg7 : Memref sig .tc .vmem S320x2048 .bf16) → arg7.IsWhole
    → (arg8 : Memref sig .tc .vmem S384x2048 .bf16) → arg8.IsWhole → (arg9 : Memref sig .tc .vmem S160x2048 .bf16) → arg9.IsWhole
    → (arg10 : Memref sig .tc .vmem S160x2048 .bf16) → arg10.IsWhole → (arg11 : Memref sig .tc .vmem S192x2048 .bf16) → arg11.IsWhole
    → (arg12 : Memref sig .tc .vmem S80x2048 .bf16) → arg12.IsWhole → (arg13 : Memref sig .tc .vmem S80x2048 .bf16) → arg13.IsWhole
    → (arg14 : Memref sig .tc .vmem S96x2048 .bf16) → arg14.IsWhole → DmaSems sig S3x6x2 → DmaSems sig S3x6x2 → X) : X :=
  f aM (Memref.isWhole_whole _) bM (Memref.isWhole_whole _) oM (Memref.isWhole_whole _) zM (Memref.isWhole_whole _)
    a16M (Memref.isWhole_whole _) b16M (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    (Memref.whole cc0_scratch11) (Memref.isWhole_whole _) cc0_scratch12 cc0_scratch13

/-! ## The reduction's steps -/

theorem sendRs (n : ℕ) (c : Dev nD) (b k : Fin 3) (cc : Fin 2) {off : Fin 2 → ℕ} (hoff : off = ![sOff c b k.val, 1024 * cc.val])
    {inb : ∀ a, off a + (![hs b (k.val + 1), 1024] : Fin 2 → ℕ) a ≤ S2048x2048.size a} {hst}
    {dst : Memref sig .tc .vmem ⟨2, ![hs b (k.val + 1), 1024]⟩ .bf16} {dev : ℕ} {hlt : dev < nD} {sS sR : DmaSem sig} (hdev : dev = (pt c b k).val)
    {h₀ h₁ h₂ h₃} {e : PUnit → Prog (TpuEff nD τ sig (Elt F) Λ₀ .tc) α} {Q : α → sProp 𝕄}
    (hnext : At A B K c (n + 1) ⊢ wpc c (e ⟨⟩) Q)
    (hdst : dst = commS b k cc := by rfl) (hsS : sS = sendSem b (rsT k) cc := by rfl) (hsR : sR = recvSem b (rsT k) cc := by rfl)
    (hev : events[n]? = some (.rs b cc) := by rfl) (hp : (phase n).rs b cc = 1 + 4 * k.val := by decide) :
    At A B K c n ⊢ wpc c (.op (.enqueueDma (zM.slice (Rect.unit (s := S2048x2048) off ![hs b (k.val + 1), 1024] inb) hst)
      (.remote (Dev.tc (⟨dev, hlt⟩ : Dev nD)) dst (.dma sS) h₀) (.dma sR) h₁ h₂ h₃) e) Q := by
  subst hoff
  exact step_send_rs A B K c (phase n) b k cc hp _ _ _ _ _ rfl hdst (Fin.ext hdev) hsS hsR (next A B K hev hnext)

theorem waitS (n : ℕ) (c : Dev nD) (b k : Fin 3) (cc : Fin 2) {sem : DmaSem sig} {s₁ s₂ : Shape} {src : Memref sig .tc .vmem s₁ .bf16} {dst : Memref sig .tc .vmem s₂ .bf16}
    {h₁ h₂} {e : PUnit → Prog (TpuEff nD τ sig (Elt F) Λ₀ .tc) α} {Q : α → sProp 𝕄}
    (hnext : At A B K c (n + 1) ⊢ wpc c (e ⟨⟩) Q)
    (hsem : sem = sendSem b (rsT k) cc := by rfl) (hcr : dst.view.dmaCredit = nRs b k := by rfl)
    (hev : events[n]? = some (.rs b cc) := by rfl) (hp : (phase n).rs b cc = 1 + 4 * k.val + 1 := by decide) (hab : Above (phase n) 0 := by decide) :
    At A B K c n ⊢ wpc c (.op (.waitDma2 sem src dst h₁ h₂) e) Q :=
  step_waitS_rs A B K c (phase n) b k cc hp hab sem hsem hcr (next A B K hev hnext)

theorem waitR (n : ℕ) (c : Dev nD) (b k : Fin 3) (cc : Fin 2) {sem : DmaSem sig} {s₁ s₂ : Shape} {src : Memref sig .tc .vmem s₁ .bf16} {dst : Memref sig .tc .vmem s₂ .bf16}
    {h₁ h₂} {e : PUnit → Prog (TpuEff nD τ sig (Elt F) Λ₀ .tc) α} {Q : α → sProp 𝕄}
    (hnext : At A B K c (n + 1) ⊢ wpc c (e ⟨⟩) Q)
    (hsem : sem = recvSem b (rsT k) cc := by rfl) (hcr : dst.view.dmaCredit = nRs b k := by rfl)
    (hev : events[n]? = some (.rs b cc) := by rfl) (hp : (phase n).rs b cc = 1 + 4 * k.val + 2 := by decide) (hab : Above (phase n) (2 + k.val) := by decide) :
    At A B K c n ⊢ wpc c (.op (.waitDma2 sem src dst h₁ h₂) e) Q :=
  step_waitR_rs A B K c (phase n) b k cc hp hab sem hsem hcr (next A B K hev hnext)

theorem loadZ (n : ℕ) (c : Dev nD) (b k : Fin 3) (cc : Fin 2) {off : Fin 2 → ℕ} (hoff : off = ![kOff c b (k.val + 1), 1024 * cc.val])
    {inb : ∀ a, off a + (![hs b (k.val + 1), 1024] : Fin 2 → ℕ) a ≤ S2048x2048.size a}
    {hl} {e : Vec F ⟨2, ![hs b (k.val + 1), 1024]⟩ .bf16 → Prog (TpuEff nD τ sig (Elt F) Λ₀ .tc) α} {Q : α → sProp 𝕄}
    (hnext : At A B K c n ⊢ wpc c (e (part A B c b k cc c)) Q) (hp : (phase n).rs b cc = 1 + 4 * k.val + 3 := by decide) :
    At A B K c n ⊢ wpc c (.op (.load zM (Rect.unit (s := S2048x2048) off ![hs b (k.val + 1), 1024] inb).toLoadRect hl) e) Q :=
  step_load_z A B K c (phase n) b k cc hp hoff hnext

theorem loadC (n : ℕ) (c : Dev nD) (b k : Fin 3) (cc : Fin 2) {m : Memref sig .tc .vmem ⟨2, ![hs b (k.val + 1), 2048]⟩ .bf16} {off : Fin 2 → ℕ}
    {inb : ∀ a, off a + (![hs b (k.val + 1), 1024] : Fin 2 → ℕ) a ≤ (⟨2, ![hs b (k.val + 1), 2048]⟩ : Shape).size a}
    {hl} {e : Vec F ⟨2, ![hs b (k.val + 1), 1024]⟩ .bf16 → Prog (TpuEff nD τ sig (Elt F) Λ₀ .tc) α} {Q : α → sProp 𝕄}
    (hnext : At A B K c n ⊢ wpc c (e (part A B c b k cc (pt c b k))) Q)
    (hm : m = commM b k := by rfl) (hoff : off = ![0, 1024 * cc.val] := by rfl) (hp : (phase n).rs b cc = 1 + 4 * k.val + 3 := by decide) :
    At A B K c n ⊢ wpc c (.op (.load m (Rect.unit (s := ⟨2, ![hs b (k.val + 1), 2048]⟩) off ![hs b (k.val + 1), 1024] inb).toLoadRect hl) e) Q :=
  step_load_comm A B K c (phase n) b k cc hp hm hoff hnext

theorem storeZ (n : ℕ) (c : Dev nD) (b k : Fin 3) (cc : Fin 2) {off : Fin 2 → ℕ} (hoff : off = ![kOff c b (k.val + 1), 1024 * cc.val])
    {inb : ∀ a, off a + (![hs b (k.val + 1), 1024] : Fin 2 → ℕ) a ≤ S2048x2048.size a}
    {w : Vec F ⟨2, ![hs b (k.val + 1), 1024]⟩ .bf16} (hw : w = addf (F := F) (φ := .bf16) (part A B c b k cc c) (part A B c b k cc (pt c b k)))
    {hx hm} {e : PUnit → Prog (TpuEff nD τ sig (Elt F) Λ₀ .tc) α} {Q : α → sProp 𝕄}
    (hnext : At A B K c (n + 1) ⊢ wpc c (e ⟨⟩) Q)
    (hev : events[n]? = some (.rs b cc) := by rfl) (hp : (phase n).rs b cc = 1 + 4 * k.val + 3 := by decide) :
    At A B K c n ⊢ wpc c (.op (.store zM (Rect.unit (s := S2048x2048) off ![hs b (k.val + 1), 1024] inb) w Finset.univ hx hm) e) Q :=
  step_store_z A B K c (phase n) b k cc hp hoff hw (next A B K hev hnext)

/-- An accumulation: both halves are read, added and stored. The store's own read of what it overwrites is not used. -/
theorem acc (n : ℕ) (c : Dev nD) (b k : Fin 3) (cc : Fin 2) {off : Fin 2 → ℕ} (hoff : off = ![kOff c b (k.val + 1), 1024 * cc.val])
    {inb inb' inb'' : ∀ a, off a + (![hs b (k.val + 1), 1024] : Fin 2 → ℕ) a ≤ S2048x2048.size a}
    {m : Memref sig .tc .vmem ⟨2, ![hs b (k.val + 1), 2048]⟩ .bf16} {off' : Fin 2 → ℕ}
    {inbm : ∀ a, off' a + (![hs b (k.val + 1), 1024] : Fin 2 → ℕ) a ≤ (⟨2, ![hs b (k.val + 1), 2048]⟩ : Shape).size a}
    {pay : Vec F ⟨2, ![hs b (k.val + 1), 1024]⟩ .bf16 → Vec F ⟨2, ![hs b (k.val + 1), 1024]⟩ .bf16 → Vec F ⟨2, ![hs b (k.val + 1), 1024]⟩ .bf16}
    (hw : ∀ v w, pay v w = addf (F := F) (φ := .bf16) v w)
    {hl hl' hl'' hx hm'} {e : PUnit → Prog (TpuEff nD τ sig (Elt F) Λ₀ .tc) α} {Q : α → sProp 𝕄}
    (hnext : At A B K c (n + 1) ⊢ wpc c (e ⟨⟩) Q)
    (hm : m = commM b k := by rfl) (hoff' : off' = ![0, 1024 * cc.val] := by rfl)
    (hev : events[n]? = some (.rs b cc) := by rfl) (hp : (phase n).rs b cc = 1 + 4 * k.val + 3 := by decide) :
    At A B K c n ⊢ wpc c (.op (.load zM (Rect.unit (s := S2048x2048) off ![hs b (k.val + 1), 1024] inb).toLoadRect hl) fun v =>
      .op (.load m (Rect.unit (s := ⟨2, ![hs b (k.val + 1), 2048]⟩) off' ![hs b (k.val + 1), 1024] inbm).toLoadRect hl') fun w =>
      .op (.load zM (Rect.unit (s := S2048x2048) off ![hs b (k.val + 1), 1024] inb').toLoadRect hl'') fun _ =>
      .op (.store zM (Rect.unit (s := S2048x2048) off ![hs b (k.val + 1), 1024] inb'') (pay v w) Finset.univ hx hm') e) Q :=
  loadZ A B K n c b k cc hoff (loadC A B K n c b k cc (loadZ A B K n c b k cc hoff (storeZ A B K n c b k cc hoff (hw _ _) hnext hev hp) hp) hm hoff' hp) hp

/-! ## The gathering's steps -/

theorem sendAg (n : ℕ) (c : Dev nD) (b j : Fin 3) {off : Fin 2 → ℕ} (hoff : off = ![kOff c b (3 - j.val), 0])
    {inb : ∀ a, off a + (![hs b (3 - j.val), 2048] : Fin 2 → ℕ) a ≤ S2048x2048.size a} {hst hst'}
    {dev : ℕ} {hlt : dev < nD} {sS sR : DmaSem sig} (hdev : dev = (pt c b (back j)).val)
    {h₀ h₁ h₂ h₃} {e : PUnit → Prog (TpuEff nD τ sig (Elt F) Λ₀ .tc) α} {Q : α → sProp 𝕄}
    (hnext : At A B K c (n + 1) ⊢ wpc c (e ⟨⟩) Q)
    (hsS : sS = sendSem b (agT j) 0 := by rfl) (hsR : sR = recvSem b (agT j) 0 := by rfl)
    (hev : events[n]? = some (.ag b) := by rfl) (hp : (phase n).ag b = 1 + 3 * j.val := by decide) :
    At A B K c n ⊢ wpc c (.op (.enqueueDma (oM.slice (Rect.unit (s := S2048x2048) off ![hs b (3 - j.val), 2048] inb) hst)
      (.remote (Dev.tc (⟨dev, hlt⟩ : Dev nD)) (oM.slice (Rect.unit (s := S2048x2048) off ![hs b (3 - j.val), 2048] inb) hst') (.dma sS) h₀) (.dma sR) h₁ h₂ h₃) e) Q :=
  step_send_ag A B K c (phase n) b j hp hoff _ _ _ (Fin.ext hdev) hsS hsR (next A B K hev hnext)

theorem waitSAg (n : ℕ) (c : Dev nD) (b j : Fin 3) {sem : DmaSem sig} {s₁ s₂ : Shape} {src : Memref sig .tc .vmem s₁ .bf16} {dst : Memref sig .tc .vmem s₂ .bf16}
    {h₁ h₂} {e : PUnit → Prog (TpuEff nD τ sig (Elt F) Λ₀ .tc) α} {Q : α → sProp 𝕄}
    (hnext : At A B K c (n + 1) ⊢ wpc c (e ⟨⟩) Q)
    (hsem : sem = sendSem b (agT j) 0 := by rfl) (hcr : dst.view.dmaCredit = nAg b j := by rfl)
    (hev : events[n]? = some (.ag b) := by rfl) (hp : (phase n).ag b = 1 + 3 * j.val + 1 := by decide) (hab : Above (phase n) 0 := by decide) :
    At A B K c n ⊢ wpc c (.op (.waitDma2 sem src dst h₁ h₂) e) Q :=
  step_waitS_ag A B K c (phase n) b j hp hab sem hsem hcr (next A B K hev hnext)

theorem waitRAg (n : ℕ) (c : Dev nD) (b j : Fin 3) {sem : DmaSem sig} {s₁ s₂ : Shape} {src : Memref sig .tc .vmem s₁ .bf16} {dst : Memref sig .tc .vmem s₂ .bf16}
    {h₁ h₂} {e : PUnit → Prog (TpuEff nD τ sig (Elt F) Λ₀ .tc) α} {Q : α → sProp 𝕄}
    (hnext : At A B K c (n + 1) ⊢ wpc c (e ⟨⟩) Q)
    (hsem : sem = recvSem b (agT j) 0 := by rfl) (hcr : dst.view.dmaCredit = nAg b j := by rfl)
    (hev : events[n]? = some (.ag b) := by rfl) (hp : (phase n).ag b = 1 + 3 * j.val + 2 := by decide) (hab : Above (phase n) (5 + j.val) := by decide) :
    At A B K c n ⊢ wpc c (.op (.waitDma2 sem src dst h₁ h₂) e) Q :=
  step_waitR_ag A B K c (phase n) b j hp hab sem hsem hcr (next A B K hev hnext)

end Cert.KernelIdeal.Ring
-- ==== Proof.Whole.lean ====
/- Whole buffers, taken apart into what the steps hold and put together again. -/
module

public import proofs.«01_k».proof.Proof.Run

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

/-! ## The landing buffers -/

/-- The two halves of the columns of a buffer make it up. -/
theorem halves_of (n : ℕ) (m : Memref sig .tc .vmem ⟨2, ![n, 2048]⟩ .bf16)
    (r : Fin 2 → Rect ⟨2, ![n, 2048]⟩) (hr : ∀ cc, r cc = Rect.unit (s := ⟨2, ![n, 2048]⟩) ![0, 1024 * cc.val] ![n, 1024] (inb_comm n cc)) :
    m.view.set = (m.view.slice (r 0)).set ∪ (m.view.slice (r 1)).set ∧ Disjoint (m.view.slice (r 0)).set (m.view.slice (r 1)).set := by
  have hmem : ∀ (cc : Fin 2) (i : Shape.Idx ⟨2, ![n, 2048]⟩), i ∈ (r cc).set ↔ 1024 * cc.val ≤ (i 1).val ∧ (i 1).val < 1024 * cc.val + 1024 := by
    intro cc i
    rw [hr, Rect.mem_set_unit]
    constructor
    · intro h; exact h 1
    · intro h
      have h0 : (i 0).val < n := (i 0).isLt
      exact Fin.forall_fin_two.mpr ⟨⟨Nat.zero_le _, by show (i 0).val < 0 + n; omega⟩, h⟩
  rw [View.set_slice, View.set_slice]
  constructor
  · rw [← Finset.map_union]
    have hu : (r 0).set ∪ (r 1).set = Finset.univ := by
      refine Finset.eq_univ_iff_forall.mpr fun i => ?_
      rw [Finset.mem_union, hmem, hmem]
      have h1 : (i 1).val < 2048 := (i 1).isLt
      simp only [Fin.val_zero, Fin.val_one]
      omega
    rw [hu]; rfl
  · rw [Finset.disjoint_map, Finset.disjoint_left]
    intro i h h'
    rw [hmem] at h h'
    simp only [Fin.val_zero, Fin.val_one] at h h'
    omega

/-- A landing buffer, whole. -/
def commAll (c : Dev nD) (b k : Fin 3) : sProp 𝕄 :=
  iprop(∃ f, ((commM b k).view.loc (c : Thread nD τ) ↦[(commM b k).view.set]{fullShare} (f : Buf (Elt F) ((commM b k).view.loc (c : Thread nD τ)))))

omit [FloatOps F] in
theorem comm_halves (b k : Fin 3) : (commM b k).view.set = (commS b k 0).view.set ∪ (commS b k 1).view.set
    ∧ Disjoint (commS b k 0).view.set (commS b k 1).view.set :=
  halves_of _ (commM b k) (fun cc => Rect.unit (s := ⟨2, ![hs b (k.val + 1), 2048]⟩) ![0, 1024 * cc.val] ![hs b (k.val + 1), 1024] (inb_comm _ cc)) fun _ => rfl

theorem commAll_split (c : Dev nD) (b k : Fin 3) :
    commAll (F := F) c b k ⊢ iprop((∃ f, cAt (F := F) c b k 0 f) ∗ ∃ f, cAt (F := F) c b k 1 f) := by
  have h := comm_halves b k
  unfold commAll
  iintro ⟨%f, H⟩
  have hs : ((commM b k).view.loc (c : Thread nD τ) ↦[(commM b k).view.set]{fullShare} f : sProp 𝕄)
      ⊢ iprop(cAt (F := F) c b k 0 f ∗ cAt (F := F) c b k 1 f) := by
    rw [h.1]; exact (pointsTo_union h.2).1
  ihave H := hs $$ H
  icases H with ⟨H0, H1⟩
  isplitl [H0]
  · iexists f; iexact H0
  · iexists f; iexact H1

theorem commAll_join (c : Dev nD) (b k : Fin 3) :
    iprop((∃ f, cAt (F := F) c b k 0 f) ∗ ∃ f, cAt (F := F) c b k 1 f) ⊢ commAll (F := F) c b k := by
  have h := comm_halves b k
  unfold commAll
  iintro ⟨⟨%f, H0⟩, ⟨%g, H1⟩⟩
  have hs : iprop(cAt (F := F) c b k 0 f ∗ cAt (F := F) c b k 1 g)
      ⊢ iprop(∃ f, ((commM b k).view.loc (c : Thread nD τ) ↦[(commM b k).view.set]{fullShare} (f : Buf (Elt F) ((commM b k).view.loc (c : Thread nD τ))) : sProp 𝕄)) := by
    rw [h.1]; exact (pointsTo_join h.2).trans (exists_intro _)
  iapply hs
  isplitl [H0]; · iexact H0
  iexact H1

/-! ## The rows of a 2048 by 2048 buffer -/

/-- Bands 0, 1 and 2 are all rows. -/
theorem bands (c : Dev nD) : (Finset.univ : Finset S2048x2048.Idx) = keepO c 0 0 ∪ (keepO c 1 0 ∪ keepO c 2 0)
    ∧ Disjoint (keepO c 0 0) (keepO c 1 0 ∪ keepO c 2 0) ∧ Disjoint (keepO c 1 0) (keepO c 2 0) := by
  have h0 : ∀ i, i ∈ keepO c 0 0 ↔ (0 ≤ (i 0).val ∧ (i 0).val < 0 + 640) ∧ (0 ≤ (i 1).val ∧ (i 1).val < 0 + 2048) := fun i => mem_band
  have h1 : ∀ i, i ∈ keepO c 1 0 ↔ (640 ≤ (i 0).val ∧ (i 0).val < 640 + 640) ∧ (0 ≤ (i 1).val ∧ (i 1).val < 0 + 2048) := fun i => mem_band
  have h2 : ∀ i, i ∈ keepO c 2 0 ↔ (1280 ≤ (i 0).val ∧ (i 0).val < 1280 + 768) ∧ (0 ≤ (i 1).val ∧ (i 1).val < 0 + 2048) := fun i => mem_band
  refine ⟨(Finset.eq_univ_iff_forall.mpr fun i => ?_).symm, Finset.disjoint_left.mpr fun i h h' => ?_, Finset.disjoint_left.mpr fun i h h' => ?_⟩
  · have r : (i 0).val < 2048 := (i 0).isLt
    have q : (i 1).val < 2048 := (i 1).isLt
    rw [Finset.mem_union, Finset.mem_union, h0, h1, h2]
    omega
  · rw [Finset.mem_union, h1, h2] at h'
    rw [h0] at h
    omega
  · rw [h1] at h
    rw [h2] at h'
    omega

theorem o_bands (c : Dev nD) (f : Vec F S2048x2048 .bf16) :
    (oAt c Finset.univ f : sProp 𝕄) ⊣⊢ bigSep Finset.univ fun b : Fin 3 => oAt c (keepO c b 0) f := by
  have h := bands c
  rw [three]
  constructor
  · refine .trans (Entails.of_eq (congrArg (oAt (F := F) c · f) h.1)) ((pointsTo_union h.2.1).1.trans ?_)
    iintro ⟨H0, H⟩
    isplitl [H0]; · iexact H0
    iapply (pointsTo_union h.2.2).1; iexact H
  · refine .trans ?_ ((pointsTo_union h.2.1).2.trans (Entails.of_eq (congrArg (oAt (F := F) c · f) h.1.symm)))
    iintro ⟨H0, H⟩
    isplitl [H0]; · iexact H0
    iapply (pointsTo_union h.2.2).2; iexact H

theorem z_bands (c : Dev nD) (f : Vec F S2048x2048 .bf16) :
    (zAt c Finset.univ f : sProp 𝕄) ⊢ bigSep Finset.univ fun b : Fin 3 => zAt c (keepO c b 0) f := by
  have h := bands c
  rw [three]
  refine .trans (Entails.of_eq (congrArg (zAt (F := F) c · f) h.1)) ((pointsTo_union h.2.1).1.trans ?_)
  iintro ⟨H0, H⟩
  isplitl [H0]; · iexact H0
  iapply (pointsTo_union h.2.2).1; iexact H

theorem zAt_union (c : Dev nD) {S T : Finset S2048x2048.Idx} (h : Disjoint S T) :
    iprop((∃ f, zAt (F := F) c S f) ∗ ∃ f, zAt (F := F) c T f) ⊢ iprop(∃ f, zAt (F := F) c (S ∪ T) f) := by
  iintro ⟨⟨%f, H0⟩, ⟨%g, H1⟩⟩
  iexists _
  iapply (pointsTo_join h)
  isplitl [H0]; · iexact H0
  iexact H1

theorem z_join (c : Dev nD) :
    (bigSep Finset.univ fun b : Fin 3 => iprop(∃ f, zAt (F := F) c (keepO c b 0) f)) ⊢ iprop(∃ f, zAt (F := F) c Finset.univ f) := by
  have h := bands c
  rw [three]
  iintro ⟨H0, H1, H2⟩
  ihave H := (zAt_union (F := F) c h.2.2) $$ [H1 H2]
  · isplitl [H1] <;> iassumption
  ihave H := (zAt_union (F := F) c h.2.1) $$ [H0 H]
  · isplitl [H0] <;> iassumption
  rw [← h.1]
  iexact H

/-- The partial products at the start. -/
theorem z_start (A : Dev nD → Vec F S2048x1024 .bf16) (B : Dev nD → Vec F S1024x2048 .bf16) (c : Dev nD) :
    iprop(∃ f, zAt (F := F) c Finset.univ f) ⊢ bigSep Finset.univ fun x : Fin 3 × Fin 2 => heldZ A B c x.1 x.2 0 := by
  have h2 : ∀ b : Fin 3, ∀ f, (zAt c (keepO c b 0) f : sProp 𝕄) ⊢ bigSep Finset.univ fun cc : Fin 2 => heldZ A B c b cc 0 := by
    intro b f
    refine (zAt_cols c b 0 f).1.trans ?_
    rw [two, heldZ_zero, heldZ_zero]
    iintro ⟨H0, H1⟩
    isplitl [H0]
    · iexists f; iexact H0
    · iexists f; iexact H1
  iintro ⟨%f, H⟩
  ihave H := (z_bands c f) $$ H
  rw [bigSep_univ_prod]
  have h3 : (bigSep Finset.univ fun b : Fin 3 => (zAt c (keepO c b 0) f : sProp 𝕄))
    ⊢ bigSep Finset.univ fun b : Fin 3 => bigSep Finset.univ fun cc : Fin 2 => heldZ A B c b cc 0 := bigSep_mono fun b _ => h2 b f
  iapply h3; iexact H

/-- A half of a band, its kept rows and the rows sent back. -/
theorem z_half (c : Dev nD) (b : Fin 3) (cc : Fin 2) :
    iprop((∃ f, zAt (F := F) c (keepZ c b 3 cc) f) ∗ backRs (F := F) c b 0 cc ∗ backRs (F := F) c b 1 cc ∗ backRs (F := F) c b 2 cc)
      ⊢ iprop(∃ f, zAt (F := F) c (keepZ c b 0 cc) f) := by
  have hk : ∀ k : Fin 3, iprop((∃ f, zAt (F := F) c (keepZ c b (k.val + 1) cc) f) ∗ backRs (F := F) c b k cc) ⊢ iprop(∃ f, zAt (F := F) c (keepZ c b k.val cc) f) := by
    intro k
    have h := keepZ_split c b k cc
    unfold backRs
    rw [h.1]
    exact zAt_union c h.2
  have h2 : iprop((∃ f, zAt (F := F) c (keepZ c b 3 cc) f) ∗ backRs (F := F) c b 2 cc) ⊢ iprop(∃ f, zAt (F := F) c (keepZ c b 2 cc) f) := hk 2
  have h1 : iprop((∃ f, zAt (F := F) c (keepZ c b 2 cc) f) ∗ backRs (F := F) c b 1 cc) ⊢ iprop(∃ f, zAt (F := F) c (keepZ c b 1 cc) f) := hk 1
  have h0 : iprop((∃ f, zAt (F := F) c (keepZ c b 1 cc) f) ∗ backRs (F := F) c b 0 cc) ⊢ iprop(∃ f, zAt (F := F) c (keepZ c b 0 cc) f) := hk 0
  iintro ⟨H, H0, H1, H2⟩
  ihave H := h2 $$ [H H2]
  · isplitl [H]; · iexact H
    iexact H2
  ihave H := h1 $$ [H H1]
  · isplitl [H]; · iexact H
    iexact H1
  iapply h0
  isplitl [H]; · iexact H
  iexact H0

/-- The partial products, whole again. -/
theorem z_end (c : Dev nD) :
    (bigSep Finset.univ fun x : Fin 3 × Fin 2 => iprop(∃ f, zAt (F := F) c (keepZ c x.1 0 x.2) f)) ⊢ iprop(∃ f, zAt (F := F) c Finset.univ f) := by
  rw [bigSep_univ_prod]
  refine .trans (bigSep_mono fun b _ => ?_) (z_join c)
  rw [two]
  exact zAt_join c b 0

/-- The result at the start: the rows kept last, and those lent. -/
theorem o_start (A : Dev nD → Vec F S2048x1024 .bf16) (B : Dev nD → Vec F S1024x2048 .bf16) (c : Dev nD) :
    iprop(∃ f, oAt (F := F) c Finset.univ f) ⊢ bigSep Finset.univ fun b : Fin 3 => iprop(heldO A B c b 0
      ∗ bigSep Finset.univ fun k : Fin 3 => iprop(∃ f, oAt (F := F) c (sentO c b k.val) f)) := by
  iintro ⟨%f, H⟩
  ihave H := (o_bands c f).1 $$ H
  have hb : ∀ b : Fin 3, (oAt c (keepO c b 0) f : sProp 𝕄) ⊢ iprop(heldO A B c b 0
      ∗ bigSep Finset.univ fun k : Fin 3 => iprop(∃ f, oAt (F := F) c (sentO c b k.val) f)) := by
    intro b
    have s0 : (oAt c (keepO c b 0) f : sProp 𝕄) ⊢ iprop(oAt c (keepO c b 1) f ∗ oAt c (sentO c b 0) f) := (oAt_split c b 0 f).1
    have s1 : (oAt c (keepO c b 1) f : sProp 𝕄) ⊢ iprop(oAt c (keepO c b 2) f ∗ oAt c (sentO c b 1) f) := (oAt_split c b 1 f).1
    have s2 : (oAt c (keepO c b 2) f : sProp 𝕄) ⊢ iprop(oAt c (keepO c b 3) f ∗ oAt c (sentO c b 2) f) := (oAt_split c b 2 f).1
    rw [three, heldO_zero]
    iintro H
    ihave H := s0 $$ H
    icases H with ⟨H, H0⟩
    ihave H := s1 $$ H
    icases H with ⟨H, H1⟩
    ihave H := s2 $$ H
    icases H with ⟨H, H2⟩
    isplitl [H]; · iexists f; iexact H
    isplitl [H0]; · iexists f; iexact H0
    isplitl [H1]; · iexists f; iexact H1
    iexists f; iexact H2
  have h3 : (bigSep Finset.univ fun b : Fin 3 => (oAt c (keepO c b 0) f : sProp 𝕄)) ⊢ bigSep Finset.univ fun b : Fin 3 => iprop(heldO A B c b 0
      ∗ bigSep Finset.univ fun k : Fin 3 => iprop(∃ f, oAt (F := F) c (sentO c b k.val) f)) := bigSep_mono fun b _ => hb b
  iapply h3; iexact H

/-- The result at the end. -/
theorem o_end (A : Dev nD → Vec F S2048x1024 .bf16) (B : Dev nD → Vec F S1024x2048 .bf16) (c : Dev nD) :
    (bigSep Finset.univ fun b : Fin 3 => heldO A B c b 10) ⊢ (oAt c Finset.univ (outv A B) : sProp 𝕄) :=
  (o_bands c (outv A B)).2

end Cert.KernelIdeal.Ring
-- ==== Proof.Begin.lean ====
/- The beginning: each device meets its three partners at the barrier, lending each what that partner will write on it. -/
module

public import proofs.«01_k».proof.Proof.Whole

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over cells, slots and devices -/

/-- The slots of the reduction, of the gathering, and those never used, among all. -/
def slotOf : (Fin 3 × Fin 3 × Fin 2) ⊕ ((Fin 3 × Fin 3) ⊕ (Fin 3 × Fin 3)) → Fin 3 × Fin 6 × Fin 2
  | .inl x => (x.1, rsT x.2.1, x.2.2)
  | .inr (.inl y) => (y.1, agT y.2, 0)
  | .inr (.inr y) => (y.1, agT y.2, 1)

theorem slotOf_bij : Function.Bijective slotOf :=
  (Fintype.bijective_iff_injective_and_card _).2 ⟨by
    have h1 : ∀ x x' : Fin 3 × Fin 3 × Fin 2, slotOf (.inl x) = slotOf (.inl x') → x = x' := by decide +kernel
    have h2 : ∀ x x' : Fin 3 × Fin 3, slotOf (.inr (.inl x)) = slotOf (.inr (.inl x')) → x = x' := by decide +kernel
    have h3 : ∀ x x' : Fin 3 × Fin 3, slotOf (.inr (.inr x)) = slotOf (.inr (.inr x')) → x = x' := by decide +kernel
    have h4 : ∀ (x : Fin 3 × Fin 3 × Fin 2) (y : Fin 3 × Fin 3), slotOf (.inl x) ≠ slotOf (.inr (.inl y)) := by decide +kernel
    have h5 : ∀ (x : Fin 3 × Fin 3 × Fin 2) (y : Fin 3 × Fin 3), slotOf (.inl x) ≠ slotOf (.inr (.inr y)) := by decide +kernel
    have h6 : ∀ x y : Fin 3 × Fin 3, slotOf (.inr (.inl x)) ≠ slotOf (.inr (.inr y)) := by decide +kernel
    rintro (x | x | x) (y | y | y) h
    · rw [h1 x y h]
    · exact absurd h (h4 x y)
    · exact absurd h (h5 x y)
    · exact absurd h.symm (h4 y x)
    · rw [h2 x y h]
    · exact absurd h (h6 x y)
    · exact absurd h.symm (h5 y x)
    · exact absurd h.symm (h6 y x)
    · rw [h3 x y h], rfl⟩

omit [FloatOps F] in
theorem over_slots (Φ : Fin 3 × Fin 6 × Fin 2 → sProp 𝕄) : bigSep Finset.univ Φ
    = iprop((bigSep Finset.univ fun x : Fin 3 × Fin 3 × Fin 2 => Φ (x.1, rsT x.2.1, x.2.2))
      ∗ (bigSep Finset.univ fun y : Fin 3 × Fin 3 => Φ (y.1, agT y.2, 0)) ∗ bigSep Finset.univ fun y : Fin 3 × Fin 3 => Φ (y.1, agT y.2, 1)) := by
  rw [bigSep_univ_equiv (Equiv.ofBijective slotOf slotOf_bij) Φ, bigSep_univ_sum, bigSep_univ_sum]
  rfl

omit [FloatOps F] in
theorem over_own (Φ : Own → sProp 𝕄) : bigSep Finset.univ Φ
    = iprop((bigSep Finset.univ fun x : Fin 3 × Fin 3 × Fin 2 => iprop(Φ (false, x.1, rsT x.2.1, x.2.2) ∗ Φ (true, x.1, rsT x.2.1, x.2.2)))
      ∗ (bigSep Finset.univ fun y : Fin 3 × Fin 3 => iprop(Φ (false, y.1, agT y.2, 0) ∗ Φ (true, y.1, agT y.2, 0)))
      ∗ bigSep Finset.univ fun y : Fin 3 × Fin 3 => iprop(Φ (false, y.1, agT y.2, 1) ∗ Φ (true, y.1, agT y.2, 1))) := by
  have hb : bigSep Finset.univ Φ = bigSep Finset.univ fun s : Fin 3 × Fin 6 × Fin 2 => iprop(Φ (false, s) ∗ Φ (true, s)) := by
    rw [bigSep_univ_prod, bigSep_univ_comm]
    refine bigSep_congr fun s _ => ?_
    exact bigSep_univ_eq_bigSepL [false, true] (by decide) (by decide) _
  rw [hb, over_slots]

omit [FloatOps F] in
theorem over_cells (Φ : Unit ⊕ Own → sProp 𝕄) : bigSep Finset.univ Φ
    = iprop(Φ (.inl ()) ∗ bigSep Finset.univ fun o : Own => Φ (.inr o)) := by
  have h : bigSep Finset.univ (fun u : Unit => Φ (.inl u)) = Φ (.inl ()) := bigSep_singleton
  rw [bigSep_univ_sum, h]
  rfl

omit [FloatOps F] in
/-- Slots of the reduction, listed by half of a band. -/
theorem by_half (Φ : Fin 3 → Fin 3 → Fin 2 → sProp 𝕄) :
    (bigSep Finset.univ fun x : Fin 3 × Fin 3 × Fin 2 => Φ x.1 x.2.1 x.2.2)
      = bigSep Finset.univ fun x : Fin 3 × Fin 2 => bigSep Finset.univ fun k : Fin 3 => Φ x.1 k x.2 := by
  rw [bigSep_univ_prod, bigSep_univ_prod]
  refine bigSep_congr fun b _ => ?_
  rw [bigSep_univ_prod, bigSep_univ_comm]

/-- Over an axis, partners are exchanged. -/
def paE (a : Fin 3) : Dev nD ≃ Dev nD := ⟨pa a, pa a, pa_pa a, pa_pa a⟩
def ptE (b k : Fin 3) : Dev nD ≃ Dev nD := ⟨fun d => pt d b k, fun d => pt d b k, fun d => pt_pt d b k, fun d => pt_pt d b k⟩
/-- The steps of a band, by axis. -/
def axE (b : Fin 3) : Fin 3 ≃ Fin 3 := ⟨kOf b, ax b, ax_kOf b, kOf_ax b⟩
def backE : Fin 3 ≃ Fin 3 := ⟨back, back, by decide, by decide⟩

omit [FloatOps F] in
/-- A persistent fact joins every member of a family. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## What is lent -/

omit [FloatOps F] in
theorem lends_out (c : Dev nD) : (bigSep Finset.univ fun y : Fin 3 × Fin 3 => lend (F := F) c y.1 y.2)
    = bigSep Finset.univ fun a : Fin 3 => lendAx (F := F) c a := by
  unfold lendAx
  rw [bigSep_univ_prod, bigSep_univ_comm]
  conv_rhs => rw [bigSep_univ_comm]
  rw [bigSep_univ_comm]
  exact bigSep_congr fun b _ => bigSep_univ_equiv (axE b) fun k => lend (F := F) c b k

omit [FloatOps F] in
theorem lends_in (c : Dev nD) : (bigSep Finset.univ fun a : Fin 3 => lendAx (F := F) (pa a c) a)
    = bigSep Finset.univ fun y : Fin 3 × Fin 3 => lend (F := F) (pt c y.1 y.2) y.1 y.2 := by
  unfold lendAx
  rw [bigSep_univ_prod, bigSep_univ_comm]
  refine bigSep_congr fun b _ => ?_
  refine (bigSep_univ_equiv (axE b).symm fun a => lend (F := F) (pa a c) b (kOf b a)).trans (bigSep_congr fun k _ => ?_)
  show lend (F := F) (pa (ax b k) c) b (kOf b (ax b k)) = lend (pt c b k) b k
  rw [kOf_ax]
  rfl

/-- Everything lent, by the slots that will use it. -/
theorem lends_sorted (c : Dev nD) : (bigSep Finset.univ fun y : Fin 3 × Fin 3 => lend (F := F) (pt c y.1 y.2) y.1 y.2)
    ⊢ iprop((bigSep Finset.univ fun x : Fin 3 × Fin 3 × Fin 2 => iprop(∃ f, cAt (F := F) (pt c x.1 x.2.1) x.1 x.2.1 x.2.2 f))
      ∗ bigSep Finset.univ fun y : Fin 3 × Fin 3 => iprop(∃ f, oAt (F := F) (pt c y.1 (back y.2)) (keepO c y.1 ((back y.2).val + 1)) f)) := by
  have h1 : (bigSep Finset.univ fun x : Fin 3 × Fin 3 × Fin 2 => iprop(∃ f, cAt (F := F) (pt c x.1 x.2.1) x.1 x.2.1 x.2.2 f))
      = bigSep Finset.univ fun y : Fin 3 × Fin 3 => iprop((∃ f, cAt (F := F) (pt c y.1 y.2) y.1 y.2 0 f) ∗ ∃ f, cAt (F := F) (pt c y.1 y.2) y.1 y.2 1 f) := by
    rw [bigSep_univ_prod, bigSep_univ_prod]
    refine bigSep_congr fun b _ => ?_
    rw [bigSep_univ_prod]
    exact bigSep_congr fun k _ => two fun cc => iprop(∃ f, cAt (F := F) (pt c b k) b k cc f)
  have h2 : (bigSep Finset.univ fun y : Fin 3 × Fin 3 => iprop(∃ f, oAt (F := F) (pt c y.1 (back y.2)) (keepO c y.1 ((back y.2).val + 1)) f))
      = bigSep Finset.univ fun y : Fin 3 × Fin 3 => iprop(∃ f, oAt (F := F) (pt c y.1 y.2) (keepO c y.1 (y.2.val + 1)) f) := by
    rw [bigSep_univ_prod, bigSep_univ_prod]
    exact bigSep_congr fun b _ => (bigSep_univ_equiv backE fun k => iprop(∃ f, oAt (F := F) (pt c b k) (keepO c b (k.val + 1)) f)).symm
  rw [h1, h2, ← bigSep_sep']
  refine bigSep_mono fun y _ => (Entails.of_eq (lend_eq (F := F) c y.1 y.2)).trans ?_
  show iprop(_ ∗ _ ∗ _) ⊢ iprop((_ ∗ _) ∗ _)
  iintro ⟨H0, H1, H2⟩
  iframe

theorem lend_made (c : Dev nD) (y : Fin 3 × Fin 3) :
    iprop(commAll (F := F) c y.1 y.2 ∗ ∃ f, oAt (F := F) c (sentO c y.1 y.2.val) f) ⊢ lend (F := F) c y.1 y.2 := by
  unfold lend
  iintro ⟨H, H2⟩
  ihave H := (commAll_split (F := F) c y.1 y.2) $$ H
  icases H with ⟨H0, H1⟩
  iframe

/-- The landing buffers and the result rows a device lends. -/
theorem lends_made (A : Dev nD → Vec F S2048x1024 .bf16) (B : Dev nD → Vec F S1024x2048 .bf16) (c : Dev nD) :
    iprop((bigSep Finset.univ fun y : Fin 3 × Fin 3 => commAll (F := F) c y.1 y.2) ∗ ∃ f, oAt (F := F) c Finset.univ f)
      ⊢ iprop((bigSep Finset.univ fun a : Fin 3 => lendAx (F := F) c a) ∗ bigSep Finset.univ fun b : Fin 3 => heldO A B c b 0) := by
  have ho : iprop(∃ f, oAt (F := F) c Finset.univ f) ⊢ iprop((bigSep Finset.univ fun b : Fin 3 => heldO A B c b 0)
      ∗ bigSep Finset.univ fun b : Fin 3 => bigSep Finset.univ fun k : Fin 3 => iprop(∃ f, oAt (F := F) c (sentO c b k.val) f)) :=
    (o_start A B c).trans (Entails.of_eq (bigSep_sep' _ _ _))
  rw [← lends_out (F := F) c]
  iintro ⟨Hc, Ho⟩
  ihave Ho := ho $$ Ho
  icases Ho with ⟨Hh, Ho⟩
  isplitl [Hc Ho]
  · have h : iprop((bigSep Finset.univ fun y : Fin 3 × Fin 3 => commAll (F := F) c y.1 y.2)
        ∗ bigSep Finset.univ fun b : Fin 3 => bigSep Finset.univ fun k : Fin 3 => iprop(∃ f, oAt (F := F) c (sentO c b k.val) f))
        ⊢ bigSep Finset.univ fun y : Fin 3 × Fin 3 => lend (F := F) c y.1 y.2 := by
      rw [← bigSep_univ_prod (fun y : Fin 3 × Fin 3 => iprop(∃ f, oAt (F := F) c (sentO c y.1 y.2.val) f)), ← bigSep_sep']
      exact bigSep_mono fun y _ => lend_made c y
    iapply h
    isplitl [Hc]; · iexact Hc
    iexact Ho
  iexact Hh

/-! ## What a device starts with -/

/-- What it owes: a unit at each partner's barrier cell, and every slot's bytes. -/
def O₀ (c : Dev nD) : CellTallies nD τ sig Unit :=
  ((owed c start0 + tallyAt (barC (pa 2 c)) () 1) + tallyAt (barC (pa 1 c)) () 1) + tallyAt (barC (pa 0 c)) () 1

/-- The duties it pays. -/
def payToks (c : Dev nD) : sProp 𝕄 :=
  iprop((bigSep Finset.univ fun a : Fin 3 => dutyTok ER (barC (pa a c)) 0 a)
    ∗ (bigSep Finset.univ fun x : Fin 3 × Fin 3 × Fin 2 => iprop(dutyTok ER (sRs c x.1 x.2.1 x.2.2) 0 0 ∗ dutyTok ER (rRs (pt c x.1 x.2.1) x.1 x.2.1 x.2.2) 0 0))
    ∗ bigSep Finset.univ fun y : Fin 3 × Fin 3 => iprop(dutyTok ER (sAg c y.1 y.2) 0 0 ∗ dutyTok ER (rAg (pt c y.1 (back y.2)) y.1 y.2) 0 0))

/-- What is due at its own cells. -/
def due (c : Dev nD) : sProp 𝕄 :=
  iprop(cred (tallyAt (barC c) () 3)
    ∗ (bigSep Finset.univ fun x : Fin 3 × Fin 3 × Fin 2 => cred (tallyAt (rRs c x.1 x.2.1 x.2.2) () (nRs x.1 x.2.1)))
    ∗ bigSep Finset.univ fun y : Fin 3 × Fin 3 => cred (tallyAt (rAg c y.1 y.2) () (nAg y.1 y.2)))

/-- Its place at each of its cells. -/
def places (c : Dev nD) : sProp 𝕄 := bigSep Finset.univ fun k : Unit ⊕ Own => atPos ER (kcell (c, k)) 0 ∅ 0

/-- A slot of the reduction but what its partner lends. -/
def ready (c : Dev nD) (x : Fin 3 × Fin 3 × Fin 2) : sProp 𝕄 :=
  iprop(atPos ER (sRs c x.1 x.2.1 x.2.2) 0 ∅ 0 ∗ atPos ER (rRs c x.1 x.2.1 x.2.2) 0 ∅ 0 ∗ dutyTok ER (sRs c x.1 x.2.1 x.2.2) 0 0
      ∗ dutyTok ER (rRs (pt c x.1 x.2.1) x.1 x.2.1 x.2.2) 0 0 ∗ cred (tallyAt (rRs c x.1 x.2.1 x.2.2) () (nRs x.1 x.2.1)))

/-- A slot of the gathering, likewise. -/
def readyAg (c : Dev nD) (y : Fin 3 × Fin 3) : sProp 𝕄 :=
  iprop(atPos ER (sAg c y.1 y.2) 0 ∅ 0 ∗ atPos ER (rAg c y.1 y.2) 0 ∅ 0 ∗ dutyTok ER (sAg c y.1 y.2) 0 0
      ∗ dutyTok ER (rAg (pt c y.1 (back y.2)) y.1 y.2) 0 0 ∗ cred (tallyAt (rAg c y.1 y.2) () (nAg y.1 y.2)))

/-- Its places at the cells of slots never used. -/
def spare (c : Dev nD) (y : Fin 3 × Fin 3) : sProp 𝕄 :=
  iprop(atPos ER ((c : Thread nD τ), .dma (sendSem y.1 (agT y.2) 1)) 0 ∅ 0 ∗ atPos ER ((c : Thread nD τ), .dma (recvSem y.1 (agT y.2) 1)) 0 ∅ 0)

omit [FloatOps F] in
theorem sorted (c : Dev nD) : iprop(places (F := F) c ∗ payToks (F := F) c ∗ due (F := F) c)
    ⊢ iprop((atPos ER (barC c) 0 ∅ 0 ∗ cred (tallyAt (barC c) () 3) ∗ bigSep Finset.univ fun a : Fin 3 => dutyTok ER (barC (pa a c)) 0 a)
      ∗ (bigSep Finset.univ (ready (F := F) c)) ∗ bigSep Finset.univ (readyAg (F := F) c) ∗ bigSep Finset.univ (spare (F := F) c)) := by
  have hp : places (F := F) c = iprop(atPos ER (barC c) 0 ∅ 0
      ∗ (bigSep Finset.univ fun x : Fin 3 × Fin 3 × Fin 2 => iprop(atPos ER (sRs c x.1 x.2.1 x.2.2) 0 ∅ 0 ∗ atPos ER (rRs c x.1 x.2.1 x.2.2) 0 ∅ 0))
      ∗ (bigSep Finset.univ fun y : Fin 3 × Fin 3 => iprop(atPos ER (sAg c y.1 y.2) 0 ∅ 0 ∗ atPos ER (rAg c y.1 y.2) 0 ∅ 0))
      ∗ bigSep Finset.univ (spare (F := F) c)) := by
    unfold places
    rw [over_cells, over_own]
    rfl
  have hr : bigSep Finset.univ (ready (F := F) c)
      = iprop(((bigSep Finset.univ fun x : Fin 3 × Fin 3 × Fin 2 => atPos ER (sRs c x.1 x.2.1 x.2.2) 0 ∅ 0)
        ∗ (bigSep Finset.univ fun x : Fin 3 × Fin 3 × Fin 2 => atPos ER (rRs c x.1 x.2.1 x.2.2) 0 ∅ 0)
        ∗ (bigSep Finset.univ fun x : Fin 3 × Fin 3 × Fin 2 => dutyTok ER (sRs c x.1 x.2.1 x.2.2) 0 0)
        ∗ (bigSep Finset.univ fun x : Fin 3 × Fin 3 × Fin 2 => dutyTok ER (rRs (pt c x.1 x.2.1) x.1 x.2.1 x.2.2) 0 0)
        ∗ bigSep Finset.univ fun x : Fin 3 × Fin 3 × Fin 2 => cred (tallyAt (rRs c x.1 x.2.1 x.2.2) () (nRs x.1 x.2.1)))) := by
    unfold ready
    rw [bigSep_sep', bigSep_sep', bigSep_sep', bigSep_sep']
  have ha : bigSep Finset.univ (readyAg (F := F) c)
      = iprop(((bigSep Finset.univ fun y : Fin 3 × Fin 3 => atPos ER (sAg c y.1 y.2) 0 ∅ 0)
        ∗ (bigSep Finset.univ fun y : Fin 3 × Fin 3 => atPos ER (rAg c y.1 y.2) 0 ∅ 0)
        ∗ (bigSep Finset.univ fun y : Fin 3 × Fin 3 => dutyTok ER (sAg c y.1 y.2) 0 0)
        ∗ (bigSep Finset.univ fun y : Fin 3 × Fin 3 => dutyTok ER (rAg (pt c y.1 (back y.2)) y.1 y.2) 0 0)
        ∗ bigSep Finset.univ fun y : Fin 3 × Fin 3 => cred (tallyAt (rAg c y.1 y.2) () (nAg y.1 y.2)))) := by
    unfold readyAg
    rw [bigSep_sep', bigSep_sep', bigSep_sep', bigSep_sep']
  rw [hp, hr, ha]
  unfold payToks due
  rw [bigSep_sep', bigSep_sep', bigSep_sep', bigSep_sep']
  iintro ⟨⟨Pb, ⟨P1, P2⟩, ⟨P3, P4⟩, P5⟩, ⟨Tb, ⟨T1, T2⟩, T3, T4⟩, Db, D1, D2⟩
  iframe

variable (A : Dev nD → Vec F S2048x1024 .bf16) (B : Dev nD → Vec F S1024x2048 .bf16)
variable (K : Dev nD × (Unit ⊕ Own) → ℕ)

theorem ready_slot (c : Dev nD) (x : Fin 3 × Fin 3 × Fin 2) :
    iprop(ready (F := F) c x ∗ ∃ f, cAt (F := F) (pt c x.1 x.2.1) x.1 x.2.1 x.2.2 f) ⊢ slotRs A B c x.1 x.2.1 x.2.2 0 := by
  unfold ready
  simp only [slotRs]
  iintro ⟨⟨H1, H2, H3, H4, H5⟩, H6⟩
  iframe

omit [FloatOps F] in
theorem readyAg_slot (c : Dev nD) (y : Fin 3 × Fin 3) :
    iprop(readyAg (F := F) c y ∗ ∃ f, oAt (F := F) (pt c y.1 (back y.2)) (keepO c y.1 ((back y.2).val + 1)) f) ⊢ slotAg (F := F) c y.1 y.2 0 := by
  unfold readyAg
  simp only [slotAg]
  iintro ⟨⟨H1, H2, H3, H4, H5⟩, H6⟩
  iframe

/-- The state once every partner has lent what it lends. -/
theorem St_zero (c : Dev nD) :
    iprop(recs A B K ∗ (∃ W, owes (c : Thread nD τ) (owed c start0) W)
      ∗ (bigSep Finset.univ (ready (F := F) c)) ∗ bigSep Finset.univ (readyAg (F := F) c)
      ∗ (bigSep Finset.univ fun y : Fin 3 × Fin 3 => lend (F := F) (pt c y.1 y.2) y.1 y.2)
      ∗ (∃ f, zAt (F := F) c Finset.univ f) ∗ (bigSep Finset.univ fun b : Fin 3 => heldO A B c b 0) ∗ factors A B c 0 0 ∗ idle (F := F) c)
      ⊢ At A B K c 0 := by
  have h1 : iprop((bigSep Finset.univ (ready (F := F) c))
      ∗ bigSep Finset.univ fun x : Fin 3 × Fin 3 × Fin 2 => iprop(∃ f, cAt (F := F) (pt c x.1 x.2.1) x.1 x.2.1 x.2.2 f))
      ⊢ bigSep Finset.univ fun x : Fin 3 × Fin 2 => bigSep Finset.univ fun k : Fin 3 => slotRs A B c x.1 k x.2 0 := by
    rw [← by_half (fun b k cc => slotRs A B c b k cc 0), ← bigSep_sep']
    exact bigSep_mono fun x _ => ready_slot A B c x
  have h2 : iprop((bigSep Finset.univ (readyAg (F := F) c))
      ∗ bigSep Finset.univ fun y : Fin 3 × Fin 3 => iprop(∃ f, oAt (F := F) (pt c y.1 (back y.2)) (keepO c y.1 ((back y.2).val + 1)) f))
      ⊢ bigSep Finset.univ fun b : Fin 3 => bigSep Finset.univ fun j : Fin 3 => slotAg (F := F) c b j 0 := by
    rw [← bigSep_univ_prod (fun y : Fin 3 × Fin 3 => slotAg (F := F) c y.1 y.2 0), ← bigSep_sep']
    exact bigSep_mono fun y _ => readyAg_slot c y
  have hst : At A B K c 0 = iprop(recs A B K ∗ (∃ W, owes (c : Thread nD τ) (owed c start0) W)
      ∗ ((bigSep Finset.univ fun x : Fin 3 × Fin 2 => heldZ A B c x.1 x.2 0)
        ∗ bigSep Finset.univ fun x : Fin 3 × Fin 2 => bigSep Finset.univ fun k : Fin 3 => slotRs A B c x.1 k x.2 0)
      ∗ ((bigSep Finset.univ fun b : Fin 3 => heldO A B c b 0)
        ∗ bigSep Finset.univ fun b : Fin 3 => bigSep Finset.univ fun j : Fin 3 => slotAg (F := F) c b j 0)
      ∗ factors A B c 0 0 ∗ idle (F := F) c) := by
    rw [← bigSep_sep', ← bigSep_sep']
    show St A B K c start0 = _
    unfold St rsSt agSt
    simp only [start0, Nat.zero_sub]
  rw [hst]
  iintro ⟨Hr, Ho, Hs, Ha, Hl, Hz, Hh, Hf, Hi⟩
  ihave Hl := (lends_sorted c) $$ Hl
  icases Hl with ⟨Hl1, Hl2⟩
  ihave Hz := (z_start A B c) $$ Hz
  isplitl [Hr]; · iexact Hr
  isplitl [Ho]; · iexact Ho
  isplitl [Hz Hs Hl1]
  · isplitl [Hz]; · iexact Hz
    iapply h1
    isplitl [Hs]; · iexact Hs
    iexact Hl1
  isplitl [Hh Ha Hl2]
  · isplitl [Hh]; · iexact Hh
    iapply h2
    isplitl [Ha]; · iexact Ha
    iexact Hl2
  isplitl [Hf]; · iexact Hf
  iexact Hi

end Cert.KernelIdeal.Ring
-- ==== Proof.Enter.lean ====
/- The first part: every device lends its partners what they will write into, and waits until it has been lent the like. -/
module

public import proofs.«01_k».proof.Proof.Begin

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S2048x1024 .bf16) (B : Dev nD → Vec F S1024x2048 .bf16)
variable (K : Dev nD × (Unit ⊕ Own) → ℕ) (c : Dev nD)

/-- Where a device starts. -/
def Start : sProp 𝕄 :=
  iprop(recs A B K ∗ (∃ W, owes (c : Thread nD τ) (O₀ c) W) ∗ (places (F := F) c ∗ payToks (F := F) c ∗ due (F := F) c)
    ∗ ((bigSep Finset.univ fun y : Fin 3 × Fin 3 => commAll (F := F) c y.1 y.2) ∗ ∃ f, oAt (F := F) c Finset.univ f)
    ∗ (∃ f, zAt (F := F) c Finset.univ f) ∗ factors A B c 0 0)

/-- The cells of slots never used close at once. -/
theorem spare_close : iprop(recs A B K ∗ bigSep Finset.univ (spare (F := F) c)) ⊢ |={Set.univ}=> bigSep Finset.univ fun x : Fin 3 × Fin 3 =>
    iprop(semVal ((c : Thread nD τ), .dma (sendSem x.1 (agT x.2) 1)) 0 ∗ semVal ((c : Thread nD τ), .dma (recvSem x.1 (agT x.2) 1)) 0) := by
  refine (spread (Ψ := fun x : Fin 3 × Fin 3 => iprop(|={Set.univ}=>
    (semVal ((c : Thread nD τ), .dma (sendSem x.1 (agT x.2) 1)) 0 ∗ semVal ((c : Thread nD τ), .dma (recvSem x.1 (agT x.2) 1)) 0))) fun x _ => ?_).trans
    (bigSep_fupd _ _)
  unfold spare
  iintro ⟨#Hr, HS, HV⟩
  imod (Rounds.cell_close ER (ringRd A B) (Set.mem_univ (K (c, .inr (false, x.1, agT x.2, 1)))) (fun h => h) (R := 0)
    fun r _ => duties_no A B ((c : Thread nD τ), .dma (sendSem x.1 (agT x.2) 1)) (kind_idle x.1 x.2).1 r) $$ [HS] with HzS
  · isplitr; · iapply (recs_inv A B K (c, .inr (false, x.1, agT x.2, 1))); iexact Hr
    iexact HS
  imod (Rounds.cell_close ER (ringRd A B) (Set.mem_univ (K (c, .inr (true, x.1, agT x.2, 1)))) (fun h => h) (R := 0)
    fun r _ => duties_no A B ((c : Thread nD τ), .dma (recvSem x.1 (agT x.2) 1)) (kind_idle x.1 x.2).2 r) $$ [HV] with HzV
  · isplitr; · iapply (recs_inv A B K (c, .inr (true, x.1, agT x.2, 1))); iexact Hr
    iexact HV
  imodintro
  isplitl [HzS]; · iexact HzS
  iexact HzV

/-- A unit at a partner's barrier cell, lending what it will need. -/
theorem step_signal (a : Fin 3) (O : CellTallies nD τ sig Unit) {dev : ℕ} {hlt : dev < nD} (hdev : dev = (pa a c).val) {sm : Sem sig} (hsm : sm = barS) {W} {P : sProp 𝕄} {α : Type}
    {e : PUnit → Prog (TpuEff nD τ sig (Elt F) Λ₀ .tc) α} {Q : α → sProp 𝕄}
    (hnext : iprop(recs A B K ∗ owes (c : Thread nD τ) O W ∗ P) ⊢ wpc c (e ⟨⟩) Q) :
    iprop(recs A B K ∗ owes (c : Thread nD τ) (O + tallyAt (barC (pa a c)) () 1) W ∗ (dutyTok ER (barC (pa a c)) 0 a ∗ lendAx (F := F) c a) ∗ P)
      ⊢ wpc c (.op (.semSignal ((⟨dev, hlt⟩ : Dev nD), .tc) sm (1#32 : BitVec 32).toInt) e) Q := by
  subst hdev hsm
  iintro ⟨#Hr, HO, ⟨Ht, Hl⟩, HP⟩
  unfold wpc at *
  iapply (Rounds.wp_signal 𝒱₀ ER (ringRd A B) (c : Thread nD τ) none (dst := (pa a c : Thread nD τ)) (κ := K (pa a c, .inl ()))
      (d := a) (by rw [duties_bar]; exact Finset.mem_univ _) ((amount_bar A B (pa a c) a).trans (by decide)) () O rfl) $$ [HO Ht Hl]
  · isplitr; · iapply (recs_inv A B K (pa a c, .inl ())); iexact Hr
    isplitl [HO]; · iexact HO
    isplitl [Ht]; · iexact Ht
    isplitl [Hl]; · rw [payload_bar, pa_pa]; iexact Hl
    iapply (recs_reached A B K (pa a c, .inl ())); iexact Hr
  iintro HO
  iapply hnext
  isplitr; · iexact Hr
  isplitl [HO]; · iexact HO
  iexact HP

/-- The wait for the three partners: what they lend comes with it. -/
theorem step_barrier {sm : Sem sig} (hsm : sm = barS) {W} {P : sProp 𝕄} {α : Type}
    {e : PUnit → Prog (TpuEff nD τ sig (Elt F) Λ₀ .tc) α} {Q : α → sProp 𝕄}
    (hnext : iprop(recs A B K ∗ (∃ W, owes (c : Thread nD τ) (owed c start0) W) ∗ semVal (barC c) 0
      ∗ (bigSep Finset.univ fun a : Fin 3 => lendAx (F := F) (pa a c) a) ∗ P) ⊢ wpc c (e ⟨⟩) Q) :
    iprop(recs A B K ∗ owes (c : Thread nD τ) (owed c start0) W ∗ (atPos ER (barC c) 0 ∅ 0 ∗ cred (tallyAt (barC c) () 3)) ∗ P)
      ⊢ wpc c (.op (.semWait sm (3#32 : BitVec 32).toInt) e) Q := by
  subst hsm
  have hw := mayWait (F := F) c (.reg barS) start0 1 (by show lv (barC c) () ≤ 1; dsimp only [lv]; rw [kind_bar]) (by decide)
  iintro ⟨#Hr, HO, ⟨HatB, HcB⟩, HP⟩
  unfold wpc at *
  iapply (Rounds.wp_wait_rest_token 𝒱₀ ER (ringRd A B) (c : Thread nD τ) none (κ := K (c, .inl ()))
      (wpE_semWait_eq 𝒱₀ (c : Thread nD τ) none Set.univ) (Set.mem_univ _) () (O := owed c start0) (W := W) (R := 0) (m := 0) (T := ∅)
      (by rw [expect_bar]; decide)) $$ [HcB HO HatB]
  · isplitr; · iapply (recs_inv A B K (c, .inl ())); iexact Hr
    isplitl [HcB]; · iexact HcB
    isplitl [HO]; · iexact HO
    isplitr; · iapply hw; iapply (recs_lev A B K); iexact Hr
    iexact HatB
  iintro ⟨HO, HatB, -, Hpay⟩
  ihave Hp := (Entails.of_eq (rest_bar A B c)) $$ Hpay
  imod (Rounds.cell_close ER (ringRd A B) (Set.mem_univ (K (c, .inl ()))) (fun h => h) (R := 0 + 1) (duties_later A B (barC c))) $$ [HatB] with HzB
  · isplitr; · iapply (recs_inv A B K (c, .inl ())); iexact Hr
    iexact HatB
  iapply hnext
  isplitr; · iexact Hr
  isplitl [HO]; · iexists _; iexact HO
  isplitl [HzB]; · iexact HzB
  isplitl [Hp]; · iexact Hp
  iexact HP

/-- All but what the barrier is about. -/
def Rest : sProp 𝕄 :=
  iprop((bigSep Finset.univ (ready (F := F) c)) ∗ bigSep Finset.univ (readyAg (F := F) c) ∗ (∃ f, zAt (F := F) c Finset.univ f)
    ∗ (bigSep Finset.univ fun b : Fin 3 => heldO A B c b 0) ∗ factors A B c 0 0
    ∗ bigSep Finset.univ fun x : Fin 3 × Fin 3 =>
      iprop(semVal ((c : Thread nD τ), .dma (sendSem x.1 (agT x.2) 1)) 0 ∗ semVal ((c : Thread nD τ), .dma (recvSem x.1 (agT x.2) 1)) 0))

theorem Start_unpack : Start A B K c ⊢ |={Set.univ}=> (∃ W, recs A B K ∗ owes (c : Thread nD τ) (O₀ c) W
    ∗ (dutyTok ER (barC (pa 0 c)) 0 (0 : Fin 3) ∗ lendAx (F := F) c 0) ∗ (dutyTok ER (barC (pa 1 c)) 0 (1 : Fin 3) ∗ lendAx (F := F) c 1)
    ∗ (dutyTok ER (barC (pa 2 c)) 0 (2 : Fin 3) ∗ lendAx (F := F) c 2) ∗ (atPos ER (barC c) 0 ∅ 0 ∗ cred (tallyAt (barC c) () 3)) ∗ Rest A B c) := by
  have h3 : (bigSep Finset.univ fun a : Fin 3 => (dutyTok ER (barC (pa a c)) 0 a : sProp 𝕄))
      ⊢ iprop(dutyTok ER (barC (pa 0 c)) 0 (0 : Fin 3) ∗ dutyTok ER (barC (pa 1 c)) 0 (1 : Fin 3) ∗ dutyTok ER (barC (pa 2 c)) 0 (2 : Fin 3)) :=
    Entails.of_eq (three fun a : Fin 3 => dutyTok ER (barC (pa a c)) 0 a)
  have h3' : (bigSep Finset.univ fun a : Fin 3 => lendAx (F := F) c a)
      ⊢ iprop(lendAx (F := F) c 0 ∗ lendAx (F := F) c 1 ∗ lendAx (F := F) c 2) := Entails.of_eq (three _)
  unfold Start
  iintro ⟨#Hr, ⟨%W, HO⟩, Hs, Hl, Hz, Hf⟩
  ihave Hs := (sorted (F := F) c) $$ Hs
  icases Hs with ⟨⟨HatB, HcB, Ht⟩, Hrs, Hag, Hsp⟩
  ihave Hl := (lends_made A B c) $$ Hl
  icases Hl with ⟨Hl, Hh⟩
  imod (spare_close A B K c) $$ [Hsp] with Hsp
  · isplitr; · iexact Hr
    iexact Hsp
  ihave Ht := h3 $$ Ht
  ihave Hl := h3' $$ Hl
  icases Ht with ⟨T0, T1, T2⟩
  icases Hl with ⟨L0, L1, L2⟩
  imodintro
  iexists W
  isplitr; · iexact Hr
  unfold Rest
  iframe

/-- From an update on, whichever value it gives. -/
theorem after_update {I α : Type} {P : sProp 𝕄} {R : I → sProp 𝕄} {e : Prog (TpuEff nD τ sig (Elt F) Λ₀ .tc) α} {Q : α → sProp 𝕄}
    (h : P ⊢ |={Set.univ}=> ∃ i, R i) (h' : ∀ i, R i ⊢ wpc c e Q) : P ⊢ wpc c e Q := by
  unfold wpc at *
  iintro H
  imod h $$ H with ⟨%i, H⟩
  iapply (h' i)
  iexact H

/-- Part 1: from where a device starts to its first phase, with the right factor read. -/
theorem part1 : Start A B K c ⊢ wpc c (onBufs (k0_part1 (F := F))) (fun v => iprop(⌜v.1 = c ∧ v.2.2 = k0_pay1 (B c)⌝ ∗ At A B K c 0)) := by
  unfold onBufs
  simp only [k0_part1_eq_skeleton, k0_part1_skel, semSignalWord, semWaitWord, Prog.lift, Prog.bind_op, Prog.bind_ret, Prog.pure_eq_ret]
  have hdev : ∀ {α : Type} {e : Dev nD → Prog (TpuEff nD τ sig (Elt F) Λ₀ .tc) α} {P : sProp 𝕄} {Q}, (P ⊢ wpc c (e c) Q) → P ⊢ wpc c (.op .deviceId e) Q := by
    intro α e P Q h; unfold wpc at *; simp only [wp_deviceId]; exact h
  refine hdev (after_update c (Start_unpack A B K c) fun W => ?_)
  refine step_signal A B K c 0 ((owed c start0 + tallyAt (barC (pa 2 c)) () 1) + tallyAt (barC (pa 1 c)) () 1) (dev1_eq c) rfl ?_
  refine step_signal A B K c 1 (owed c start0 + tallyAt (barC (pa 2 c)) () 1) (dev2_eq c) rfl ?_
  refine step_signal A B K c 2 (owed c start0) (dev3_eq c) rfl ?_
  refine step_barrier A B K c rfl ?_
  refine .trans (Q := At A B K c 0) ?_ ?_
  · rw [lends_in]
    refine .trans ?_ (St_zero A B K c)
    unfold Rest idle
    iintro ⟨Hr, Ho, Hb, Hl, H1, H2, Hz, Hh, Hf, Hi⟩
    iframe
  refine step_load_b A B K c _ ?_
  exact done_with (C := fun v : (Σ' (_ : Dev nD) (_ : BitVec 32), FVec F S1024x2048 .bf16) => v.1 = c ∧ v.2.2 = k0_pay1 (B c)) ⟨rfl, rfl⟩

end Cert.KernelIdeal.Ring
-- ==== Proof.First.lean ====
/- The first parts: each device multiplies its blocks band by band, and starts the first exchange of a band once it is there. -/
module

public import proofs.«01_k».proof.Proof.Run

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S2048x1024 .bf16) (B : Dev nD → Vec F S1024x2048 .bf16)
variable (K : Dev nD × (Unit ⊕ Own) → ℕ) (c : Dev nD)

/-- Part 2: the right factor and the first band. -/
theorem part2 (v5 : BitVec 32) : At A B K c 0 ⊢ wpc c (onBufs (k0_part2 (F := F)) v5 (k0_pay1 (B c))) (fun _ => At A B K c 3) := by
  unfold onBufs
  simp only [k0_part2_eq_skeleton, k0_part2_skel, Prog.lift, Prog.bind_op, Prog.bind_ret, Prog.pure_eq_ret]
  refine step_load_b16_any A B K c _ fun _ => ?_
  refine step_store_b16 A B K c _ (pay2_eq _) (next A B K (n := 0) (ev := .bb) rfl ?_)
  refine step_load_a A B K c _ 0 ?_
  refine step_load_a16_any A B K c _ fun _ => ?_
  refine step_store_a16 A B K c _ 0 (by decide) (pay3_eq _) (next A B K (n := 1) (ev := .aa) rfl ?_)
  refine step_load_a16 A B K c _ 0 (by decide) ?_
  refine step_load_b16 A B K c _ (by decide) ?_
  refine step_load_z_any A B K c _ 0 (by decide) fun _ => ?_
  refine step_store_z0 A B K c _ 0 (by decide) (pay4_eq _ _) (next A B K (n := 2) (ev := .z 0) rfl ?_)
  exact done .rfl

/-- Part 3: the first band leaves; the product of the second. -/
theorem part3 (v5 : BitVec 32) : At A B K c 3 ⊢ wpc c (onBufs (k0_part3 (F := F)) c v5)
    (fun v => iprop(⌜k0_pay7 v.2 = bandMul 1 (aRows (A c) 1) (B c)⌝ ∗ At A B K c 6)) := by
  unfold onBufs
  simp only [k0_part3_eq_skeleton, k0_part3_skel, Prog.lift, Prog.bind_op, Prog.bind_ret, Prog.pure_eq_ret]
  refine sendRs A B K 3 c 0 0 0 (off1_eq0 c) (dev4_eq c) ?_
  refine sendRs A B K 4 c 0 0 1 (off2_eq0 c) (dev5_eq c) ?_
  refine step_load_a A B K c _ 1 ?_
  refine step_load_a16_any A B K c _ fun _ => ?_
  refine step_store_a16 A B K c _ 1 (by decide) (pay5_eq _) (next A B K (n := 5) (ev := .aa) rfl ?_)
  refine step_load_a16 A B K c _ 1 (by decide) ?_
  refine step_load_b16 A B K c _ (by decide) ?_
  refine step_load_z_any A B K c _ 1 (by decide) fun _ => ?_
  exact done_with (C := fun v : (Σ' (_ : BitVec 32), FVec F S640x2048 .bf16) => k0_pay7 v.2 = bandMul 1 (aRows (A c) 1) (B c)) (pay7_eq _ _)

/-- Part 4: the second band is stored and starts to leave. -/
theorem part4 (v5 : BitVec 32) (v : FVec F S640x2048 .bf16) (hv : k0_pay7 v = bandMul 1 (aRows (A c) 1) (B c)) :
    At A B K c 6 ⊢ wpc c (onBufs (k0_part4 (F := F)) c v5 v) (fun _ => At A B K c 8) := by
  unfold onBufs
  simp only [k0_part4_eq_skeleton, k0_part4_skel, Prog.lift, Prog.bind_op, Prog.bind_ret, Prog.pure_eq_ret]
  refine step_store_z0 A B K c _ 1 (by decide) hv (next A B K (n := 6) (ev := .z 1) rfl ?_)
  refine sendRs A B K 7 c 1 0 0 (off1_eq1 c) (dev6_eq c) ?_
  exact done .rfl

/-- Part 5: the second band leaves; the third band. -/
theorem part5 (v5 : BitVec 32) : At A B K c 8 ⊢ wpc c (onBufs (k0_part5 (F := F)) c v5) (fun _ => At A B K c 11) := by
  unfold onBufs
  simp only [k0_part5_eq_skeleton, k0_part5_skel, Prog.lift, Prog.bind_op, Prog.bind_ret, Prog.pure_eq_ret]
  refine sendRs A B K 8 c 1 0 1 (off2_eq1 c) (dev7_eq c) ?_
  refine step_load_a A B K c _ 2 ?_
  refine step_load_a16_any A B K c _ fun _ => ?_
  refine step_store_a16 A B K c _ 2 (by decide) (pay8_eq _) (next A B K (n := 9) (ev := .aa) rfl ?_)
  refine step_load_a16 A B K c _ 2 (by decide) ?_
  refine step_load_b16 A B K c _ (by decide) ?_
  refine step_load_z_any A B K c _ 2 (by decide) fun _ => ?_
  refine step_store_z0 A B K c _ 2 (by decide) (pay9_eq _ _) (next A B K (n := 10) (ev := .z 2) rfl ?_)
  exact done .rfl

/-- Part 6: the third band leaves. -/
theorem part6 (v5 w : BitVec 32) : At A B K c 11 ⊢ wpc c (onBufs (k0_part6 (F := F)) c v5 w) (fun _ => At A B K c 14) := by
  unfold onBufs
  simp only [k0_part6_eq_skeleton, k0_part6_skel, Prog.lift, Prog.bind_op, Prog.bind_ret, Prog.pure_eq_ret]
  refine sendRs A B K 11 c 2 0 0 (off3_eq c) (dev8_eq c) ?_
  refine sendRs A B K 12 c 2 0 1 (off4_eq c) (dev9_eq c) ?_
  refine waitS A B K 13 c 0 0 0 ?_
  exact done .rfl

end Cert.KernelIdeal.Ring
-- ==== Proof.First2.lean ====
/- After the first exchange, each device adds what it has been sent to the half it keeps. -/
module

public import proofs.«01_k».proof.Proof.First

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S2048x1024 .bf16) (B : Dev nD → Vec F S1024x2048 .bf16)
variable (K : Dev nD × (Unit ⊕ Own) → ℕ) (c : Dev nD)

/-- Part 7: the first half of band 0 is added. -/
theorem part7 (w0 w1 w2 : BitVec 32) :
    At A B K c 14 ⊢ wpc c (onBufs (k0_part7 (F := F)) c w0 w1 w2) (fun _ => At A B K c 17) := by
  unfold onBufs
  simp only [k0_part7_eq_skeleton, k0_part7_skel, Prog.lift, Prog.bind_op, Prog.bind_ret, Prog.pure_eq_ret]
  refine waitR A B K 14 c 0 0 0 ?_
  refine acc A B K 15 c 0 0 0 (off5_eq0 c) (fun _ _ => shapeCast_self _ _) ?_
  refine waitS A B K 16 c 0 0 1 ?_
  exact done .rfl

/-- Part 8: the second half of band 0 is added, the first of band 1 read. -/
theorem part8 (w0 w1 w2 : BitVec 32) :
    At A B K c 17 ⊢ wpc c (onBufs (k0_part8 (F := F)) c w0 w1 w2)
    (fun v => iprop(⌜v = addf (F := F) (φ := .bf16) (part A B c 1 0 0 c) (part A B c 1 0 0 (pt c 1 0))⌝ ∗ At A B K c 21)) := by
  unfold onBufs
  simp only [k0_part8_eq_skeleton, k0_part8_skel, Prog.lift, Prog.bind_op, Prog.bind_ret, Prog.pure_eq_ret]
  refine waitR A B K 17 c 0 0 1 ?_
  refine acc A B K 18 c 0 0 1 (off6_eq0 c) (fun _ _ => shapeCast_self _ _) ?_
  refine waitS A B K 19 c 1 0 0 ?_
  refine waitR A B K 20 c 1 0 0 ?_
  refine loadZ A B K 21 c 1 0 0 (off5_eq1 c) ?_
  refine loadC A B K 21 c 1 0 0 ?_
  refine loadZ A B K 21 c 1 0 0 (off5_eq1 c) ?_
  exact done_with (C := fun v => v = addf (F := F) (φ := .bf16) (part A B c 1 0 0 c) (part A B c 1 0 0 (pt c 1 0))) (shapeCast_self _ _)

/-- Part 9: band 1 is stored, and its second half added. -/
theorem part9 (w0 w1 : BitVec 32) (v : FVec F S320x1024 .bf16)
    (hv : v = addf (F := F) (φ := .bf16) (part A B c 1 0 0 c) (part A B c 1 0 0 (pt c 1 0))) :
    At A B K c 21 ⊢ wpc c (onBufs (k0_part9 (F := F)) c w0 w1 v) (fun _ => At A B K c 25) := by
  unfold onBufs
  simp only [k0_part9_eq_skeleton, k0_part9_skel, Prog.lift, Prog.bind_op, Prog.bind_ret, Prog.pure_eq_ret]
  refine storeZ A B K 21 c 1 0 0 (off5_eq1 c) hv ?_
  refine waitS A B K 22 c 1 0 1 ?_
  refine waitR A B K 23 c 1 0 1 ?_
  refine acc A B K 24 c 1 0 1 (off6_eq1 c) (fun _ _ => shapeCast_self _ _) ?_
  exact done .rfl

/-- Part 10: the first half of band 2 is added. -/
theorem part10 (w0 w1 w2 : BitVec 32) :
    At A B K c 25 ⊢ wpc c (onBufs (k0_part10 (F := F)) c w0 w1 w2) (fun _ => At A B K c 29) := by
  unfold onBufs
  simp only [k0_part10_eq_skeleton, k0_part10_skel, Prog.lift, Prog.bind_op, Prog.bind_ret, Prog.pure_eq_ret]
  refine waitS A B K 25 c 2 0 0 ?_
  refine waitR A B K 26 c 2 0 0 ?_
  refine acc A B K 27 c 2 0 0 (off7_eq c) (fun _ _ => shapeCast_self _ _) ?_
  refine waitS A B K 28 c 2 0 1 ?_
  exact done .rfl

/-- Part 11: the second half of band 2 is added. -/
theorem part11 (w0 w1 w2 w3 : BitVec 32) :
    At A B K c 29 ⊢ wpc c (onBufs (k0_part11 (F := F)) c w0 w1 w2 w3) (fun _ => At A B K c 31) := by
  unfold onBufs
  simp only [k0_part11_eq_skeleton, k0_part11_skel, Prog.lift, Prog.bind_op, Prog.bind_ret, Prog.pure_eq_ret]
  refine waitR A B K 29 c 2 0 1 ?_
  refine acc A B K 30 c 2 0 1 (off8_eq c) (fun _ _ => shapeCast_self _ _) ?_
  exact done .rfl

end Cert.KernelIdeal.Ring
-- ==== Proof.Second.lean ====
/- The second exchange: what is kept of each band is halved again. -/
module

public import proofs.«01_k».proof.Proof.Run

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S2048x1024 .bf16) (B : Dev nD → Vec F S1024x2048 .bf16)
variable (K : Dev nD × (Unit ⊕ Own) → ℕ) (c : Dev nD)

/-- Part 12: the second exchange starts. -/
theorem part12 (w0 w1 w2 w3 : BitVec 32) :
    At A B K c 31 ⊢ wpc c (onBufs (k0_part12 (F := F)) c w0 w1 w2 w3) (fun _ => At A B K c 33) := by
  unfold onBufs
  simp only [k0_part12_eq_skeleton, k0_part12_skel, Prog.lift, Prog.bind_op, Prog.bind_ret, Prog.pure_eq_ret]
  refine sendRs A B K 31 c 0 1 0 (off9_eq0 c) (dev10_eq c) ?_
  refine sendRs A B K 32 c 1 1 0 (off9_eq1 c) (dev11_eq c) ?_
  exact done .rfl

/-- Part 13: it goes on. -/
theorem part13 (w0 w1 : BitVec 32) :
    At A B K c 33 ⊢ wpc c (onBufs (k0_part13 (F := F)) c w0 w1) (fun _ => At A B K c 35) := by
  unfold onBufs
  simp only [k0_part13_eq_skeleton, k0_part13_skel, Prog.lift, Prog.bind_op, Prog.bind_ret, Prog.pure_eq_ret]
  refine sendRs A B K 33 c 2 1 0 (off10_eq c) (dev12_eq c) ?_
  refine sendRs A B K 34 c 0 1 1 (off11_eq0 c) (dev13_eq c) ?_
  exact done .rfl

/-- Part 14: the last of its transfers start. -/
theorem part14 (w0 w1 : BitVec 32) :
    At A B K c 35 ⊢ wpc c (onBufs (k0_part14 (F := F)) c w0 w1) (fun _ => At A B K c 38) := by
  unfold onBufs
  simp only [k0_part14_eq_skeleton, k0_part14_skel, Prog.lift, Prog.bind_op, Prog.bind_ret, Prog.pure_eq_ret]
  refine sendRs A B K 35 c 1 1 1 (off11_eq1 c) (dev14_eq c) ?_
  refine sendRs A B K 36 c 2 1 1 (off12_eq c) (dev15_eq c) ?_
  refine waitS A B K 37 c 0 1 0 ?_
  exact done .rfl

/-- Part 15: band 0's first half is added; band 1's is read. -/
theorem part15 (w0 w1 w2 w3 : BitVec 32) :
    At A B K c 38 ⊢ wpc c (onBufs (k0_part15 (F := F)) c w0 w1 w2 w3)
    (fun v => iprop(⌜v = part A B c 1 1 0 c⌝ ∗ At A B K c 42)) := by
  unfold onBufs
  simp only [k0_part15_eq_skeleton, k0_part15_skel, Prog.lift, Prog.bind_op, Prog.bind_ret, Prog.pure_eq_ret]
  refine waitR A B K 38 c 0 1 0 ?_
  refine acc A B K 39 c 0 1 0 (off13_eq0 c) (fun _ _ => shapeCast_self _ _) ?_
  refine waitS A B K 40 c 1 1 0 ?_
  refine waitR A B K 41 c 1 1 0 ?_
  refine loadZ A B K 42 c 1 1 0 (off13_eq1 c) ?_
  exact done_with (C := fun v => v = part A B c 1 1 0 c) rfl

/-- Part 16: band 1's first half is added, and band 2's. -/
theorem part16 (w0 w1 w2 : BitVec 32) (v : Vec F S160x1024 .bf16)
    (hv : v = part A B c 1 1 0 c) :
    At A B K c 42 ⊢ wpc c (onBufs (k0_part16 (F := F)) c w0 w1 w2 v) (fun _ => At A B K c 46) := by
  unfold onBufs
  simp only [k0_part16_eq_skeleton, k0_part16_skel, Prog.lift, Prog.bind_op, Prog.bind_ret, Prog.pure_eq_ret]
  refine loadC A B K 42 c 1 1 0 ?_
  refine loadZ A B K 42 c 1 1 0 (off13_eq1 c) ?_
  refine storeZ A B K 42 c 1 1 0 (off13_eq1 c) ((shapeCast_self _ _).trans (congrArg (addf (F := F) (φ := .bf16) · (part A B c 1 1 0 (pt c 1 1))) hv)) ?_
  refine waitS A B K 43 c 2 1 0 ?_
  refine waitR A B K 44 c 2 1 0 ?_
  refine acc A B K 45 c 2 1 0 (off14_eq c) (fun _ _ => shapeCast_self _ _) ?_
  exact done .rfl

/-- Part 17: band 0's second half is added. -/
theorem part17 (w0 w1 : BitVec 32) :
    At A B K c 46 ⊢ wpc c (onBufs (k0_part17 (F := F)) c w0 w1) (fun _ => At A B K c 50) := by
  unfold onBufs
  simp only [k0_part17_eq_skeleton, k0_part17_skel, Prog.lift, Prog.bind_op, Prog.bind_ret, Prog.pure_eq_ret]
  refine waitS A B K 46 c 0 1 1 ?_
  refine waitR A B K 47 c 0 1 1 ?_
  refine acc A B K 48 c 0 1 1 (off15_eq0 c) (fun _ _ => shapeCast_self _ _) ?_
  refine waitS A B K 49 c 1 1 1 ?_
  exact done .rfl

/-- Part 18: band 1's second half is added. -/
theorem part18 (w0 w1 w2 : BitVec 32) :
    At A B K c 50 ⊢ wpc c (onBufs (k0_part18 (F := F)) c w0 w1 w2) (fun _ => At A B K c 54) := by
  unfold onBufs
  simp only [k0_part18_eq_skeleton, k0_part18_skel, Prog.lift, Prog.bind_op, Prog.bind_ret, Prog.pure_eq_ret]
  refine waitR A B K 50 c 1 1 1 ?_
  refine acc A B K 51 c 1 1 1 (off15_eq1 c) (fun _ _ => shapeCast_self _ _) ?_
  refine waitS A B K 52 c 2 1 1 ?_
  refine waitR A B K 53 c 2 1 1 ?_
  exact done .rfl

/-- Part 19: band 2's second half is added. -/
theorem part19 (w0 w1 w2 w3 : BitVec 32) :
    At A B K c 54 ⊢ wpc c (onBufs (k0_part19 (F := F)) c w0 w1 w2 w3) (fun _ => At A B K c 55) := by
  unfold onBufs
  simp only [k0_part19_eq_skeleton, k0_part19_skel, Prog.lift, Prog.bind_op, Prog.bind_ret, Prog.pure_eq_ret]
  refine acc A B K 54 c 2 1 1 (off16_eq c) (fun _ _ => shapeCast_self _ _) ?_
  exact done .rfl

end Cert.KernelIdeal.Ring
-- ==== Proof.Third.lean ====
/- The third exchange, and the activation of the rows each device is left with. -/
module

public import proofs.«01_k».proof.Proof.Run

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S2048x1024 .bf16) (B : Dev nD → Vec F S1024x2048 .bf16)
variable (K : Dev nD × (Unit ⊕ Own) → ℕ) (c : Dev nD)

/-- Part 20: the third exchange starts. -/
theorem part20 (w0 w1 : BitVec 32) :
    At A B K c 55 ⊢ wpc c (onBufs (k0_part20 (F := F)) c w0 w1) (fun _ => At A B K c 57) := by
  unfold onBufs
  simp only [k0_part20_eq_skeleton, k0_part20_skel, Prog.lift, Prog.bind_op, Prog.bind_ret, Prog.pure_eq_ret]
  refine sendRs A B K 55 c 0 2 0 (off17_eq0 c) (dev16_eq c) ?_
  refine sendRs A B K 56 c 1 2 0 (off17_eq1 c) (dev17_eq c) ?_
  exact done .rfl

/-- Part 21: it goes on. -/
theorem part21 (w0 : BitVec 32) :
    At A B K c 57 ⊢ wpc c (onBufs (k0_part21 (F := F)) c w0) (fun _ => At A B K c 59) := by
  unfold onBufs
  simp only [k0_part21_eq_skeleton, k0_part21_skel, Prog.lift, Prog.bind_op, Prog.bind_ret, Prog.pure_eq_ret]
  refine sendRs A B K 57 c 2 2 0 (off18_eq c) (dev18_eq c) ?_
  refine sendRs A B K 58 c 0 2 1 (off19_eq0 c) (dev19_eq c) ?_
  exact done .rfl

/-- Part 22: the last of its transfers start. -/
theorem part22 (w0 w1 : BitVec 32) :
    At A B K c 59 ⊢ wpc c (onBufs (k0_part22 (F := F)) c w0 w1) (fun _ => At A B K c 62) := by
  unfold onBufs
  simp only [k0_part22_eq_skeleton, k0_part22_skel, Prog.lift, Prog.bind_op, Prog.bind_ret, Prog.pure_eq_ret]
  refine sendRs A B K 59 c 1 2 1 (off19_eq1 c) (dev20_eq c) ?_
  refine sendRs A B K 60 c 2 2 1 (off20_eq c) (dev21_eq c) ?_
  refine waitS A B K 61 c 0 2 0 ?_
  exact done .rfl

/-- Part 23: band 0's first half is added; band 1's is read. -/
theorem part23 (w0 w1 w2 : BitVec 32) :
    At A B K c 62 ⊢ wpc c (onBufs (k0_part23 (F := F)) c w0 w1 w2)
    (fun v => iprop(⌜v.1 = addf (F := F) (φ := .bf16) (part A B c 1 2 0 c) (part A B c 1 2 0 (pt c 1 2))⌝ ∗ At A B K c 66)) := by
  unfold onBufs
  simp only [k0_part23_eq_skeleton, k0_part23_skel, Prog.lift, Prog.bind_op, Prog.bind_ret, Prog.pure_eq_ret]
  refine waitR A B K 62 c 0 2 0 ?_
  refine acc A B K 63 c 0 2 0 (off21_eq0 c) (fun _ _ => shapeCast_self _ _) ?_
  refine waitS A B K 64 c 1 2 0 ?_
  refine waitR A B K 65 c 1 2 0 ?_
  refine loadZ A B K 66 c 1 2 0 (off21_eq1 c) ?_
  refine loadC A B K 66 c 1 2 0 ?_
  refine loadZ A B K 66 c 1 2 0 (off21_eq1 c) ?_
  exact done_with (C := fun v : (Σ' (_ : FVec F S80x1024 .bf16), Vec F S80x1024 .bf16) => v.1 = addf (F := F) (φ := .bf16) (part A B c 1 2 0 c) (part A B c 1 2 0 (pt c 1 2))) rfl

/-- Part 24: band 1's first half is stored, and band 2's added. -/
theorem part24 (w0 w1 : BitVec 32) (v v' : FVec F S80x1024 .bf16)
    (hv : v = addf (F := F) (φ := .bf16) (part A B c 1 2 0 c) (part A B c 1 2 0 (pt c 1 2))) :
    At A B K c 66 ⊢ wpc c (onBufs (k0_part24 (F := F)) c w0 w1 v v') (fun _ => At A B K c 70) := by
  unfold onBufs
  simp only [k0_part24_eq_skeleton, k0_part24_skel, Prog.lift, Prog.bind_op, Prog.bind_ret, Prog.pure_eq_ret]
  refine storeZ A B K 66 c 1 2 0 (off21_eq1 c) ((shapeCast_self _ _).trans hv) ?_
  refine waitS A B K 67 c 2 2 0 ?_
  refine waitR A B K 68 c 2 2 0 ?_
  refine acc A B K 69 c 2 2 0 (off22_eq c) (fun _ _ => shapeCast_self _ _) ?_
  exact done .rfl

/-- Part 25: band 0's second half is added. -/
theorem part25 (w0 w1 w2 : BitVec 32) :
    At A B K c 70 ⊢ wpc c (onBufs (k0_part25 (F := F)) c w0 w1 w2) (fun _ => At A B K c 74) := by
  unfold onBufs
  simp only [k0_part25_eq_skeleton, k0_part25_skel, Prog.lift, Prog.bind_op, Prog.bind_ret, Prog.pure_eq_ret]
  refine waitS A B K 70 c 0 2 1 ?_
  refine waitR A B K 71 c 0 2 1 ?_
  refine acc A B K 72 c 0 2 1 (off23_eq0 c) (fun _ _ => shapeCast_self _ _) ?_
  refine waitS A B K 73 c 1 2 1 ?_
  exact done .rfl

/-- Part 26: band 1's second half is added; band 2's is read. -/
theorem part26 (w0 w1 w2 : BitVec 32) :
    At A B K c 74 ⊢ wpc c (onBufs (k0_part26 (F := F)) c w0 w1 w2)
    (fun v => iprop(⌜v.1 = part A B c 2 2 1 c ∧ v.2 = part A B c 2 2 1 (pt c 2 2)⌝ ∗ At A B K c 78)) := by
  unfold onBufs
  simp only [k0_part26_eq_skeleton, k0_part26_skel, Prog.lift, Prog.bind_op, Prog.bind_ret, Prog.pure_eq_ret]
  refine waitR A B K 74 c 1 2 1 ?_
  refine acc A B K 75 c 1 2 1 (off23_eq1 c) (fun _ _ => shapeCast_self _ _) ?_
  refine waitS A B K 76 c 2 2 1 ?_
  refine waitR A B K 77 c 2 2 1 ?_
  refine loadZ A B K 78 c 2 2 1 (off24_eq c) ?_
  refine loadC A B K 78 c 2 2 1 ?_
  exact done_with (C := fun v : (Σ' (_ : Vec F S96x1024 .bf16), Vec F S96x1024 .bf16) => v.1 = part A B c 2 2 1 c ∧ v.2 = part A B c 2 2 1 (pt c 2 2)) ⟨rfl, rfl⟩

/-- Part 27: band 2's second half is added, and each band's last rows go through the activation. -/
theorem part27 (w0 w1 w2 w3 : BitVec 32) (v v' : Vec F S96x1024 .bf16)
    (hv : v = part A B c 2 2 1 c) (hv' : v' = part A B c 2 2 1 (pt c 2 2)) :
    At A B K c 78 ⊢ wpc c (onBufs (k0_part27 (F := F)) c w0 w1 w2 w3 v v') (fun _ => At A B K c 82) := by
  unfold onBufs
  simp only [k0_part27_eq_skeleton, k0_part27_skel, Prog.lift, Prog.bind_op, Prog.bind_ret, Prog.pure_eq_ret]
  refine loadZ A B K 78 c 2 2 1 (off24_eq c) ?_
  refine storeZ A B K 78 c 2 2 1 (off24_eq c) ((shapeCast_self _ _).trans (congrArg₂ (addf (F := F) (φ := .bf16)) hv hv')) ?_
  refine step_load_last A B K c _ 0 (by decide) (off25_eq0 c) ?_
  refine step_load_o_any A B K c _ 0 (by decide) (off25_eq0 c) fun _ => ?_
  refine step_store_o A B K c _ 0 (by decide) (off25_eq0 c) (pay29_eq _) (next A B K (n := 79) (ev := .ag 0) rfl ?_)
  refine step_load_last A B K c _ 1 (by decide) (off25_eq1 c) ?_
  refine step_load_o_any A B K c _ 1 (by decide) (off25_eq1 c) fun _ => ?_
  refine step_store_o A B K c _ 1 (by decide) (off25_eq1 c) (pay30_eq _) (next A B K (n := 80) (ev := .ag 1) rfl ?_)
  refine step_load_last A B K c _ 2 (by decide) (off26_eq c) ?_
  refine step_load_o_any A B K c _ 2 (by decide) (off26_eq c) fun _ => ?_
  refine step_store_o A B K c _ 2 (by decide) (off26_eq c) (pay31_eq _) (next A B K (n := 81) (ev := .ag 2) rfl ?_)
  exact done .rfl

end Cert.KernelIdeal.Ring
-- ==== Proof.Gather.lean ====
/- The gathering: the finished rows go back the way the sums came. -/
module

public import proofs.«01_k».proof.Proof.Run

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S2048x1024 .bf16) (B : Dev nD → Vec F S1024x2048 .bf16)
variable (K : Dev nD × (Unit ⊕ Own) → ℕ) (c : Dev nD)

/-- Part 28: the finished rows are sent. -/
theorem part28 (w0 w1 : BitVec 32) :
    At A B K c 82 ⊢ wpc c (onBufs (k0_part28 (F := F)) c w0 w1) (fun _ => At A B K c 84) := by
  unfold onBufs
  simp only [k0_part28_eq_skeleton, k0_part28_skel, Prog.lift, Prog.bind_op, Prog.bind_ret, Prog.pure_eq_ret]
  refine sendAg A B K 82 c 0 0 (off27_eq0 c) (dev22_eq c) ?_
  refine sendAg A B K 83 c 1 0 (off27_eq1 c) (dev23_eq c) ?_
  exact done .rfl

/-- Part 29: band 0's come. -/
theorem part29 (w0 w1 w2 w3 : BitVec 32) :
    At A B K c 84 ⊢ wpc c (onBufs (k0_part29 (F := F)) c w0 w1 w2 w3) (fun _ => At A B K c 87) := by
  unfold onBufs
  simp only [k0_part29_eq_skeleton, k0_part29_skel, Prog.lift, Prog.bind_op, Prog.bind_ret, Prog.pure_eq_ret]
  refine sendAg A B K 84 c 2 0 (off28_eq c) (dev24_eq c) ?_
  refine waitSAg A B K 85 c 0 0 ?_
  refine waitRAg A B K 86 c 0 0 ?_
  exact done .rfl

/-- Part 30: band 1's come. -/
theorem part30 (w0 w1 w2 w3 : BitVec 32) :
    At A B K c 87 ⊢ wpc c (onBufs (k0_part30 (F := F)) c w0 w1 w2 w3) (fun _ => At A B K c 90) := by
  unfold onBufs
  simp only [k0_part30_eq_skeleton, k0_part30_skel, Prog.lift, Prog.bind_op, Prog.bind_ret, Prog.pure_eq_ret]
  refine waitSAg A B K 87 c 1 0 ?_
  refine waitRAg A B K 88 c 1 0 ?_
  refine waitSAg A B K 89 c 2 0 ?_
  exact done .rfl

/-- Part 31: band 2's come; twice as many rows are sent. -/
theorem part31 (w0 w1 : BitVec 32) :
    At A B K c 90 ⊢ wpc c (onBufs (k0_part31 (F := F)) c w0 w1) (fun _ => At A B K c 92) := by
  unfold onBufs
  simp only [k0_part31_eq_skeleton, k0_part31_skel, Prog.lift, Prog.bind_op, Prog.bind_ret, Prog.pure_eq_ret]
  refine waitRAg A B K 90 c 2 0 ?_
  refine sendAg A B K 91 c 0 1 (off29_eq0 c) (dev25_eq c) ?_
  exact done .rfl

/-- Part 32: the other bands' are sent. -/
theorem part32 (w0 w1 : BitVec 32) :
    At A B K c 92 ⊢ wpc c (onBufs (k0_part32 (F := F)) c w0 w1) (fun _ => At A B K c 95) := by
  unfold onBufs
  simp only [k0_part32_eq_skeleton, k0_part32_skel, Prog.lift, Prog.bind_op, Prog.bind_ret, Prog.pure_eq_ret]
  refine sendAg A B K 92 c 1 1 (off29_eq1 c) (dev26_eq c) ?_
  refine sendAg A B K 93 c 2 1 (off30_eq c) (dev27_eq c) ?_
  refine waitSAg A B K 94 c 0 1 ?_
  exact done .rfl

/-- Part 33: bands 0 and 1 come. -/
theorem part33 (w0 w1 w2 w3 : BitVec 32) :
    At A B K c 95 ⊢ wpc c (onBufs (k0_part33 (F := F)) c w0 w1 w2 w3) (fun _ => At A B K c 98) := by
  unfold onBufs
  simp only [k0_part33_eq_skeleton, k0_part33_skel, Prog.lift, Prog.bind_op, Prog.bind_ret, Prog.pure_eq_ret]
  refine waitRAg A B K 95 c 0 1 ?_
  refine waitSAg A B K 96 c 1 1 ?_
  refine waitRAg A B K 97 c 1 1 ?_
  exact done .rfl

/-- Part 34: band 2 comes; the last transfers start. -/
theorem part34 (w0 w1 w2 : BitVec 32) :
    At A B K c 98 ⊢ wpc c (onBufs (k0_part34 (F := F)) c w0 w1 w2) (fun _ => At A B K c 101) := by
  unfold onBufs
  simp only [k0_part34_eq_skeleton, k0_part34_skel, Prog.lift, Prog.bind_op, Prog.bind_ret, Prog.pure_eq_ret]
  refine waitSAg A B K 98 c 2 1 ?_
  refine waitRAg A B K 99 c 2 1 ?_
  refine sendAg A B K 100 c 0 2 (off31_eq0 c) (dev28_eq c) ?_
  exact done .rfl

/-- Part 35: the other bands are sent. -/
theorem part35 (w0 w1 w2 : BitVec 32) :
    At A B K c 101 ⊢ wpc c (onBufs (k0_part35 (F := F)) c w0 w1 w2) (fun _ => At A B K c 104) := by
  unfold onBufs
  simp only [k0_part35_eq_skeleton, k0_part35_skel, Prog.lift, Prog.bind_op, Prog.bind_ret, Prog.pure_eq_ret]
  refine sendAg A B K 101 c 1 2 (off31_eq1 c) (dev29_eq c) ?_
  refine sendAg A B K 102 c 2 2 (off32_eq c) (dev30_eq c) ?_
  refine waitSAg A B K 103 c 0 2 ?_
  exact done .rfl

/-- Part 36: bands 0 and 1 come. -/
theorem part36 (w0 w1 : BitVec 32) :
    At A B K c 104 ⊢ wpc c (onBufs (k0_part36 (F := F)) c w0 w1) (fun _ => At A B K c 107) := by
  unfold onBufs
  simp only [k0_part36_eq_skeleton, k0_part36_skel, Prog.lift, Prog.bind_op, Prog.bind_ret, Prog.pure_eq_ret]
  refine waitRAg A B K 104 c 0 2 ?_
  refine waitSAg A B K 105 c 1 2 ?_
  refine waitRAg A B K 106 c 1 2 ?_
  exact done .rfl

end Cert.KernelIdeal.Ring
-- ==== Proof.Finish.lean ====
/- Where a device ends, and the whole kernel from start to end. -/
module

public import proofs.«01_k».proof.Proof.Enter
public import proofs.«01_k».proof.Proof.First
public import proofs.«01_k».proof.Proof.First2
public import proofs.«01_k».proof.Proof.Second
public import proofs.«01_k».proof.Proof.Third
public import proofs.«01_k».proof.Proof.Gather

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S2048x1024 .bf16) (B : Dev nD → Vec F S1024x2048 .bf16)
variable (K : Dev nD × (Unit ⊕ Own) → ℕ) (c : Dev nD)

/-- Where a device ends: nothing owed, every counter at zero, every buffer its own, the result rows all there. -/
def Finish : sProp 𝕄 :=
  iprop((∃ W, owes (c : Thread nD τ) 0 W) ∗ (bigSep Finset.univ fun o : Own => semVal ((c : Thread nD τ), osem o) 0) ∗ semVal (barC c) 0
    ∗ (bigSep Finset.univ fun y : Fin 3 × Fin 3 => commAll (F := F) c y.1 y.2) ∗ (∃ f, zAt (F := F) c Finset.univ f)
    ∗ oAt c Finset.univ (outv A B) ∗ factors A B c 1 3)

theorem owed_last : owed c (phase 109) = 0 := by
  unfold owed
  have h1 : ∀ x : Fin 3 × Fin 3 × Fin 2, ¬ (phase 109).rs x.1 x.2.2 ≤ 1 + 4 * x.2.1.val := by decide
  have h2 : ∀ y : Fin 3 × Fin 3, ¬ (phase 109).ag y.1 ≤ 1 + 3 * y.2.val := by decide
  rw [Finset.sum_eq_zero fun x _ => if_neg (h1 x), Finset.sum_eq_zero fun y _ => if_neg (h2 y), add_zero]

/-- A half of a band's reduction, ended. -/
theorem rs_last (b : Fin 3) (cc : Fin 2) : rsSt A B c b cc 13
    ⊢ iprop((∃ f, zAt (F := F) c (keepZ c b 0 cc) f)
      ∗ bigSep Finset.univ fun k : Fin 3 => iprop((semVal (sRs c b k cc) 0 ∗ semVal (rRs c b k cc) 0) ∗ ∃ f, cAt (F := F) c b k cc f)) := by
  have hk : ∀ k : Fin 3, slotRs A B c b k cc (13 - (1 + 4 * k.val))
      ⊢ iprop(backRs (F := F) c b k cc ∗ (semVal (sRs c b k cc) 0 ∗ semVal (rRs c b k cc) 0) ∗ ∃ f, cAt (F := F) c b k cc f) := by
    intro k
    have h : slotRs A B c b k cc (13 - (1 + 4 * k.val))
        = iprop(semVal (sRs c b k cc) 0 ∗ backRs c b k cc ∗ semVal (rRs c b k cc) 0 ∗ landedRs A B c b k cc) := by fin_cases k <;> rfl
    rw [h]
    unfold landedRs
    iintro ⟨Hs, Hb, Hr, ⟨%f, Hc, -⟩⟩
    isplitl [Hb]; · iexact Hb
    isplitl [Hs Hr]
    · isplitl [Hs]; · iexact Hs
      iexact Hr
    iexists f; iexact Hc
  have h3 : (bigSep Finset.univ fun k : Fin 3 => backRs (F := F) c b k cc) ⊢ iprop(backRs (F := F) c b 0 cc ∗ backRs (F := F) c b 1 cc ∗ backRs (F := F) c b 2 cc) :=
    Entails.of_eq (three _)
  have ha : (bigSep Finset.univ fun k : Fin 3 => slotRs A B c b k cc (13 - (1 + 4 * k.val)))
      ⊢ iprop((bigSep Finset.univ fun k : Fin 3 => backRs (F := F) c b k cc)
        ∗ bigSep Finset.univ fun k : Fin 3 => iprop((semVal (sRs c b k cc) 0 ∗ semVal (rRs c b k cc) 0) ∗ ∃ f, cAt (F := F) c b k cc f)) :=
    (bigSep_mono fun k _ => hk k).trans (Entails.of_eq (bigSep_sep' _ _ _))
  unfold rsSt
  rw [heldZ_last]
  iintro ⟨Hz, Hs⟩
  ihave Hs := ha $$ Hs
  icases Hs with ⟨Hb, Hs⟩
  ihave Hb := h3 $$ Hb
  icases Hb with ⟨H0, H1, H2⟩
  isplitl [Hz H0 H1 H2]
  · iapply (z_half (F := F) c b cc)
    isplitl [Hz]; · iexists _; iexact Hz
    isplitl [H0]; · iexact H0
    isplitl [H1]; · iexact H1
    iexact H2
  iexact Hs

/-- A band's gathering, ended. -/
theorem ag_last (b : Fin 3) : agSt A B c b 10
    ⊢ iprop(heldO A B c b 10 ∗ bigSep Finset.univ fun j : Fin 3 => iprop(semVal (sAg c b j) 0 ∗ semVal (rAg c b j) 0)) := by
  have h : ∀ j : Fin 3, slotAg (F := F) c b j (10 - (1 + 3 * j.val)) = iprop(semVal (sAg c b j) 0 ∗ semVal (rAg c b j) 0) := by
    intro j; fin_cases j <;> rfl
  unfold agSt
  rw [bigSep_congr fun j _ => h j]

theorem At_last : At A B K c 109 ⊢ Finish A B c := by
  have hst : At A B K c 109 = iprop(recs A B K ∗ (∃ W, owes (c : Thread nD τ) (owed c (phase 109)) W)
      ∗ (bigSep Finset.univ fun x : Fin 3 × Fin 2 => rsSt A B c x.1 x.2 13)
      ∗ (bigSep Finset.univ fun b : Fin 3 => agSt A B c b 10) ∗ factors A B c 1 3 ∗ idle (F := F) c) := by
    have h1 : ∀ x : Fin 3 × Fin 2, (phase 109).rs x.1 x.2 = 13 := by decide
    have h2 : ∀ b : Fin 3, (phase 109).ag b = 10 := by decide
    have h3 : (phase 109).bb = 1 ∧ (phase 109).aa = 3 := by decide
    show St A B K c (phase 109) = _
    unfold St
    simp only [h1, h2, h3.1, h3.2]
  have hz : (bigSep Finset.univ fun x : Fin 3 × Fin 2 => rsSt A B c x.1 x.2 13)
      ⊢ iprop((bigSep Finset.univ fun x : Fin 3 × Fin 2 => iprop(∃ f, zAt (F := F) c (keepZ c x.1 0 x.2) f))
        ∗ (bigSep Finset.univ fun x : Fin 3 × Fin 3 × Fin 2 => iprop(semVal (sRs c x.1 x.2.1 x.2.2) 0 ∗ semVal (rRs c x.1 x.2.1 x.2.2) 0))
        ∗ bigSep Finset.univ fun x : Fin 3 × Fin 3 × Fin 2 => iprop(∃ f, cAt (F := F) c x.1 x.2.1 x.2.2 f)) := by
    rw [by_half (fun b k cc => (iprop(semVal (sRs c b k cc) 0 ∗ semVal (rRs c b k cc) 0) : sProp 𝕄)), by_half (fun b k cc => iprop(∃ f, cAt (F := F) c b k cc f)),
      ← bigSep_sep', ← bigSep_sep']
    refine bigSep_mono fun x _ => (rs_last A B c x.1 x.2).trans (Entails.of_eq ?_)
    rw [bigSep_sep']
  have hc : (bigSep Finset.univ fun x : Fin 3 × Fin 3 × Fin 2 => iprop(∃ f, cAt (F := F) c x.1 x.2.1 x.2.2 f))
      ⊢ bigSep Finset.univ fun y : Fin 3 × Fin 3 => commAll (F := F) c y.1 y.2 := by
    rw [bigSep_univ_prod, bigSep_univ_prod]
    refine bigSep_mono fun b _ => ?_
    rw [bigSep_univ_prod]
    refine bigSep_mono fun k _ => .trans (Entails.of_eq (two fun cc => iprop(∃ f, cAt (F := F) c b k cc f))) (commAll_join c b k)
  have ho : (bigSep Finset.univ fun b : Fin 3 => agSt A B c b 10)
      ⊢ iprop((bigSep Finset.univ fun b : Fin 3 => heldO A B c b 10)
        ∗ bigSep Finset.univ fun y : Fin 3 × Fin 3 => iprop(semVal (sAg c y.1 y.2) 0 ∗ semVal (rAg c y.1 y.2) 0)) := by
    rw [bigSep_univ_prod, ← bigSep_sep']
    exact bigSep_mono fun b _ => ag_last A B c b
  rw [hst, owed_last]
  unfold Finish idle
  rw [over_own]
  iintro ⟨-, HO, Hz, Ho, Hf, Hbar, Hi⟩
  ihave Hz := hz $$ Hz
  icases Hz with ⟨Hz, Hs, Hc⟩
  ihave Ho := ho $$ Ho
  icases Ho with ⟨Ho, Hs'⟩
  isplitl [HO]; · iexact HO
  isplitl [Hs Hs' Hi]
  · isplitl [Hs]; · iexact Hs
    isplitl [Hs']; · iexact Hs'
    iexact Hi
  isplitl [Hbar]; · iexact Hbar
  isplitl [Hc]; · iapply hc; iexact Hc
  isplitl [Hz]; · iapply (z_end (F := F) c); iexact Hz
  isplitl [Ho]; · iapply (o_end A B c); iexact Ho
  iexact Hf

/-- With a fact known, and the rest. -/
theorem with_fact {C : Prop} {P Q : sProp 𝕄} (h : C → P ⊢ Q) : iprop(⌜C⌝ ∗ P) ⊢ Q := by
  iintro ⟨%hc, H⟩
  iapply (h hc)
  iexact H

set_option maxHeartbeats 1600000 in
/-- The whole kernel on a device: from its start to its end. -/
theorem whole : Start A B K c ⊢ wpc c (onBufs (cc0_body (F := F))) (fun _ => Finish A B c) := by
  unfold onBufs
  rw [cc0_body_eq_skeleton]
  unfold cc0_body_skel
  refine then_part (part1 A B K c) fun ⟨d0, v5, v26⟩ => with_fact fun ⟨h, h'⟩ => ?_
  dsimp only at h h' ⊢
  subst h h'
  refine then_part (part2 A B K _ _) fun ⟨_, _⟩ => ?_
  refine then_part (part3 A B K _ _) fun ⟨_, v80⟩ => with_fact fun h => ?_
  refine then_part (part4 A B K _ _ _ h) fun ⟨_, _, _⟩ => ?_
  refine then_part (part5 A B K _ _) fun ⟨_, _⟩ => ?_
  refine then_part (part6 A B K _ _ _) fun _ => ?_
  refine then_part (part7 A B K _ _ _ _) fun _ => ?_
  refine then_part (part8 A B K _ _ _ _) fun _ => with_fact fun h => ?_
  refine then_part (part9 A B K _ _ _ _ h) fun _ => ?_
  refine then_part (part10 A B K _ _ _ _) fun _ => ?_
  refine then_part (part11 A B K _ _ _ _ _) fun ⟨_, _, _, _, _, _⟩ => ?_
  refine then_part (part12 A B K _ _ _ _ _) fun ⟨_, _, _⟩ => ?_
  refine then_part (part13 A B K _ _ _) fun ⟨_, _⟩ => ?_
  refine then_part (part14 A B K _ _ _) fun ⟨_, _⟩ => ?_
  refine then_part (part15 A B K _ _ _ _ _) fun _ => with_fact fun h => ?_
  refine then_part (part16 A B K _ _ _ _ _ h) fun _ => ?_
  refine then_part (part17 A B K _ _ _) fun _ => ?_
  refine then_part (part18 A B K _ _ _ _) fun _ => ?_
  refine then_part (part19 A B K _ _ _ _ _) fun ⟨_, _, _, _⟩ => ?_
  refine then_part (part20 A B K _ _ _) fun ⟨_, _⟩ => ?_
  refine then_part (part21 A B K _ _) fun ⟨_, _⟩ => ?_
  refine then_part (part22 A B K _ _ _) fun _ => ?_
  refine then_part (part23 A B K _ _ _ _) fun ⟨_, _⟩ => with_fact fun h => ?_
  refine then_part (part24 A B K _ _ _ _ _ h) fun _ => ?_
  refine then_part (part25 A B K _ _ _ _) fun _ => ?_
  refine then_part (part26 A B K _ _ _ _) fun ⟨_, _⟩ => with_fact fun ⟨h, h'⟩ => ?_
  refine then_part (part27 A B K _ _ _ _ _ _ _ h h') fun _ => ?_
  refine then_part (part28 A B K _ _ _) fun ⟨_, _, _⟩ => ?_
  refine then_part (part29 A B K _ _ _ _ _) fun _ => ?_
  refine then_part (part30 A B K _ _ _ _ _) fun _ => ?_
  refine then_part (part31 A B K _ _ _) fun ⟨_, _, _⟩ => ?_
  refine then_part (part32 A B K _ _ _) fun _ => ?_
  refine then_part (part33 A B K _ _ _ _ _) fun _ => ?_
  refine then_part (part34 A B K _ _ _ _) fun ⟨_, _, _⟩ => ?_
  refine then_part (part35 A B K _ _ _ _) fun ⟨_, _⟩ => ?_
  refine then_part (part36 A B K _ _ _) fun _ => ?_
  simp only [Prog.lift, Prog.bind_op, Prog.bind_ret, Prog.pure_eq_ret]
  refine waitSAg A B K 107 _ 2 2 ?_
  refine waitRAg A B K 108 _ 2 2 ?_
  exact done (At_last A B K _)

end Cert.KernelIdeal.Ring
-- ==== Proof.Deal.lean ====
/- What the launch hands out: the ghost state of every device's cells, the tokens of the duties carried to the devices
   that pay them, and the credits of what all devices owe. -/
module

public import proofs.«01_k».proof.Proof.Begin
public import proofs.«01_k».proof.Proof.Gen.KernelIdeal.Launch
public import Idealize.ShloMosaic.Lib.Pipeline.Launch
public import Idealize.ShloMosaic.Lib.Pipeline.Kit

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens -/

theorem osem_injective : Function.Injective osem := by
  have h : ∀ (r r' : Bool) (b b' : Fin 3) (t t' : Fin 6) (cc cc' : Fin 2), osem (r, b, t, cc) = osem (r', b', t', cc') →
      r = r' ∧ b = b' ∧ t = t' ∧ cc = cc' := by decide +kernel
  rintro ⟨r, b, t, cc⟩ ⟨r', b', t', cc'⟩ e
  obtain ⟨rfl, rfl, rfl, rfl⟩ := h _ _ _ _ _ _ _ _ e
  rfl

theorem ownSemFacts : Pipeline.OwnSemFacts cfg0.spec osem where
  isScoped := by decide
  inj := osem_injective
  disj := by decide

theorem kcell_injective : Function.Injective kcell := by
  have h1 : ∀ o : Own, osem o ≠ SemLoc.reg barS := by decide
  rintro ⟨c, k⟩ ⟨c', k'⟩ h
  have hc : c = c' := congrArg (fun g : GSem nD τ sig => g.1.1) h
  subst hc
  have hk : csem k = csem k' := congrArg Prod.snd h
  rcases k with ⟨⟩ | o <;> rcases k' with ⟨⟩ | o'
  · rfl
  · exact absurd hk.symm (h1 o')
  · exact absurd hk (h1 o)
  · rw [osem_injective (show osem o = osem o' from hk)]

def ringCells : Finset (GSem nD τ sig) := Finset.univ.map ⟨kcell, kcell_injective⟩

/-- The duties of a device's own cells: three at its barrier, one at each of the others. -/
abbrev tokOf (x : Dev nD × (Fin 3 ⊕ Own)) : GSem nD τ sig × ℕ × Fin 3 := match x.2 with
  | .inl a => (kcell (x.1, .inl ()), 0, a)
  | .inr o => (kcell (x.1, .inr o), 0, 0)

theorem tokOf_injective : Function.Injective tokOf := by
  rintro ⟨c, k⟩ ⟨c', k'⟩ h
  rcases k with a | o <;> rcases k' with a' | o'
  · have h1 := kcell_injective (congrArg Prod.fst h)
    have h2 : a = a' := congrArg (fun x : GSem nD τ sig × ℕ × Fin 3 => x.2.2) h
    have h3 : c = c' := (Prod.mk.inj h1).1
    rw [h3, h2]
  · exact absurd (Prod.mk.inj (kcell_injective (congrArg Prod.fst h))).2 (by simp)
  · exact absurd (Prod.mk.inj (kcell_injective (congrArg Prod.fst h))).2 (by simp)
  · have h1 := Prod.mk.inj (kcell_injective (congrArg Prod.fst h))
    have h2 : c = c' := h1.1
    rw [h2, Sum.inr.inj h1.2]

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun a : Fin 3 => dutyTok ER (barC c) 0 a) ∗ bigSep Finset.univ fun o : Own => dutyTok ER (kcell (c, .inr o)) 0 0)

variable (A : Dev nD → Vec F S2048x1024 .bf16) (B : Dev nD → Vec F S1024x2048 .bf16)

/-- What a device is dealt at launch. -/
def G (c : Dev nD) : sProp 𝕄 :=
  iprop((bigSep Finset.univ fun k : Unit ⊕ Own => roundState ER (ringRd A B) (kcell (c, k)) 0)
    ∗ (bigSep Finset.univ fun k : Unit ⊕ Own => iprop(atPos ER (kcell (c, k)) 0 ∅ 0 ∗ reached ER (kcell (c, k)) 0)) ∗ toks c)

theorem fund_ring : BI.own (ER (initOf ringCells ringToks)) ⊢ (|==> bigSep Finset.univ (G A B) : sProp 𝕄) := by
  have hX (Φ : GSem nD τ sig → sProp 𝕄) : bigSep ringCells Φ = bigSep Finset.univ fun c : Dev nD => bigSep Finset.univ fun k : Unit ⊕ Own => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (ringRd A B) ringCells ringToks) $$ HX with ⟨Hst, Hr, Hat, Htok⟩
  imodintro
  ihave Hst' := (Entails.of_eq (hX fun g => roundState ER (ringRd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

omit [FloatOps F] in
/-- The barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k => iprop(∃ κ : ℕ, cellInv ER (ringRd A B) κ (kcell (c, k))))
          ∗ (bigSep Finset.univ fun k => iprop(atPos ER (kcell (c, k)) 0 ∅ 0 ∗ reached ER (kcell (c, k)) 0)) ∗ toks c) := by
  have hs : iprop(Pipeline.ownSems0 (Ix := Unit) (Name := ℕ) (U := UU) (Lvl := ℕ) (Val := Elt F) (τ := τ) osem c ∗ unscopedSems0 c)
      ⊢ (bigSep Finset.univ fun k : Unit ⊕ Own => semVal (kcell (c, k)) 0 : sProp 𝕄) := by
    rw [unscopedSems0_eq, over_cells]
    unfold Pipeline.ownSems0
    iintro ⟨HS, HB⟩
    isplitl [HB]; · iexact HB
    iexact HS
  unfold G
  iintro ⟨Hos, Hus, Hst, Hat, Htok⟩
  ihave Hv := hs $$ [Hos Hus]
  · isplitl [Hos] <;> iassumption
  imod (show iprop((bigSep Finset.univ fun k : Unit ⊕ Own => semVal (kcell (c, k)) 0) ∗ bigSep Finset.univ fun k : Unit ⊕ Own => roundState ER (ringRd A B) (kcell (c, k)) 0)
      ⊢ (|={Set.univ}=> bigSep Finset.univ fun k => iprop(∃ κ : ℕ, cellInv ER (ringRd A B) κ (kcell (c, k))) : sProp 𝕄) from by
        rw [← bigSep_sep']
        exact (bigSep_mono fun k _ => (Rounds.body_intro ER (ringRd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of all cells and that every cell is at its first round. -/
def records (K : Dev nD × (Unit ⊕ Own) → ℕ) : sProp 𝕄 :=
  iprop((bigSep Finset.univ fun x => cellInv ER (ringRd A B) (K x) (kcell x)) ∗ bigSep Finset.univ fun x => reached ER (kcell x) 0)

instance records_persistent (K : Dev nD × (Unit ⊕ Own) → ℕ) : BI.Persistent (records A B K) := by unfold records; infer_instance

/-- What a device has of it once the invariants stand. -/
def G' (c : Dev nD) : sProp 𝕄 := iprop(∃ K, records A B K ∗ places c ∗ payToks c)

/-! ## The tokens carried to those who pay -/

omit [FloatOps F] in
/-- A family over devices and an index, each index's members carried by a bijection of the devices. -/
theorem carry {I : Type} [Fintype I] [DecidableEq I] (e : I → Dev nD ≃ Dev nD) (Φ : Dev nD → I → sProp 𝕄) :
    (bigSep Finset.univ fun c : Dev nD => bigSep Finset.univ fun i : I => Φ c i)
      = bigSep Finset.univ fun c : Dev nD => bigSep Finset.univ fun i : I => Φ (e i c) i := by
  rw [bigSep_univ_comm]
  conv_rhs => rw [bigSep_univ_comm]
  exact bigSep_congr fun i _ => bigSep_univ_equiv (e i) fun c => Φ c i

/-- A device's own tokens by use. -/
def ownToks (c : Dev nD) : sProp 𝕄 :=
  iprop((bigSep Finset.univ fun a : Fin 3 => dutyTok ER (barC c) 0 a)
    ∗ ((bigSep Finset.univ fun x : Fin 3 × Fin 3 × Fin 2 => dutyTok ER (sRs c x.1 x.2.1 x.2.2) 0 0)
      ∗ bigSep Finset.univ fun x : Fin 3 × Fin 3 × Fin 2 => dutyTok ER (rRs c x.1 x.2.1 x.2.2) 0 0)
    ∗ (bigSep Finset.univ fun y : Fin 3 × Fin 3 => dutyTok ER (sAg c y.1 y.2) 0 0)
    ∗ bigSep Finset.univ fun y : Fin 3 × Fin 3 => dutyTok ER (rAg c y.1 y.2) 0 0)

omit [FloatOps F] in
/-- Those of unused slots are dropped. -/
theorem toks_sorted (c : Dev nD) : toks (F := F) c ⊢ ownToks c := by
  unfold toks ownToks
  rw [over_own]
  rw [bigSep_sep' Finset.univ (fun x : Fin 3 × Fin 3 × Fin 2 => (dutyTok ER (kcell (c, .inr (false, x.1, rsT x.2.1, x.2.2))) 0 0 : sProp 𝕄))]
  rw [bigSep_sep' Finset.univ (fun y : Fin 3 × Fin 3 => (dutyTok ER (kcell (c, .inr (false, y.1, agT y.2, 0))) 0 0 : sProp 𝕄))]
  iintro ⟨H1, ⟨H2, H3⟩, ⟨H4, H5⟩, -⟩
  isplitl [H1]; · iexact H1
  isplitl [H2 H3]
  · isplitl [H2]; · iexact H2
    iexact H3
  isplitl [H4]; · iexact H4
  iexact H5

omit [FloatOps F] in
theorem toks_around : (bigSep Finset.univ fun c : Dev nD => toks (F := F) c) ⊢ bigSep Finset.univ fun c : Dev nD => payToks (F := F) c := by
  have h1 := carry paE (fun c a => (dutyTok ER (barC c) 0 a : sProp 𝕄))
  have h2 := carry (fun x : Fin 3 × Fin 3 × Fin 2 => ptE x.1 x.2.1) (fun c x => (dutyTok ER (rRs c x.1 x.2.1 x.2.2) 0 0 : sProp 𝕄))
  have h3 := carry (fun y : Fin 3 × Fin 3 => ptE y.1 (back y.2)) (fun c y => (dutyTok ER (rAg c y.1 y.2) 0 0 : sProp 𝕄))
  have h0 : (bigSep Finset.univ fun c : Dev nD => toks (F := F) c) ⊢ bigSep Finset.univ fun c : Dev nD => ownToks (F := F) c :=
    bigSep_mono fun c _ => toks_sorted c
  have h4 : (bigSep Finset.univ fun c : Dev nD => ownToks (F := F) c) = bigSep Finset.univ fun c : Dev nD => payToks (F := F) c := by
    unfold payToks ownToks
    simp only [bigSep_sep']
    rw [h1, h2, h3]
    rfl
  exact h0.trans (Entails.of_eq h4)

theorem regroup :
    (bigSep Finset.univ fun c : Dev nD => iprop((bigSep Finset.univ fun k => iprop(∃ κ : ℕ, cellInv ER (ringRd A B) κ (kcell (c, k))))
          ∗ (bigSep Finset.univ fun k => iprop(atPos ER (kcell (c, k)) 0 ∅ 0 ∗ reached ER (kcell (c, k)) 0)) ∗ toks c) : sProp 𝕄)
      ⊢ bigSep Finset.univ (G' A B) := by
  rw [bigSep_sep', bigSep_sep', ← bigSep_univ_prod (fun x : Dev nD × (Unit ⊕ Own) => iprop(∃ κ : ℕ, cellInv ER (ringRd A B) κ (kcell x))),
    bigSep_congr (s := Finset.univ) (fun (c : Dev nD) _ => bigSep_sep' Finset.univ (fun k : Unit ⊕ Own => (atPos ER (kcell (c, k)) 0 ∅ 0 : sProp 𝕄)) (fun k => reached ER (kcell (c, k)) 0)),
    bigSep_sep', ← bigSep_univ_prod (fun x : Dev nD × (Unit ⊕ Own) => (reached ER (kcell x) 0 : sProp 𝕄))]
  iintro ⟨HI, ⟨Hat, #HR⟩, Htok⟩
  ihave HK := (BI.bigSep_exists_pi Finset.univ (fun (x : Dev nD × (Unit ⊕ Own)) (κ : ℕ) => (cellInv ER (ringRd A B) κ (kcell x) : sProp 𝕄))) $$ HI
  icases HK with ⟨%K, #HI⟩
  ihave Htk := (toks_around (F := F)) $$ Htok
  have h : ∀ c ∈ (Finset.univ : Finset (Dev nD)), iprop(records A B K ∗ places c ∗ payToks c) ⊢ G' A B c := fun c _ => by
    unfold G'
    iintro H
    iexists K
    iexact H
  iapply (spread (R := records A B K) (Φ := fun c => iprop(places c ∗ payToks c)) h)
  isplitr
  · unfold records; isplitl; · iexact HI
    iexact HR
  · iapply (Entails.of_eq (bigSep_sep' Finset.univ (fun c : Dev nD => places (F := F) c) (payToks (F := F))).symm)
    isplitl [Hat]; · unfold places; iexact Hat
    iexact Htk

/-- All devices' semaphores and shares of the ghost state, made into the invariants and each device's part. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ## The credits -/

/-- What a device owes at launch, slot by slot. -/
theorem O₀_eq : O₀ = fun c => ((((∑ x : Fin 3 × Fin 3 × Fin 2, owedRs c x) + ∑ y : Fin 3 × Fin 3, owedAg c y)
    + tallyAt (barC (pa 2 c)) () 1) + tallyAt (barC (pa 1 c)) () 1) + tallyAt (barC (pa 0 c)) () 1 := by
  funext c
  unfold O₀ owed
  simp only [start0, Nat.zero_le, if_true]

omit [FloatOps F] in
theorem due_all (c : Dev nD) : (Pipeline.launchCred O₀ c : sProp 𝕄) ⊢ due c := by
  have hb (a : Fin 3) : (Pipeline.launchCred (fun d => tallyAt (barC (pa a d)) () 1) c : sProp 𝕄) ⊢ cred (tallyAt (barC c) () 1) :=
    Pipeline.launchCred_tallyAt (.reg barS) (pa a) (pa a) (pa_pa a) (pa_pa a) () 1 c
  have hr (x : Fin 3 × Fin 3 × Fin 2) : (Pipeline.launchCred (fun d => owedRs d x) c : sProp 𝕄) ⊢ cred (tallyAt (rRs c x.1 x.2.1 x.2.2) () (nRs x.1 x.2.1)) :=
    Pipeline.launchCred_tallyAt (.dma (recvSem x.1 (rsT x.2.1) x.2.2)) (fun d => pt d x.1 x.2.1) (fun d => pt d x.1 x.2.1)
      (fun d => pt_pt d x.1 x.2.1) (fun d => pt_pt d x.1 x.2.1) () _ c
  have ha (y : Fin 3 × Fin 3) : (Pipeline.launchCred (fun d => owedAg d y) c : sProp 𝕄) ⊢ cred (tallyAt (rAg c y.1 y.2) () (nAg y.1 y.2)) :=
    Pipeline.launchCred_tallyAt (.dma (recvSem y.1 (agT y.2) 0)) (fun d => pt d y.1 (back y.2)) (fun d => pt d y.1 (back y.2))
      (fun d => pt_pt d y.1 (back y.2)) (fun d => pt_pt d y.1 (back y.2)) () _ c
  have hrs : (bigSep Finset.univ fun x : Fin 3 × Fin 3 × Fin 2 => (Pipeline.launchCred (fun d => owedRs d x) c : sProp 𝕄))
      ⊢ bigSep Finset.univ fun x : Fin 3 × Fin 3 × Fin 2 => cred (tallyAt (rRs c x.1 x.2.1 x.2.2) () (nRs x.1 x.2.1)) := bigSep_mono fun x _ => hr x
  have has : (bigSep Finset.univ fun y : Fin 3 × Fin 3 => (Pipeline.launchCred (fun d => owedAg d y) c : sProp 𝕄))
      ⊢ bigSep Finset.univ fun y : Fin 3 × Fin 3 => cred (tallyAt (rAg c y.1 y.2) () (nAg y.1 y.2)) := bigSep_mono fun y _ => ha y
  have h3 : iprop(cred (tallyAt (barC c) () 1) ∗ cred (tallyAt (barC c) () 1) ∗ cred (tallyAt (barC c) () 1)) ⊢ (cred (tallyAt (barC c) () 3) : sProp 𝕄) :=
    (sep_mono_right (cred_add _ _).2).trans ((cred_add _ _).2.trans (Entails.of_eq (by rw [tallyAt_add, tallyAt_add])))
  rw [O₀_eq, Pipeline.launchCred_add, Pipeline.launchCred_add, Pipeline.launchCred_add, Pipeline.launchCred_add, Pipeline.launchCred_sum, Pipeline.launchCred_sum]
  unfold due
  iintro ⟨⟨⟨⟨Hr, Ha⟩, H2⟩, H1⟩, H0⟩
  isplitl [H0 H1 H2]
  · iapply h3
    isplitl [H0]; · iapply (hb 0); iexact H0
    isplitl [H1]; · iapply (hb 1); iexact H1
    iapply (hb 2); iexact H2
  isplitl [Hr]
  · iapply hrs; iexact Hr
  · iapply has; iexact Ha

/-! ## What a staging semaphore may wait for -/

theorem O₀_pos {c : Dev nD} {g : GSem nD τ sig} {u : Unit} (h : 0 < O₀ c g u) : 0 < owed c start0 g u ∨ ∃ a, g = barC (pa a c) := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact Or.inl h
      · exact Or.inr ⟨2, (Pipeline.tallyAt_pos h).1⟩
    · exact Or.inr ⟨1, (Pipeline.tallyAt_pos h).1⟩
  · exact Or.inr ⟨0, (Pipeline.tallyAt_pos h).1⟩

omit [FloatOps F] in
theorem mayWait_stage (c : Dev nD) (q : DmaSem sig) (hq : kind (.dma q) = .no) (O : CellTallies nD τ sig Unit) (hO : O = O₀ c ∨ O = 0) :
    (levAts L lv : sProp 𝕄) ⊢ MayWait (c : Thread nD τ) (.dma q) () O := by
  have hpos {g : GSem nD τ sig} {u : Unit} (h : 0 < O₀ c g u) : (∃ d : Dev nD, g.1 = (d : Thread nD τ)) ∧ 0 < lv g () := by
    rcases O₀_pos h with h | ⟨a, rfl⟩
    · rcases owed_pos h with ⟨b, k, cc, -, rfl⟩ | ⟨b, j, -, rfl⟩
      · exact ⟨⟨_, rfl⟩, by dsimp only [lv]; rw [kind_rRs]; exact Nat.lt_of_lt_of_le (by decide) (Nat.le_add_right 2 _)⟩
      · exact ⟨⟨_, rfl⟩, by dsimp only [lv]; rw [kind_rAg]; exact Nat.lt_of_lt_of_le (by decide) (Nat.le_add_right 5 _)⟩
    · exact ⟨⟨_, rfl⟩, by dsimp only [lv]; rw [kind_bar]; decide⟩
  rcases hO with rfl | rfl
  · refine MayOwe.of_cut (L := L) (lev := lv) 0 (fun p hp => by rw [Finset.mem_singleton.mp hp, L_tc]; exact Finset.mem_singleton_self _)
      (fun g u hg => ?_)
      (fun p hp => by rw [Finset.mem_singleton.mp hp]; dsimp only [lv]; rw [hq])
      (fun g u hg => (hpos hg).2)
    obtain ⟨⟨d, hd⟩, -⟩ := hpos hg
    obtain ⟨t, sm⟩ := g
    obtain rfl : t = (d : Thread nD τ) := hd
    rw [L_tc]; exact Finset.mem_singleton_self _
  · rw [MayWait_zero]; iintro -; iempintro

end Cert.KernelIdeal.Ring
-- ==== Proof.Launch.lean ====
/- The launch: the kernel's body on every device, started from what the launch hands out, and the run of the whole
   program from any memory. -/
module

public import proofs.«01_k».proof.Proof.Finish
public import proofs.«01_k».proof.Proof.Deal
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- The left factor as device `c` stages it. -/
def lhs (c : Dev nD) : Vec F S2048x1024 .bf16 := (win0_0.blk (0 : Fin 1)).view.read (Elt F) (m ((c : Thread nD τ).loc main_arg0))
/-- The right factor as device `c` stages it. -/
def rhs (c : Dev nD) : Vec F S1024x2048 .bf16 := (win0_1.blk (0 : Fin 1)).view.read (Elt F) (m ((c : Thread nD τ).loc main_arg1))

/-! ## What the body starts and ends with -/

/-- The kernel's buffers but the staged ones, whole. -/
def scratch (c : Dev nD) : sProp 𝕄 :=
  iprop((bigSep Finset.univ fun y : Fin 3 × Fin 3 => commAll (F := F) c y.1 y.2) ∗ (∃ f, zAt (F := F) c Finset.univ f)
    ∗ (∃ f : Vec F S2048x1024 .bf16, (a16M.view.loc (c : Thread nD τ)) ↦{fullShare} f)
    ∗ ∃ f : Vec F S1024x2048 .bf16, (b16M.view.loc (c : Thread nD τ)) ↦{fullShare} f)

/-- What a device starts from: the records, its places, the tokens it pays with, what is due to it. -/
def start (c : Dev nD) : sProp 𝕄 :=
  iprop(∃ K, recs (lhs m) (rhs m) K ∗ places (F := F) c ∗ payToks (F := F) c ∗ due (F := F) c)

def Φ₀ (c : Dev nD) : sProp 𝕄 := iprop(start m c ∗ scratch c)

def Φ₁ (c : Dev nD) : sProp 𝕄 :=
  iprop((bigSep Finset.univ fun o : Own => semVal ((c : Thread nD τ), osem o) 0) ∗ semVal (barC c) 0 ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => lhs m c
    | ⟨1, _⟩ => rhs m c
    | ⟨2, _⟩ => outv (lhs m) (rhs m)
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (lhs m c) ∗ stg c cc0_stg1_0 (rhs m c)
    ∗ stg c cc0_stg2_0 (outv (lhs m) (rhs m)))

theorem before_start (c : Dev nD) : bodyPre m ρ c ⊢ iprop(∃ K, Start (lhs m) (rhs m) K c) := by
  unfold bodyPre Φ₀ start scratch Start Dat.owesAt Pipeline.owesWithin
  iintro ⟨⟨⟨%K, Hr, Hp, Ht, Hd⟩, Hc, Hz, ⟨%fa, Ha16⟩, ⟨%fb, Hb16⟩⟩, ⟨%W, %hW, HO⟩, ⟨%d0, %g0, %hg0, H0⟩, ⟨%d1, %g1, %hg1, H1⟩, ⟨%d2, %g2, %hg2, H2⟩⟩
  have h0 : g0 = lhs m c := by rw [hg0]; unfold Dat.before; rw [if_pos (fetch0_0 t0_0)]; rfl
  have h1 : g1 = rhs m c := by rw [hg1]; unfold Dat.before; rw [if_pos (fetch0_1 t0_0)]; rfl
  subst h0 h1
  rw [show (dats m ρ 0 c).owed t0_0.castSucc = O₀ c from rfl]
  iexists K
  isplitl [Hr]; · iexact Hr
  isplitl [HO]; · iexists W; iexact HO
  isplitl [Hp Ht Hd]
  · isplitl [Hp]; · iexact Hp
    isplitl [Ht]; · iexact Ht
    iexact Hd
  isplitl [Hc H2]
  · isplitl [Hc]; · iexact Hc
    iexists g2; iexact H2
  isplitl [Hz]; · iexact Hz
  unfold factors
  isplitl [H0]; · iexact H0
  isplitl [H1]; · iexact H1
  isplitl [Ha16]
  · iexists fa
    isplitl [Ha16]; · iexact Ha16
    ipureintro; exact fun b hb => absurd hb (Nat.not_lt_zero _)
  · iexists fb
    isplitl [Hb16]; · iexact Hb16
    ipureintro; exact fun hb => absurd hb (Nat.lt_irrefl 0)

theorem after_finish (c : Dev nD) : Finish (lhs m) (rhs m) c ⊢ bodyPost m ρ c := by
  unfold bodyPost Φ₁ scratch Finish factors Dat.owesAt Pipeline.owesWithin
  rw [show (dats m ρ 0 c).owed t0_0.succ = 0 from rfl]
  iintro ⟨⟨%W, HO⟩, Hs, Hb, Hc, Hz, H2, H0, H1, ⟨%fa, Ha16, -⟩, ⟨%fb, Hb16, -⟩⟩
  isplitl [Hs Hb Hc Hz Ha16 Hb16]
  · isplitl [Hs]; · iexact Hs
    isplitl [Hb]; · iexact Hb
    isplitl [Hc]; · iexact Hc
    isplitl [Hz]; · iexact Hz
    isplitl [Ha16]; · iexists fa; iexact Ha16
    iexists fb; iexact Hb16
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

theorem sound_body (c : Dev nD) : bodyPre m ρ c ⊢ wpc c (onBufs (cc0_body (F := F))) (fun _ => bodyPost m ρ c) := by
  refine (before_start m ρ c).trans ?_
  iintro ⟨%K, H⟩
  iapply (show Start (lhs m) (rhs m) K c ⊢ wpc c (onBufs (cc0_body (F := F))) (fun _ => bodyPost m ρ c) from
    (whole (lhs m) (rhs m) K c).trans (wp_mono _ _ _ fun _ => after_finish m ρ c))
  iexact H

/-- The program the pipeline runs at its one point is the kernel's body on the whole buffers. -/
theorem body_eq : defs₀ (F := F) Proc.tc 0 (t0_0, cfg0.slots t0_0) = onBufs (cc0_body (F := F)) := rfl

set_option maxRecDepth 30000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_whole_eq]
  have h : bodyPre m ρ c ⊢ wpc c (onBufs (cc0_body (F := F))) (fun _ => bodyPost m ρ c) := sound_body m ρ c
  rw [← body_eq] at h
  exact h

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (lhs m) (rhs m) c)
      ⊢ |={Set.univ}=> iprop(start m c ∗ emp) := by
  unfold start G' records recs
  iintro ⟨-, #Hlev, Hcr, -, ⟨%K, ⟨#HI, #HR⟩, Hp, Ht⟩⟩
  ihave Hc := (due_all (F := F) c) $$ Hcr
  imodintro
  isplitl
  · iexists K
    isplitr
    · isplitr; · iexact HI
      isplitr; · iexact HR
      iexact Hlev
    isplitl [Hp]; · iexact Hp
    isplitl [Ht]; · iexact Ht
    iexact Hc
  · iempintro

omit [FloatOps F] in
/-- The landing buffers, one by one. -/
theorem comm_list (c : Dev nD) : (bigSep Finset.univ fun y : Fin 3 × Fin 3 => commAll (F := F) c y.1 y.2)
    = iprop(((∃ f : Buf (Elt F) ((c : Thread nD τ).loc cc0_scratch3), ((c : Thread nD τ).loc cc0_scratch3) ↦{fullShare} f)
        ∗ (∃ f : Buf (Elt F) ((c : Thread nD τ).loc cc0_scratch6), ((c : Thread nD τ).loc cc0_scratch6) ↦{fullShare} f)
        ∗ (∃ f : Buf (Elt F) ((c : Thread nD τ).loc cc0_scratch9), ((c : Thread nD τ).loc cc0_scratch9) ↦{fullShare} f))
      ∗ ((∃ f : Buf (Elt F) ((c : Thread nD τ).loc cc0_scratch4), ((c : Thread nD τ).loc cc0_scratch4) ↦{fullShare} f)
        ∗ (∃ f : Buf (Elt F) ((c : Thread nD τ).loc cc0_scratch7), ((c : Thread nD τ).loc cc0_scratch7) ↦{fullShare} f)
        ∗ (∃ f : Buf (Elt F) ((c : Thread nD τ).loc cc0_scratch10), ((c : Thread nD τ).loc cc0_scratch10) ↦{fullShare} f))
      ∗ ((∃ f : Buf (Elt F) ((c : Thread nD τ).loc cc0_scratch5), ((c : Thread nD τ).loc cc0_scratch5) ↦{fullShare} f)
        ∗ (∃ f : Buf (Elt F) ((c : Thread nD τ).loc cc0_scratch8), ((c : Thread nD τ).loc cc0_scratch8) ↦{fullShare} f)
        ∗ (∃ f : Buf (Elt F) ((c : Thread nD τ).loc cc0_scratch11), ((c : Thread nD τ).loc cc0_scratch11) ↦{fullShare} f))) := by
  have h (r : Ref sig .tc) : (iprop(∃ f : Buf (Elt F) ((View.whole r).loc (c : Thread nD τ)), (View.whole r).loc (c : Thread nD τ) ↦[(View.whole r).set]{fullShare} f) : sProp 𝕄)
      = iprop(∃ f : Buf (Elt F) ((c : Thread nD τ).loc r), ((c : Thread nD τ).loc r) ↦{fullShare} f) := by
    rw [View.set_whole]
  rw [bigSep_univ_prod]
  have e (b k : Fin 3) (r : Ref sig .tc) (hr : commAll (F := F) c b k
      = iprop(∃ f : Buf (Elt F) ((View.whole r).loc (c : Thread nD τ)), (View.whole r).loc (c : Thread nD τ) ↦[(View.whole r).set]{fullShare} f)) :
      commAll (F := F) c b k = _ := hr.trans (h r)
  simp only [three, e 0 0 cc0_scratch3 rfl, e 1 0 cc0_scratch4 rfl, e 2 0 cc0_scratch5 rfl, e 0 1 cc0_scratch6 rfl, e 1 1 cc0_scratch7 rfl, e 2 1 cc0_scratch8 rfl, e 0 2 cc0_scratch9 rfl, e 1 2 cc0_scratch10 rfl, e 2 2 cc0_scratch11 rfl]

omit [FloatOps F] in
theorem scratch_eq (c : Dev nD) : (Pipeline.scopedRest cfg0.spec c : sProp 𝕄) = scratch c := by
  rw [scopedRest0_eq]
  unfold scratch
  rw [comm_list]
  refine BI.Entails.antisymm (show _ ⊢ (_ : sProp 𝕄) from ?_) (show _ ⊢ (_ : sProp 𝕄) from ?_)
  · iintro ⟨Hz, Ha, Hb, H3, H4, H5, H6, H7, H8, H9, H10, H11⟩
    isplitl [H3 H4 H5 H6 H7 H8 H9 H10 H11]
    · iframe
    isplitl [Hz]; · iexact Hz
    isplitl [Ha]; · iexact Ha
    iexact Hb
  · iintro ⟨⟨⟨H3, H6, H9⟩, ⟨H4, H7, H10⟩, H5, H8, H11⟩, Hz, Ha, Hb⟩
    isplitl [Hz]; · iexact Hz
    isplitl [Ha]; · iexact Ha
    isplitl [Hb]; · iexact Hb
    iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, unscopedSems0_eq]
  unfold Φ₁ Pipeline.ownSems0
  iintro ⟨Hs, Hb, Hr⟩
  isplitl [Hb]; · iexact Hb
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 30000 in
/-- From any memory with zero counters, for any float values: every weakly fair execution on the eight devices ends,
    with the arrays as computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (lhs m) (rhs m)) (G' := G' (lhs m) (rhs m)) (u₀ := u₀)
    (hu₀ := by
      unfold u₀
      iintro Hu
      ihave H := (ownU_pair _ _) $$ Hu
      icases H with ⟨HP, HX⟩
      imod (fund_ring (lhs m) (rhs m)) $$ HX with HG
      imodintro
      isplitl [HP] <;> iassumption)
    (hglob := glob (lhs m) (rhs m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring
-- ==== Proof.Frames.lean ====
/- The frames: the kernel, over its own floats and over the extended reals, and the reference end with their
   arguments unchanged and every semaphore counter at zero. -/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- An argument array ends as it began. -/
theorem final_arg0 (c : Dev nD) : finalA m ρ c (0 : Fin 3) = m ((c : Thread nD τ).loc main_arg0) :=
  (dats (F := F) m ρ 0 c).arrAt_in (0 : Fin 3) rfl _
theorem final_arg1 (c : Dev nD) : finalA m ρ c (1 : Fin 3) = m ((c : Thread nD τ).loc main_arg1) :=
  (dats (F := F) m ρ 0 c).arrAt_in (1 : Fin 3) rfl _

/-- Over any float values: the arguments are unchanged and the counters zero. -/
theorem run_frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c (0 : Fin 3)).trans (final_arg0 m ρ c), (h.1 c (1 : Fin 3)).trans (final_arg1 m ρ c)⟩, h.2⟩)
    (run_main m ρ)

theorem frame_ideal : Cert.quiescent_KernelIdeal := fun m ρ _ => run_frame (F := Ideal) m ρ

/-- The two programs have one text: their kernels' tables agree, -/
theorem kernel_bodies : Cert.Kernel.defs₀ (F := F) = Cert.KernelIdeal.defs₀ (F := F) := by
  unfold Cert.Kernel.defs₀ Cert.KernelIdeal.defs₀
  refine congrArg Defs.onTc (funext fun l => funext fun a => ?_)
  match l with
  | ⟨0, _⟩ => rfl

/-- and so do the programs' own. -/
theorem kernel_defs : Cert.Kernel.defs (F := F) = Cert.KernelIdeal.defs (F := F) := by
  unfold Cert.Kernel.defs Cert.KernelIdeal.defs
  rw [kernel_bodies]
  rfl

theorem frame_kernel : Cert.quiescent_Kernel := fun m ρ _ => by
  rw [kernel_defs]
  exact run_frame (F := Bits) m ρ

/-- The reference has no semaphore and writes no argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Ring
-- ==== Proof.Values.lean ====
/- What the result holds, over the extended reals: at every entry, `z / (1 + exp (-z))` where `z` is the sum
   over the eight devices of the products of their blocks of the two factors. -/
module

public import proofs.«01_k».proof.Proof.Contents
public import Idealize.ShloMosaic.Lib.MatmulPlain
public import Idealize.ShloMosaic.Lib.ValueIdx
public import Idealize.ShloMosaic.Lib.IdealHost
public import Idealize.ShloMosaic.Lib.Layout
public import Idealize.ShloMosaic.Lib.Pipeline.ValueKit.Geometry
public import Idealize.ShloMosaic.PureOps.Ideal.Laws

@[expose] public section

noncomputable section

namespace Cert.KernelIdeal.Ring

open Cert.KernelIdeal Cert.KernelIdeal.Gen
open Idealize.ShloMosaic Idealize.ShloMosaic.TcCoe Idealize.ShloMosaic.ValueIdx

/-! ## One band of one device -/

/-- A band's product at an entry: the sum over the 1024 columns the device holds. -/
theorem bandMul_apply : ∀ (b : Fin 3) (x : Vec Ideal ⟨2, ![hs b 0, 1024]⟩ .bf16) (y : Vec Ideal S1024x2048 .bf16) (r : Fin (hs b 0))
    (c : Fin 2048), bandMul (F := Ideal) b x y (ix2 r c) = (∑ k : Fin 1024, x (ix2 r k) * y (ix2 k c) : EReal)
  | 0, x, y, r, c => (Ideal.matmul_plain_apply (M := 640) (K := 1024) (N := 2048) (φ₁ := .bf16) (φ₂ := .bf16) none x y _ r c).trans
      (by rw [constant_apply, Ideal.ofBits_zero_f32]; exact zero_add _)
  | 1, x, y, r, c => (Ideal.matmul_plain_apply (M := 640) (K := 1024) (N := 2048) (φ₁ := .bf16) (φ₂ := .bf16) none x y _ r c).trans
      (by rw [constant_apply, Ideal.ofBits_zero_f32]; exact zero_add _)
  | 2, x, y, r, c => (Ideal.matmul_plain_apply (M := 768) (K := 1024) (N := 2048) (φ₁ := .bf16) (φ₂ := .bf16) none x y _ r c).trans
      (by rw [constant_apply, Ideal.ofBits_zero_f32]; exact zero_add _)

variable (A : Dev nD → Vec Ideal S2048x1024 .bf16) (B : Dev nD → Vec Ideal S1024x2048 .bf16)

/-- Device `d`'s part of the product at row `r` and column `c`. -/
def share (r c : Fin 2048) (d : Dev nD) : EReal := ∑ k : Fin 1024, A d (ix2 r k) * B d (ix2 k c)

/-- Row `r` of band `b`, among all rows, is the band's first row and `r`. -/
theorem z0_apply (b : Fin 3) (d : Dev nD) (r c : Fin 2048) (h : base b ≤ r.val) (h' : r.val < base b + hs b 0) :
    z0 A B b d (ix2 r c) = share A B r c d := by
  have hr : r.val - base b < hs b 0 := by omega
  have hz : (zRows b).view.emb (ix2 (⟨r.val - base b, hr⟩ : Fin (hs b 0)) c) = (ix2 r c : S2048x2048.Idx) := by
    funext a; apply Fin.ext
    refine (ValueKit.view_emb_slice_whole_unit_val cc0_scratch0 ![base b, 0] ![hs b 0, 2048] (inb_zRows b) _ a).trans ?_
    match a with
    | ⟨0, _⟩ => exact Nat.add_sub_cancel' h
    | ⟨1, _⟩ => exact Nat.zero_add _
  have ha (k : Fin 1024) : (aRect b).emb (ix2 (⟨r.val - base b, hr⟩ : Fin (hs b 0)) k) = (ix2 r k : S2048x1024.Idx) := by
    funext a; apply Fin.ext
    refine (ValueKit.rect_emb_unit_val (s := S2048x1024) ![base b, 0] ![hs b 0, 1024] (inb_aRows b) _ a).trans ?_
    match a with
    | ⟨0, _⟩ => exact Nat.add_sub_cancel' h
    | ⟨1, _⟩ => exact Nat.zero_add _
  have hw : z0 A B b d ((zRows b).view.emb (ix2 (⟨r.val - base b, hr⟩ : Fin (hs b 0)) c))
      = bandMul b (aRows (A d) b) (B d) (ix2 (⟨r.val - base b, hr⟩ : Fin (hs b 0)) c) :=
    View.write_emb_of_mem (v := (zRows b).view) _ _ (Finset.mem_univ _)
  rw [hz] at hw
  refine hw.trans ((bandMul_apply b _ _ _ c).trans (Finset.sum_congr rfl fun k _ => ?_))
  show (A d ((aRect b).emb _) * _ : EReal) = _
  rw [ha]

/-! ## The sum over the devices -/

/-- The devices whose parts device `d` has added up in band `b` after `k` exchanges. -/
def heard (b : Fin 3) : ℕ → Dev nD → Multiset (Dev nD)
  | 0, d => {d}
  | k + 1, d => heard b k d + heard b k (pt d b (Fin.ofNat 3 k))

/-- After three exchanges that is every device, once. -/
theorem heard_all : ∀ (b : Fin 3) (d : Dev nD), heard b 3 d = (Finset.univ : Finset (Dev nD)).val := by decide

/-- What a device holds at a row of a band is the sum of the parts of the devices it has heard from. -/
theorem zv_apply (b : Fin 3) (r c : Fin 2048) (h : base b ≤ r.val) (h' : r.val < base b + hs b 0) :
    ∀ (k : ℕ) (d : Dev nD), zv A B b k d (ix2 r c) = ((heard b k d).map (share A B r c)).sum
  | 0, d => (z0_apply A B b d r c h h').trans (by simp [heard])
  | k + 1, d => by
    show (zv A B b k d (ix2 r c) + zv A B b k (pt d b (Fin.ofNat 3 k)) (ix2 r c) : EReal) = _
    rw [zv_apply b r c h h' k d, zv_apply b r c h h' k (pt d b (Fin.ofNat 3 k)), heard, Multiset.map_add, Multiset.sum_add]

/-! ## Every row is kept by one device -/

/-- The rows of a band fall to the eight devices in eight equal runs. -/
theorem run_kept : ∀ (b : Fin 3) (q : Fin 8), ∃ d : Dev nD, kOff d b 3 = base b + q.val * hs b 3 := by decide

/-- Each row lies in one of the bands, -/
theorem row_band (r : ℕ) (h : r < 2048) : ∃ b : Fin 3, base b ≤ r ∧ r < base b + 8 * hs b 3 := by
  by_cases h0 : r < 640
  · exact ⟨0, Nat.zero_le _, h0⟩
  · by_cases h1 : r < 1280
    · exact ⟨1, Nat.le_of_not_lt h0, h1⟩
    · exact ⟨2, Nat.le_of_not_lt h1, h⟩

/-- and some device keeps it last. -/
theorem row_last (i : S2048x2048.Idx) : ∃ (d : Dev nD) (b : Fin 3), Last i d b := by
  obtain ⟨b, h, h'⟩ := row_band (i 0).val (i 0).isLt
  have hp : 0 < hs b 3 := (by decide : ∀ b : Fin 3, 0 < hs b 3) b
  have hq : ((i 0).val - base b) / hs b 3 < 8 := (Nat.div_lt_iff_lt_mul hp).mpr (by omega)
  obtain ⟨d, hd⟩ := run_kept b ⟨_, hq⟩
  have hm := Nat.div_add_mod' ((i 0).val - base b) (hs b 3)
  have hl := Nat.mod_lt ((i 0).val - base b) hp
  refine ⟨d, b, ?_, ?_⟩ <;> rw [hd] <;> dsimp only <;> omega

/-- Rows kept last are rows of their band. -/
theorem last_in_band : ∀ (d : Dev nD) (b : Fin 3), base b ≤ kOff d b 3 ∧ kOff d b 3 + hs b 3 ≤ base b + hs b 0 := by decide

/-! ## The result -/

/-- `z / (1 + exp (-z))` over the extended reals. -/
def silu (z : EReal) : EReal := Ideal.div z (1 + Ideal.exp (-z))

/-- The kernel's function of a value is that. -/
theorem siluV_apply (v : FVec Ideal S2048x2048 .bf16) (i : S2048x2048.Idx) : siluV v i = silu (v i) := by
  show Ideal.div (v i) (Ideal.ofBits .f32 0x3F800000#32 + Ideal.exp (Ideal.ofBits .f32 0x00000000#32 - v i)) = _
  rw [Ideal.ofBits_one_f32, Ideal.ofBits_zero_f32, zero_sub]; rfl

/-- Every entry of the result is the function of the sum of all devices' parts. -/
theorem outv_apply (r c : Fin 2048) : outv A B (ix2 r c) = silu (∑ d : Dev nD, share A B r c d) := by
  obtain ⟨d, b, h⟩ := row_last (ix2 r c : S2048x2048.Idx)
  have hb := last_in_band d b
  rw [outv_eq A B h, siluV_apply, zv_apply A B b r c (hb.1.trans h.1) (lt_of_lt_of_le h.2 hb.2) 3 d, heard_all]
  rfl

/-! ## The blocks of whole arrays -/

/-- Where the two factors are cut in eight blocks over the contracted axis, the devices' parts add up to the whole
    product's entry. -/
theorem sum_parts (X : (⟨2, ![2048, 8192]⟩ : Shape).Idx → EReal) (Y : (⟨2, ![8192, 2048]⟩ : Shape).Idx → EReal)
    (hA : ∀ d, A d = Layout.block ⟨2, ![2048, 1024]⟩ ⟨2, ![2048, 8192]⟩ 1 8 d X)
    (hB : ∀ d, B d = Layout.block ⟨2, ![1024, 2048]⟩ ⟨2, ![8192, 2048]⟩ 0 8 d Y) (r c : Fin 2048) :
    ∑ d : Dev nD, share A B r c d = ∑ k : Fin 8192, X (ix2 r k) * Y (ix2 k c) := by
  have e := Equiv.sum_comp (finProdFinEquiv (m := 8) (n := 1024)) (fun k : Fin 8192 => X (ix2 r k) * Y (ix2 k c))
  refine Eq.trans ?_ e
  rw [Fintype.sum_prod_type]
  refine Finset.sum_congr rfl fun d _ => Finset.sum_congr rfl fun k _ => ?_
  rw [hA, hB]
  refine congrArg₂ (· * ·) (congrArg X ?_) (congrArg Y ?_)
  · funext a; apply Fin.ext
    match a with
    | ⟨0, _⟩ => rfl
    | ⟨1, _⟩ => show d.val * 1024 + k.val = k.val + 1024 * d.val; omega
  · funext a; apply Fin.ext
    match a with
    | ⟨0, _⟩ => show d.val * 1024 + k.val = k.val + 1024 * d.val; omega
    | ⟨1, _⟩ => rfl

end Cert.KernelIdeal.Ring
-- ==== Proof.Algebraic.lean ====
/- The algebraic claim: the array the kernel leaves on every device is the reference's, over the extended reals. -/
module

public import proofs.«01_k».proof.Proof.Frames
public import proofs.«01_k».proof.Proof.Values
public import Idealize.ShloMosaic.Lib.KernelVsHost

@[expose] public section

noncomputable section

namespace Cert.KernelIdeal.Ring

open Cert.KernelIdeal Cert.KernelIdeal.Gen
open Idealize.ShloMosaic Idealize.ShloMosaic.TcCoe Idealize.ShloMosaic.ValueIdx Idealize.SL.Sem
open Idealize.ShloMosaic.Pipeline (Dat Cfg Window)

section Run
variable {F : FTy → Type} [FloatOps F]
variable (m : (ℓ : Loc nD τ sig) → Buf (Elt F) ℓ) (ρ : Dev nD → PrngReg)

/-! ## What is staged and what is written back are whole arrays -/

/-- The one block of each staged array is the array. -/
theorem lhs_eq (c : Dev nD) : lhs m c = m ((c : Thread nD τ).loc main_arg0) := by
  funext y
  refine congrArg (m ((c : Thread nD τ).loc main_arg0)) ?_
  funext a; apply Fin.ext
  exact Pipeline.Window.rect_emb_val_of_index_zero win0_0 (0 : Fin 1) a (by revert a; decide) y
theorem rhs_eq (c : Dev nD) : rhs m c = m ((c : Thread nD τ).loc main_arg1) := by
  funext y
  refine congrArg (m ((c : Thread nD τ).loc main_arg1)) ?_
  funext a; apply Fin.ext
  exact Pipeline.Window.rect_emb_val_of_index_zero win0_1 (0 : Fin 1) a (by revert a; decide) y

/-- The result's array ends as what the body left in its one block. -/
theorem final_out (c : Dev nD) : finalA m ρ c (2 : Fin 3) = outv (lhs m) (rhs m) := by
  funext y
  have he : ((cfg0.win 2).blk (0 : Fin 1)).view.emb y = y := by
    funext a; apply Fin.ext
    exact Pipeline.Window.rect_emb_val_of_index_zero win0_2 (0 : Fin 1) a (by revert a; decide) y
  have h := (dats m ρ 0 c).arrAt_emb_eq_flushed (2 : Fin 3) (fun t t' _ _ hne => absurd (Subsingleton.elim (α := Fin 1) t t') hne) (0 : Fin 1)
    (flush0_2 _) y
  rw [he] at h
  exact h

/-- The run, with the result. -/
theorem run_value : θ_run defs (onTc (τ := τ) (main (F := F))) (s₀ m ρ) (fun r => ∀ c : Dev nD,
      r.2.mem ((c : Thread nD τ).loc main_v1) = outv (lhs m) (rhs m)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h.1 c (2 : Fin 3)).trans (final_out m ρ c),
    (h.1 c (0 : Fin 3)).trans (final_arg0 m ρ c), (h.1 c (1 : Fin 3)).trans (final_arg1 m ρ c)⟩) (run_main m ρ)

end Run

/-! ## The reference -/

/-- The reference's function of its product. -/
def refSilu (z : FVec Ideal Cert.ReferenceIdeal.S2048x2048 .f32) : FVec Ideal Cert.ReferenceIdeal.S2048x2048 .bf16 :=
  truncf .bf16 (Host.divf z (addf (broadcastInDim Cert.ReferenceIdeal.S2048x2048 ![] Cert.ReferenceIdeal.Gen.bcast_S_S2048x2048
    (constant Cert.ReferenceIdeal.S_ .f32 0x3F800000#32)) (Host.exp (Host.negf z)))) Cert.ReferenceIdeal.Gen.bitsLt_bf16_f32

/-- Entry by entry it is the kernel's. -/
theorem refSilu_apply (z : FVec Ideal Cert.ReferenceIdeal.S2048x2048 .f32) (i : Cert.ReferenceIdeal.S2048x2048.Idx) :
    refSilu z i = silu (z i) := by
  show Ideal.div (z i) (Ideal.ofBits .f32 0x3F800000#32 + Ideal.exp (-(z i))) = _
  rw [Ideal.ofBits_one_f32]; rfl

/-- The reference's result, of the two whole factors. -/
def refv (X : FVec Ideal Cert.ReferenceIdeal.S2048x8192 .bf16) (Y : FVec Ideal Cert.ReferenceIdeal.S8192x2048 .bf16) :
    FVec Ideal Cert.ReferenceIdeal.S2048x2048 .bf16 :=
  refSilu (Host.dotGeneral Cert.ReferenceIdeal.dot_S2048x8192_S8192x2048_S2048x2048_1_0_0_1_n_n none
    (extf .f32 X Cert.ReferenceIdeal.Gen.bitsLt_bf16_f32) (extf .f32 Y Cert.ReferenceIdeal.Gen.bitsLt_bf16_f32))

/-- Its entries: the function of the whole product's entry. -/
theorem refv_apply (X : FVec Ideal Cert.ReferenceIdeal.S2048x8192 .bf16) (Y : FVec Ideal Cert.ReferenceIdeal.S8192x2048 .bf16)
    (r c : Fin 2048) : refv X Y (ix2 r c) = silu (∑ k : Fin 8192, X (ix2 r k) * Y (ix2 k c)) := by
  have hz : (Host.dotGeneral Cert.ReferenceIdeal.dot_S2048x8192_S8192x2048_S2048x2048_1_0_0_1_n_n none
      (extf .f32 X Cert.ReferenceIdeal.Gen.bitsLt_bf16_f32) (extf .f32 Y Cert.ReferenceIdeal.Gen.bitsLt_bf16_f32) :
      FVec Ideal Cert.ReferenceIdeal.S2048x2048 .f32) (ix2 r c) = (∑ k : Fin 8192, X (ix2 r k) * Y (ix2 k c) : EReal) := by
    rw [← matmul_zero_eq_dotGeneral]
    refine (Ideal.matmul_plain_apply (M := 2048) (K := 8192) (N := 2048) (φ₁ := .f32) (φ₂ := .f32) none _ _ _ r c).trans ?_
    rw [constant_apply, Ideal.ofBits_zero_f32]; exact zero_add _
  exact (refSilu_apply _ _).trans (congrArg silu hz)

/-- Over the extended reals the kernel's result on every device is the reference's. -/
theorem algebraic : Cert.algebraic_KernelIdeal_ReferenceIdeal := fun m g m' g' _ hin => by
  refine ⟨refv (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)),
    (θ_run defs _ _).mono (fun r h c => ⟨(h c).1.trans ?_, (h c).2⟩) (run_value (F := Ideal) m g),
    (θ_run Cert.ReferenceIdeal.defs _ _).mono (fun r h => h 0) (Cert.ReferenceIdeal.Value.run (F := Ideal) m' g')⟩
  funext i
  obtain ⟨r, c', rfl⟩ : ∃ r c' : Fin 2048, i = ix2 r c' := ⟨i 0, i 1, eq_ix2 i⟩
  refine (outv_apply (lhs m) (rhs m) r c').trans (Eq.trans ?_ (refv_apply _ _ r c').symm)
  exact congrArg silu (sum_parts (lhs m) (rhs m) _ _ (fun d => (lhs_eq m d).trans (hin d).1) (fun d => (rhs_eq m d).trans (hin d).2) _ _)

end Cert.KernelIdeal.Ring
-- ==== Proof.lean ====
/- The certificate: the frames of the three programs, that the ideal program is the kernel, and that over the
   extended reals the kernel computes the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

open Cert.KernelIdeal.Ring

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
